-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_served_KernelIdeal [hPre_served_KernelIdeal : Cert.Pre_served_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_served_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_served_ReferenceIdeal [hPre_served_ReferenceIdeal : Cert.Pre_served_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_served_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_served_KernelIdeal [hKernelIdeal : Cert.KernelIdeal.Facts] [hPre_served_KernelIdeal : Cert.Pre_served_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_served_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_served_ReferenceIdeal [hReferenceIdeal : Cert.ReferenceIdeal.Facts] [hPre_served_ReferenceIdeal : Cert.Pre_served_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_served_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_served_KernelIdeal [hKernelIdeal : Cert.KernelIdeal.Facts] [hReferenceIdeal : Cert.ReferenceIdeal.Facts] [hPre_served_KernelIdeal : Cert.Pre_served_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_served_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 512, 1024]⟩ ⟨3, ![64, 512, 1024]⟩ 0 16 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![64, 1024]⟩ ⟨2, ![1024, 1024]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v45) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_served_KernelIdeal : Cert.Pre_served_KernelIdeal.Facts) (hPre_served_ReferenceIdeal : Cert.Pre_served_ReferenceIdeal.Facts),
    quiescent_Kernel (hKernel := hKernel)
    ∧ quiescent_KernelIdeal (hKernelIdeal := hKernelIdeal)
    ∧ quiescent_KernelIdeal_pre_served_KernelIdeal (hKernelIdeal := hKernelIdeal) (hPre_served_KernelIdeal := hPre_served_KernelIdeal)
    ∧ quiescent_ReferenceIdeal (hReferenceIdeal := hReferenceIdeal)
    ∧ quiescent_ReferenceIdeal_pre_served_ReferenceIdeal (hReferenceIdeal := hReferenceIdeal) (hPre_served_ReferenceIdeal := hPre_served_ReferenceIdeal)
    ∧ preserves_Kernel_KernelIdeal
    ∧ algebraic_KernelIdeal_ReferenceIdeal_pre_served_KernelIdeal (hKernelIdeal := hKernelIdeal) (hReferenceIdeal := hReferenceIdeal) (hPre_served_KernelIdeal := hPre_served_KernelIdeal)
-- ==== Pre_served_KernelIdeal.lean ====
abbrev S1024x512 : Shape := ⟨2, ![1024, 512]⟩
abbrev S512x64 : Shape := ⟨2, ![512, 64]⟩
abbrev S1024x2 : Shape := ⟨2, ![1024, 2]⟩
abbrev S4x512x1024 : Shape := ⟨3, ![4, 512, 1024]⟩
abbrev S_ : Shape := ⟨0, ![]⟩
abbrev S1024x1 : Shape := ⟨2, ![1024, 1]⟩
abbrev S1024x16 : Shape := ⟨2, ![1024, 16]⟩
abbrev S16x64x16 : Shape := ⟨3, ![16, 64, 16]⟩
abbrev S16x16 : Shape := ⟨2, ![16, 16]⟩

class Facts : Prop where
  bitsLt_bf16_f32 : FTy.bits .bf16 < FTy.bits .f32
  bcast_S_S1024x512 : S_.BroadcastsInDim S1024x512 (![] : Fin 0 → Fin S1024x512.rank)
  reducesTo_S1024x512_S_d0_1 : S1024x512.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  slices_S1024x2_S1024x1_0_0 : S1024x2.Slices ![0, 0] S1024x1
  slices_S1024x2_S1024x1_0_1 : S1024x2.Slices ![0, 1] S1024x1
  bcast_S_S1024x2 : S_.BroadcastsInDim S1024x2 (![] : Fin 0 → Fin S1024x2.rank)
  reducesTo_S1024x2_S_d0_1 : S1024x2.ReducesTo [0, 1] S_
  reducesTo_S1024x1_S_d0_1 : S1024x1.ReducesTo [0, 1] S_
  bcast_S_S1024x16 : S_.BroadcastsInDim S1024x16 (![] : Fin 0 → Fin S1024x16.rank)
  bcast_S1024x1_S1024x16_0_1 : S1024x1.BroadcastsInDim S1024x16 (![0, 1] : Fin 2 → Fin S1024x16.rank)
  shapeCasts_S1024x16_S16x64x16 : S1024x16.ShapeCasts S16x64x16
  reducesTo_S16x64x16_S16x16_d1 : S16x64x16.ReducesTo [1] S16x16
  bcast_S_S16x16 : S_.BroadcastsInDim S16x16 (![] : Fin 0 → Fin S16x16.rank)
  reducesTo_S16x16_S_d0_1 : S16x16.ReducesTo [0, 1] S_

variable [Facts]

def fn_part2 {F : FTy → Type} [FloatOps F] (main_v10 : IVec S_ 1) (main_v18 : IVec S_ 1) (main_v20 : IVec S_ 1) (main_v30 : IVec S1024x16 1) (main_v32 : IVec S1024x16 1) (main_v36 : IVec S1024x16 1) : IVec S_ 1 :=
  let main_v37 : IVec S1024x16 1 := andi main_v32 main_v36
  let main_v38 : IVec S1024x16 1 := ori main_v30 main_v37
  let main_v39 : FVec F S1024x16 .f32 := uitofp .f32 main_v38
  let main_v40 : FVec F S16x64x16 .f32 := shapeCast S16x64x16 main_v39 shapeCasts_S1024x16_S16x64x16
  let main_cst_9 : FVec F S_ .f32 := constant S_ .f32 0x00000000#32
  let main_v41 : FVec F S16x16 .f32 := (fun x v => Host.reduceAdd x v reducesTo_S16x64x16_S16x16_d1 h_S_) main_v40 main_cst_9
  let main_v42 : IVec S16x16 32 := iotaInDim S16x16 32 0
  let main_v43 : IVec S16x16 32 := iotaInDim S16x16 32 1
  let main_v44 : IVec S16x16 1 := cmpi .eq main_v42 main_v43
  let main_cst_10 : FVec F S_ .f32 := constant S_ .f32 0x41C00000#32
  let main_v45 : FVec F S16x16 .f32 := broadcastInDim S16x16 ![] bcast_S_S16x16 main_cst_10
  let main_v46 : IVec S16x16 1 := cmpf .ole main_v41 main_v45
  let main_v47 : IVec S16x16 1 := ori main_v46 main_v44
  let main_c_11 : IVec S_ 1 := constantI S_ 1 1#1
  let main_v48 : IVec S_ 1 := (fun x v => Host.reduce IntOp.andi x v reducesTo_S16x16_S_d0_1 h_S_) main_v47 main_c_11
  let main_v49 : IVec S_ 1 := andi main_v10 main_v18
  let main_v50 : IVec S_ 1 := andi main_v49 main_v20
  let main_v51 : IVec S_ 1 := andi main_v50 main_v48
  main_v51

def fn_part1 {F : FTy → Type} [FloatOps F] (main_v10 : IVec S_ 1) (main_v11 : IVec S1024x1 32) (main_v12 : IVec S1024x1 32) (main_v17 : IVec S1024x2 1) : IVec S_ 1 :=
  let main_c_4 : IVec S_ 1 := constantI S_ 1 1#1
  let main_v18 : IVec S_ 1 := (fun x v => Host.reduce IntOp.andi x v reducesTo_S1024x2_S_d0_1 h_S_) main_v17 main_c_4
  let main_v19 : IVec S1024x1 1 := cmpi .ne main_v11 main_v12
  let main_c_5 : IVec S_ 1 := constantI S_ 1 1#1
  let main_v20 : IVec S_ 1 := (fun x v => Host.reduce IntOp.andi x v reducesTo_S1024x1_S_d0_1 h_S_) main_v19 main_c_5
  let main_v21 : IVec S1024x16 32 := iotaInDim S1024x16 32 1
  let main_c_6 : IVec S_ 32 := constantI S_ 32 4#32
  let main_v22 : IVec S1024x16 32 := broadcastInDim S1024x16 ![] bcast_S_S1024x16 main_c_6
  let main_v23 : IVec S1024x16 32 := muli main_v21 main_v22
  let main_v24 : IVec S1024x16 32 := broadcastInDim S1024x16 ![0, 1] bcast_S1024x1_S1024x16_0_1 main_v11
  let main_v25 : IVec S1024x16 1 := cmpi .sge main_v24 main_v23
  let main_c_7 : IVec S_ 32 := constantI S_ 32 4#32
  let main_v26 : IVec S1024x16 32 := broadcastInDim S1024x16 ![] bcast_S_S1024x16 main_c_7
  let main_v27 : IVec S1024x16 32 := addi main_v23 main_v26
  let main_v28 : IVec S1024x16 32 := broadcastInDim S1024x16 ![0, 1] bcast_S1024x1_S1024x16_0_1 main_v11
  let main_v29 : IVec S1024x16 1 := cmpi .slt main_v28 main_v27
  let main_v30 : IVec S1024x16 1 := andi main_v25 main_v29
  let main_v31 : IVec S1024x16 32 := broadcastInDim S1024x16 ![0, 1] bcast_S1024x1_S1024x16_0_1 main_v12
  let main_v32 : IVec S1024x16 1 := cmpi .sge main_v31 main_v23
  let main_c_8 : IVec S_ 32 := constantI S_ 32 4#32
  let main_v33 : IVec S1024x16 32 := broadcastInDim S1024x16 ![] bcast_S_S1024x16 main_c_8
  let main_v34 : IVec S1024x16 32 := addi main_v23 main_v33
  let main_v35 : IVec S1024x16 32 := broadcastInDim S1024x16 ![0, 1] bcast_S1024x1_S1024x16_0_1 main_v12
  let main_v36 : IVec S1024x16 1 := cmpi .slt main_v35 main_v34
  fn_part2 (F := F) main_v10 main_v18 main_v20 main_v30 main_v32 main_v36

def fn {F : FTy → Type} [FloatOps F] (main_arg0 : FVec F S1024x512 .bf16) (main_arg1 : FVec F S512x64 .bf16) (main_arg2 : IVec S1024x2 32) (main_arg3 : FVec F S4x512x1024 .bf16) : IVec S_ 1 :=
  let main_v0 : FVec F S1024x512 .f32 := (extf .f32 · bitsLt_bf16_f32) main_arg0
  let main_v1 : FVec F S1024x512 .f32 := Host.absf main_v0
  let main_cst : FVec F S_ .f32 := constant S_ .f32 0x7F800000#32
  let main_v2 : FVec F S1024x512 .f32 := broadcastInDim S1024x512 ![] bcast_S_S1024x512 main_cst
  let main_v3 : IVec S1024x512 1 := cmpf .olt main_v1 main_v2
  let main_c : IVec S_ 1 := constantI S_ 1 1#1
  let main_v4 : IVec S_ 1 := (fun x v => Host.reduce IntOp.andi x v reducesTo_S1024x512_S_d0_1 h_S_) main_v3 main_c
  let main_v5 : FVec F S512x64 .f32 := (extf .f32 · bitsLt_bf16_f32) main_arg1
  let main_v6 : FVec F S512x64 .f32 := Host.absf main_v5
  let main_cst_0 : FVec F S_ .f32 := constant S_ .f32 0x7F800000#32
  let main_v7 : FVec F S512x64 .f32 := broadcastInDim S512x64 ![] bcast_S_S512x64 main_cst_0
  let main_v8 : IVec S512x64 1 := cmpf .olt main_v6 main_v7
  let main_c_1 : IVec S_ 1 := constantI S_ 1 1#1
  let main_v9 : IVec S_ 1 := (fun x v => Host.reduce IntOp.andi x v reducesTo_S512x64_S_d0_1 h_S_) main_v8 main_c_1
  let main_v10 : IVec S_ 1 := andi main_v4 main_v9
  let main_v11 : IVec S1024x1 32 := (extractStridedSlice S1024x1 ![0, 0] · slices_S1024x2_S1024x1_0_0) main_arg2
  let main_v12 : IVec S1024x1 32 := (extractStridedSlice S1024x1 ![0, 1] · slices_S1024x2_S1024x1_0_1) main_arg2
  let main_c_2 : IVec S_ 32 := constantI S_ 32 0#32
  let main_v13 : IVec S1024x2 32 := broadcastInDim S1024x2 ![] bcast_S_S1024x2 main_c_2
  let main_v14 : IVec S1024x2 1 := cmpi .sge main_arg2 main_v13
  let main_c_3 : IVec S_ 32 := constantI S_ 32 64#32
  let main_v15 : IVec S1024x2 32 := broadcastInDim S1024x2 ![] bcast_S_S1024x2 main_c_3
  let main_v16 : IVec S1024x2 1 := cmpi .slt main_arg2 main_v15
  let main_v17 : IVec S1024x2 1 := andi main_v14 main_v16
  fn_part1 (F := F) main_v10 main_v11 main_v12 main_v17
-- ==== Pre_served_ReferenceIdeal.lean ====
abbrev S1024x512 : Shape := ⟨2, ![1024, 512]⟩
abbrev S512x64 : Shape := ⟨2, ![512, 64]⟩
abbrev S1024x2 : Shape := ⟨2, ![1024, 2]⟩
abbrev S64x512x1024 : Shape := ⟨3, ![64, 512, 1024]⟩
abbrev S_ : Shape := ⟨0, ![]⟩
abbrev S1024x1 : Shape := ⟨2, ![1024, 1]⟩
abbrev S1024x16 : Shape := ⟨2, ![1024, 16]⟩
abbrev S16x64x16 : Shape := ⟨3, ![16, 64, 16]⟩
abbrev S16x16 : Shape := ⟨2, ![16, 16]⟩

class Facts : Prop where
  bitsLt_bf16_f32 : FTy.bits .bf16 < FTy.bits .f32
  bcast_S_S1024x512 : S_.BroadcastsInDim S1024x512 (![] : Fin 0 → Fin S1024x512.rank)
  reducesTo_S1024x512_S_d0_1 : S1024x512.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  slices_S1024x2_S1024x1_0_0 : S1024x2.Slices ![0, 0] S1024x1
  slices_S1024x2_S1024x1_0_1 : S1024x2.Slices ![0, 1] S1024x1
  bcast_S_S1024x2 : S_.BroadcastsInDim S1024x2 (![] : Fin 0 → Fin S1024x2.rank)
  reducesTo_S1024x2_S_d0_1 : S1024x2.ReducesTo [0, 1] S_
  reducesTo_S1024x1_S_d0_1 : S1024x1.ReducesTo [0, 1] S_
  bcast_S_S1024x16 : S_.BroadcastsInDim S1024x16 (![] : Fin 0 → Fin S1024x16.rank)
  bcast_S1024x1_S1024x16_0_1 : S1024x1.BroadcastsInDim S1024x16 (![0, 1] : Fin 2 → Fin S1024x16.rank)
  shapeCasts_S1024x16_S16x64x16 : S1024x16.ShapeCasts S16x64x16
  reducesTo_S16x64x16_S16x16_d1 : S16x64x16.ReducesTo [1] S16x16
  bcast_S_S16x16 : S_.BroadcastsInDim S16x16 (![] : Fin 0 → Fin S16x16.rank)
  reducesTo_S16x16_S_d0_1 : S16x16.ReducesTo [0, 1] S_

variable [Facts]

def fn_part2 {F : FTy → Type} [FloatOps F] (main_v10 : IVec S_ 1) (main_v18 : IVec S_ 1) (main_v20 : IVec S_ 1) (main_v30 : IVec S1024x16 1) (main_v32 : IVec S1024x16 1) (main_v36 : IVec S1024x16 1) : IVec S_ 1 :=
  let main_v37 : IVec S1024x16 1 := andi main_v32 main_v36
  let main_v38 : IVec S1024x16 1 := ori main_v30 main_v37
  let main_v39 : FVec F S1024x16 .f32 := uitofp .f32 main_v38
  let main_v40 : FVec F S16x64x16 .f32 := shapeCast S16x64x16 main_v39 shapeCasts_S1024x16_S16x64x16
  let main_cst_9 : FVec F S_ .f32 := constant S_ .f32 0x00000000#32
  let main_v41 : FVec F S16x16 .f32 := (fun x v => Host.reduceAdd x v reducesTo_S16x64x16_S16x16_d1 h_S_) main_v40 main_cst_9
  let main_v42 : IVec S16x16 32 := iotaInDim S16x16 32 0
  let main_v43 : IVec S16x16 32 := iotaInDim S16x16 32 1
  let main_v44 : IVec S16x16 1 := cmpi .eq main_v42 main_v43
  let main_cst_10 : FVec F S_ .f32 := constant S_ .f32 0x41C00000#32
  let main_v45 : FVec F S16x16 .f32 := broadcastInDim S16x16 ![] bcast_S_S16x16 main_cst_10
  let main_v46 : IVec S16x16 1 := cmpf .ole main_v41 main_v45
  let main_v47 : IVec S16x16 1 := ori main_v46 main_v44
  let main_c_11 : IVec S_ 1 := constantI S_ 1 1#1
  let main_v48 : IVec S_ 1 := (fun x v => Host.reduce IntOp.andi x v reducesTo_S16x16_S_d0_1 h_S_) main_v47 main_c_11
  let main_v49 : IVec S_ 1 := andi main_v10 main_v18
  let main_v50 : IVec S_ 1 := andi main_v49 main_v20
  let main_v51 : IVec S_ 1 := andi main_v50 main_v48
  main_v51

def fn_part1 {F : FTy → Type} [FloatOps F] (main_v10 : IVec S_ 1) (main_v11 : IVec S1024x1 32) (main_v12 : IVec S1024x1 32) (main_v17 : IVec S1024x2 1) : IVec S_ 1 :=
  let main_c_4 : IVec S_ 1 := constantI S_ 1 1#1
  let main_v18 : IVec S_ 1 := (fun x v => Host.reduce IntOp.andi x v reducesTo_S1024x2_S_d0_1 h_S_) main_v17 main_c_4
  let main_v19 : IVec S1024x1 1 := cmpi .ne main_v11 main_v12
  let main_c_5 : IVec S_ 1 := constantI S_ 1 1#1
  let main_v20 : IVec S_ 1 := (fun x v => Host.reduce IntOp.andi x v reducesTo_S1024x1_S_d0_1 h_S_) main_v19 main_c_5
  let main_v21 : IVec S1024x16 32 := iotaInDim S1024x16 32 1
  let main_c_6 : IVec S_ 32 := constantI S_ 32 4#32
  let main_v22 : IVec S1024x16 32 := broadcastInDim S1024x16 ![] bcast_S_S1024x16 main_c_6
  let main_v23 : IVec S1024x16 32 := muli main_v21 main_v22
  let main_v24 : IVec S1024x16 32 := broadcastInDim S1024x16 ![0, 1] bcast_S1024x1_S1024x16_0_1 main_v11
  let main_v25 : IVec S1024x16 1 := cmpi .sge main_v24 main_v23
  let main_c_7 : IVec S_ 32 := constantI S_ 32 4#32
  let main_v26 : IVec S1024x16 32 := broadcastInDim S1024x16 ![] bcast_S_S1024x16 main_c_7
  let main_v27 : IVec S1024x16 32 := addi main_v23 main_v26
  let main_v28 : IVec S1024x16 32 := broadcastInDim S1024x16 ![0, 1] bcast_S1024x1_S1024x16_0_1 main_v11
  let main_v29 : IVec S1024x16 1 := cmpi .slt main_v28 main_v27
  let main_v30 : IVec S1024x16 1 := andi main_v25 main_v29
  let main_v31 : IVec S1024x16 32 := broadcastInDim S1024x16 ![0, 1] bcast_S1024x1_S1024x16_0_1 main_v12
  let main_v32 : IVec S1024x16 1 := cmpi .sge main_v31 main_v23
  let main_c_8 : IVec S_ 32 := constantI S_ 32 4#32
  let main_v33 : IVec S1024x16 32 := broadcastInDim S1024x16 ![] bcast_S_S1024x16 main_c_8
  let main_v34 : IVec S1024x16 32 := addi main_v23 main_v33
  let main_v35 : IVec S1024x16 32 := broadcastInDim S1024x16 ![0, 1] bcast_S1024x1_S1024x16_0_1 main_v12
  let main_v36 : IVec S1024x16 1 := cmpi .slt main_v35 main_v34
  fn_part2 (F := F) main_v10 main_v18 main_v20 main_v30 main_v32 main_v36

def fn {F : FTy → Type} [FloatOps F] (main_arg0 : FVec F S1024x512 .bf16) (main_arg1 : FVec F S512x64 .bf16) (main_arg2 : IVec S1024x2 32) (main_arg3 : FVec F S64x512x1024 .bf16) : IVec S_ 1 :=
  let main_v0 : FVec F S1024x512 .f32 := (extf .f32 · bitsLt_bf16_f32) main_arg0
  let main_v1 : FVec F S1024x512 .f32 := Host.absf main_v0
  let main_cst : FVec F S_ .f32 := constant S_ .f32 0x7F800000#32
  let main_v2 : FVec F S1024x512 .f32 := broadcastInDim S1024x512 ![] bcast_S_S1024x512 main_cst
  let main_v3 : IVec S1024x512 1 := cmpf .olt main_v1 main_v2
  let main_c : IVec S_ 1 := constantI S_ 1 1#1
  let main_v4 : IVec S_ 1 := (fun x v => Host.reduce IntOp.andi x v reducesTo_S1024x512_S_d0_1 h_S_) main_v3 main_c
  let main_v5 : FVec F S512x64 .f32 := (extf .f32 · bitsLt_bf16_f32) main_arg1
  let main_v6 : FVec F S512x64 .f32 := Host.absf main_v5
  let main_cst_0 : FVec F S_ .f32 := constant S_ .f32 0x7F800000#32
  let main_v7 : FVec F S512x64 .f32 := broadcastInDim S512x64 ![] bcast_S_S512x64 main_cst_0
  let main_v8 : IVec S512x64 1 := cmpf .olt main_v6 main_v7
  let main_c_1 : IVec S_ 1 := constantI S_ 1 1#1
  let main_v9 : IVec S_ 1 := (fun x v => Host.reduce IntOp.andi x v reducesTo_S512x64_S_d0_1 h_S_) main_v8 main_c_1
  let main_v10 : IVec S_ 1 := andi main_v4 main_v9
  let main_v11 : IVec S1024x1 32 := (extractStridedSlice S1024x1 ![0, 0] · slices_S1024x2_S1024x1_0_0) main_arg2
  let main_v12 : IVec S1024x1 32 := (extractStridedSlice S1024x1 ![0, 1] · slices_S1024x2_S1024x1_0_1) main_arg2
  let main_c_2 : IVec S_ 32 := constantI S_ 32 0#32
  let main_v13 : IVec S1024x2 32 := broadcastInDim S1024x2 ![] bcast_S_S1024x2 main_c_2
  let main_v14 : IVec S1024x2 1 := cmpi .sge main_arg2 main_v13
  let main_c_3 : IVec S_ 32 := constantI S_ 32 64#32
  let main_v15 : IVec S1024x2 32 := broadcastInDim S1024x2 ![] bcast_S_S1024x2 main_c_3
  let main_v16 : IVec S1024x2 1 := cmpi .slt main_arg2 main_v15
  let main_v17 : IVec S1024x2 1 := andi main_v14 main_v16
  fn_part1 (F := F) main_v10 main_v11 main_v12 main_v17
-- ==== Kernel.lean ====
abbrev S1024x512 : Shape := ⟨2, ![1024, 512]⟩
abbrev S512x64 : Shape := ⟨2, ![512, 64]⟩
abbrev S1024x2 : Shape := ⟨2, ![1024, 2]⟩
abbrev S4x512x1024 : Shape := ⟨3, ![4, 512, 1024]⟩
abbrev S64x1024 : Shape := ⟨2, ![64, 1024]⟩
abbrev S1344x512 : Shape := ⟨2, ![1344, 512]⟩
abbrev S1344x4 : Shape := ⟨2, ![1344, 4]⟩
abbrev S1344x1 : Shape := ⟨2, ![1344, 1]⟩
abbrev S480x1024 : Shape := ⟨2, ![480, 1024]⟩
abbrev S16 : Shape := ⟨1, ![16]⟩
abbrev S_ : Shape := ⟨0, ![]⟩
abbrev S320x512 : Shape := ⟨2, ![320, 512]⟩
abbrev S1024x64 : Shape := ⟨2, ![1024, 64]⟩
abbrev S1024 : Shape := ⟨1, ![1024]⟩
abbrev S1024x1 : Shape := ⟨2, ![1024, 1]⟩
abbrev S320x1 : Shape := ⟨2, ![320, 1]⟩
abbrev S1x512x1024 : Shape := ⟨3, ![1, 512, 1024]⟩
abbrev S512x1024 : Shape := ⟨2, ![512, 1024]⟩
abbrev S128x512 : Shape := ⟨2, ![128, 512]⟩
abbrev S128x4 : Shape := ⟨2, ![128, 4]⟩
abbrev S128x1024 : Shape := ⟨2, ![128, 1024]⟩
abbrev S128x1 : Shape := ⟨2, ![128, 1]⟩
abbrev S128x128 : Shape := ⟨2, ![128, 128]⟩
abbrev S128x64 : Shape := ⟨2, ![128, 64]⟩
abbrev S24x1024 : Shape := ⟨2, ![24, 1024]⟩
abbrev S1 : Shape := ⟨1, ![1]⟩
abbrev S256x512 : Shape := ⟨2, ![256, 512]⟩
abbrev S256x4 : Shape := ⟨2, ![256, 4]⟩
abbrev S256x1024 : Shape := ⟨2, ![256, 1024]⟩
abbrev S256x1 : Shape := ⟨2, ![256, 1]⟩
abbrev S256x256 : Shape := ⟨2, ![256, 256]⟩
abbrev S256x128 : Shape := ⟨2, ![256, 128]⟩
abbrev S384x512 : Shape := ⟨2, ![384, 512]⟩
abbrev S384x4 : Shape := ⟨2, ![384, 4]⟩
abbrev S384x1024 : Shape := ⟨2, ![384, 1024]⟩
abbrev S384x1 : Shape := ⟨2, ![384, 1]⟩
abbrev S384x384 : Shape := ⟨2, ![384, 384]⟩
abbrev S320x160 : Shape := ⟨2, ![320, 160]⟩
abbrev S320x1024 : Shape := ⟨2, ![320, 1024]⟩
abbrev S160x1024 : Shape := ⟨2, ![160, 1024]⟩
abbrev S64x1 : Shape := ⟨2, ![64, 1]⟩
abbrev S1x15 : Shape := ⟨2, ![1, 15]⟩
abbrev S64x15 : Shape := ⟨2, ![64, 15]⟩
abbrev S64x64 : Shape := ⟨2, ![64, 64]⟩
abbrev S15x480 : Shape := ⟨2, ![15, 480]⟩
abbrev S64x480 : Shape := ⟨2, ![64, 480]⟩
abbrev S8x1024 : Shape := ⟨2, ![8, 1024]⟩

abbrev nBuf : Space → Nat
  | .hbm => 5
  | .vmem => 11
  | .smem => 0
  | _ => 0

abbrev bufTy : (tb : Table) → Fin (tcTables nBuf tb) → BufTy
  | .hbm, ⟨0, _⟩ => ⟨S1024x512, .bf16⟩
  | .hbm, ⟨1, _⟩ => ⟨S512x64, .bf16⟩
  | .hbm, ⟨2, _⟩ => ⟨S1024x2, .i32⟩
  | .hbm, ⟨3, _⟩ => ⟨S4x512x1024, .bf16⟩
  | .hbm, ⟨4, _⟩ => ⟨S64x1024, .f32⟩
  | .local _ .vmem, ⟨0, _⟩ => ⟨S1024x512, .bf16⟩
  | .local _ .vmem, ⟨1, _⟩ => ⟨S512x64, .bf16⟩
  | .local _ .vmem, ⟨2, _⟩ => ⟨S1024x2, .i32⟩
  | .local _ .vmem, ⟨3, _⟩ => ⟨S4x512x1024, .bf16⟩
  | .local _ .vmem, ⟨4, _⟩ => ⟨S64x1024, .f32⟩
  | .local _ .vmem, ⟨5, _⟩ => ⟨S1344x512, .bf16⟩
  | .local _ .vmem, ⟨6, _⟩ => ⟨S1344x4, .bf16⟩
  | .local _ .vmem, ⟨7, _⟩ => ⟨S4x512x1024, .bf16⟩
  | .local _ .vmem, ⟨8, _⟩ => ⟨S1344x1, .f32⟩
  | .local _ .vmem, ⟨9, _⟩ => ⟨S480x1024, .bf16⟩
  | .local _ .vmem, ⟨10, _⟩ => ⟨S480x1024, .bf16⟩
  | _, _ => ⟨S1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 1 37 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let c0_i32 : BitVec 32 := 0#32
  let v5 : BitVec 1 := Scalar.cmpi .eq c16_i32_1 c0_i32
  let c1_i32_2 : BitVec 32 := 1#32
  let v6 : BitVec 32 := Scalar.select v5 c1_i32_2 c16_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v17 : BitVec 32 := Scalar.addi v2 c2_i32
  let c16_i32_9 : BitVec 32 := 16#32
  let c0_i32_10 : BitVec 32 := 0#32
  let v18 : BitVec 1 := Scalar.cmpi .eq c16_i32_9 c0_i32_10
  let c1_i32_11 : BitVec 32 := 1#32
  let v19 : BitVec 32 := Scalar.select v18 c1_i32_11 c16_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v30 : BitVec 32 := Scalar.addi v2 c3_i32
  let c16_i32_18 : BitVec 32 := 16#32
  let c0_i32_19 : BitVec 32 := 0#32
  let v31 : BitVec 1 := Scalar.cmpi .eq c16_i32_18 c0_i32_19
  let c1_i32_20 : BitVec 32 := 1#32
  let v32 : BitVec 32 := Scalar.select v31 c1_i32_20 c16_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v43 : BitVec 32 := Scalar.addi v2 c4_i32
  let c16_i32_27 : BitVec 32 := 16#32
  let c0_i32_28 : BitVec 32 := 0#32
  let v44 : BitVec 1 := Scalar.cmpi .eq c16_i32_27 c0_i32_28
  let c1_i32_29 : BitVec 32 := 1#32
  let v45 : BitVec 32 := Scalar.select v44 c1_i32_29 c16_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v56 : BitVec 32 := Scalar.addi v2 c5_i32
  let c16_i32_36 : BitVec 32 := 16#32
  let c0_i32_37 : BitVec 32 := 0#32
  let v57 : BitVec 1 := Scalar.cmpi .eq c16_i32_36 c0_i32_37
  let c1_i32_38 : BitVec 32 := 1#32
  let v58 : BitVec 32 := Scalar.select v57 c1_i32_38 c16_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v69 : BitVec 32 := Scalar.addi v2 c6_i32
  let c16_i32_45 : BitVec 32 := 16#32
  let c0_i32_46 : BitVec 32 := 0#32
  let v70 : BitVec 1 := Scalar.cmpi .eq c16_i32_45 c0_i32_46
  let c1_i32_47 : BitVec 32 := 1#32
  let v71 : BitVec 32 := Scalar.select v70 c1_i32_47 c16_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v82 : BitVec 32 := Scalar.addi v2 c7_i32
  let c16_i32_54 : BitVec 32 := 16#32
  let c0_i32_55 : BitVec 32 := 0#32
  let v83 : BitVec 1 := Scalar.cmpi .eq c16_i32_54 c0_i32_55
  let c1_i32_56 : BitVec 32 := 1#32
  let v84 : BitVec 32 := Scalar.select v83 c1_i32_56 c16_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v95 : BitVec 32 := Scalar.addi v2 c8_i32
  let c16_i32_63 : BitVec 32 := 16#32
  let c0_i32_64 : BitVec 32 := 0#32
  let v96 : BitVec 1 := Scalar.cmpi .eq c16_i32_63 c0_i32_64
  let c1_i32_65 : BitVec 32 := 1#32
  let v97 : BitVec 32 := Scalar.select v96 c1_i32_65 c16_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v108 : BitVec 32 := Scalar.addi v2 c9_i32
  let c16_i32_72 : BitVec 32 := 16#32
  let c0_i32_73 : BitVec 32 := 0#32
  let v109 : BitVec 1 := Scalar.cmpi .eq c16_i32_72 c0_i32_73
  let c1_i32_74 : BitVec 32 := 1#32
  let v110 : BitVec 32 := Scalar.select v109 c1_i32_74 c16_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v121 : BitVec 32 := Scalar.addi v2 c10_i32
  let c16_i32_81 : BitVec 32 := 16#32
  let c0_i32_82 : BitVec 32 := 0#32
  let v122 : BitVec 1 := Scalar.cmpi .eq c16_i32_81 c0_i32_82
  let c1_i32_83 : BitVec 32 := 1#32
  let v123 : BitVec 32 := Scalar.select v122 c1_i32_83 c16_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v134 : BitVec 32 := Scalar.addi v2 c11_i32
  let c16_i32_90 : BitVec 32 := 16#32
  let c0_i32_91 : BitVec 32 := 0#32
  let v135 : BitVec 1 := Scalar.cmpi .eq c16_i32_90 c0_i32_91
  let c1_i32_92 : BitVec 32 := 1#32
  let v136 : BitVec 32 := Scalar.select v135 c1_i32_92 c16_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v147 : BitVec 32 := Scalar.addi v2 c12_i32
  let c16_i32_99 : BitVec 32 := 16#32
  let c0_i32_100 : BitVec 32 := 0#32
  let v148 : BitVec 1 := Scalar.cmpi .eq c16_i32_99 c0_i32_100
  let c1_i32_101 : BitVec 32 := 1#32
  let v149 : BitVec 32 := Scalar.select v148 c1_i32_101 c16_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v160 : BitVec 32 := Scalar.addi v2 c13_i32
  let c16_i32_108 : BitVec 32 := 16#32
  let c0_i32_109 : BitVec 32 := 0#32
  let v161 : BitVec 1 := Scalar.cmpi .eq c16_i32_108 c0_i32_109
  let c1_i32_110 : BitVec 32 := 1#32
  let v162 : BitVec 32 := Scalar.select v161 c1_i32_110 c16_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v173 : BitVec 32 := Scalar.addi v2 c14_i32
  let c16_i32_117 : BitVec 32 := 16#32
  let c0_i32_118 : BitVec 32 := 0#32
  let v174 : BitVec 1 := Scalar.cmpi .eq c16_i32_117 c0_i32_118
  let c1_i32_119 : BitVec 32 := 1#32
  let v175 : BitVec 32 := Scalar.select v174 c1_i32_119 c16_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v186 : BitVec 32 := Scalar.addi v2 c15_i32
  let c16_i32_126 : BitVec 32 := 16#32
  let c0_i32_127 : BitVec 32 := 0#32
  let v187 : BitVec 1 := Scalar.cmpi .eq c16_i32_126 c0_i32_127
  let c1_i32_128 : BitVec 32 := 1#32
  let v188 : BitVec 32 := Scalar.select v187 c1_i32_128 c16_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_226 : BitVec 32 := 1#32
  let v416 : BitVec 32 := Scalar.addi v2 c1_i32_226
  let c16_i32_227 : BitVec 32 := 16#32
  let c0_i32_228 : BitVec 32 := 0#32
  let v417 : BitVec 1 := Scalar.cmpi .eq c16_i32_227 c0_i32_228
  let c1_i32_229 : BitVec 32 := 1#32
  let v418 : BitVec 32 := Scalar.select v417 c1_i32_229 c16_i32_227
  let v419 : BitVec 32 := Scalar.remsi v416 v418
  let c0_i32_231 : BitVec 32 := 0#32
  let v421 : BitVec 1 := Scalar.cmpi .slt v419 c0_i32_231
  let c0_i32_232 : BitVec 32 := 0#32
  let v422 : BitVec 1 := Scalar.cmpi .slt v418 c0_i32_232
  let v423 : BitVec 1 := Scalar.xori v421 v422
  let c0_i32_230 : BitVec 32 := 0#32
  let v420 : BitVec 1 := Scalar.cmpi .ne v419 c0_i32_230
  let v424 : BitVec 1 := Scalar.andi v423 v420
  let v425 : BitVec 32 := Scalar.addi v419 v418
  let v426 : BitVec 32 := Scalar.select v424 v425 v419
  let c64_i32 : BitVec 32 := 64#32
  let v427 : BitVec 32 := Scalar.muli v426 c64_i32
  let v428 : Index := Scalar.indexCast v427
  let c0_233 : Index := 0#32
  ![v428.toNat, 0]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_226 : BitVec 32 := 1#32
  let v416 : BitVec 32 := Scalar.addi v2 c1_i32_226
  let c16_i32_227 : BitVec 32 := 16#32
  let c0_i32_228 : BitVec 32 := 0#32
  let v417 : BitVec 1 := Scalar.cmpi .eq c16_i32_227 c0_i32_228
  let c1_i32_229 : BitVec 32 := 1#32
  let v418 : BitVec 32 := Scalar.select v417 c1_i32_229 c16_i32_227
  let v419 : BitVec 32 := Scalar.remsi v416 v418
  let c0_i32_231 : BitVec 32 := 0#32
  let v421 : BitVec 1 := Scalar.cmpi .slt v419 c0_i32_231
  let c0_i32_232 : BitVec 32 := 0#32
  let v422 : BitVec 1 := Scalar.cmpi .slt v418 c0_i32_232
  let v423 : BitVec 1 := Scalar.xori v421 v422
  let c0_i32_230 : BitVec 32 := 0#32
  let v420 : BitVec 1 := Scalar.cmpi .ne v419 c0_i32_230
  let v424 : BitVec 1 := Scalar.andi v423 v420
  let v425 : BitVec 32 := Scalar.addi v419 v418
  let v426 : BitVec 32 := Scalar.select v424 v425 v419
  let c64_i32 : BitVec 32 := 64#32
  let v427 : BitVec 32 := Scalar.muli v426 c64_i32
  let v430 : Index := Scalar.indexCast v427
  let c0_234 : Index := 0#32
  ![v430.toNat, 0]
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_226 : BitVec 32 := 1#32
  let v416 : BitVec 32 := Scalar.addi v2 c1_i32_226
  let c16_i32_227 : BitVec 32 := 16#32
  let c0_i32_228 : BitVec 32 := 0#32
  let v417 : BitVec 1 := Scalar.cmpi .eq c16_i32_227 c0_i32_228
  let c1_i32_229 : BitVec 32 := 1#32
  let v418 : BitVec 32 := Scalar.select v417 c1_i32_229 c16_i32_227
  let v419 : BitVec 32 := Scalar.remsi v416 v418
  let c0_i32_231 : BitVec 32 := 0#32
  let v421 : BitVec 1 := Scalar.cmpi .slt v419 c0_i32_231
  let c0_i32_232 : BitVec 32 := 0#32
  let v422 : BitVec 1 := Scalar.cmpi .slt v418 c0_i32_232
  let v423 : BitVec 1 := Scalar.xori v421 v422
  let c0_i32_230 : BitVec 32 := 0#32
  let v420 : BitVec 1 := Scalar.cmpi .ne v419 c0_i32_230
  let v424 : BitVec 1 := Scalar.andi v423 v420
  let v425 : BitVec 32 := Scalar.addi v419 v418
  let v426 : BitVec 32 := Scalar.select v424 v425 v419
  let c64_i32 : BitVec 32 := 64#32
  let v427 : BitVec 32 := Scalar.muli v426 c64_i32
  let v518 : Index := Scalar.indexCast v427
  let c0_268 : Index := 0#32
  ![v518.toNat, 0]
def k0_dev16 (d0 : Dev nD) : Nat :=
  let c0_i32_305 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_295 : BitVec 32 := 1#32
  let v607 : BitVec 32 := Scalar.addi v2 c1_i32_295
  let c16_i32_296 : BitVec 32 := 16#32
  let c0_i32_297 : BitVec 32 := 0#32
  let v608 : BitVec 1 := Scalar.cmpi .eq c16_i32_296 c0_i32_297
  let c1_i32_298 : BitVec 32 := 1#32
  let v609 : BitVec 32 := Scalar.select v608 c1_i32_298 c16_i32_296
  let v610 : BitVec 32 := Scalar.remsi v607 v609
  let c0_i32_300 : BitVec 32 := 0#32
  let v612 : BitVec 1 := Scalar.cmpi .slt v610 c0_i32_300
  let c0_i32_301 : BitVec 32 := 0#32
  let v613 : BitVec 1 := Scalar.cmpi .slt v609 c0_i32_301
  let v614 : BitVec 1 := Scalar.xori v612 v613
  let c0_i32_299 : BitVec 32 := 0#32
  let v611 : BitVec 1 := Scalar.cmpi .ne v610 c0_i32_299
  let v615 : BitVec 1 := Scalar.andi v614 v611
  let v616 : BitVec 32 := Scalar.addi v610 v609
  let v617 : BitVec 32 := Scalar.select v615 v616 v610
  let c1_i32_304 : BitVec 32 := 1#32
  let v618 : BitVec 32 := Scalar.muli v617 c1_i32_304
  let v619 : BitVec 32 := Scalar.addi c0_i32_305 v618
  v619.toNat
def k0_dev17 (d0 : Dev nD) : Nat :=
  let c0_i32_321 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_311 : BitVec 32 := 2#32
  let v630 : BitVec 32 := Scalar.addi v2 c2_i32_311
  let c16_i32_312 : BitVec 32 := 16#32
  let c0_i32_313 : BitVec 32 := 0#32
  let v631 : BitVec 1 := Scalar.cmpi .eq c16_i32_312 c0_i32_313
  let c1_i32_314 : BitVec 32 := 1#32
  let v632 : BitVec 32 := Scalar.select v631 c1_i32_314 c16_i32_312
  let v633 : BitVec 32 := Scalar.remsi v630 v632
  let c0_i32_316 : BitVec 32 := 0#32
  let v635 : BitVec 1 := Scalar.cmpi .slt v633 c0_i32_316
  let c0_i32_317 : BitVec 32 := 0#32
  let v636 : BitVec 1 := Scalar.cmpi .slt v632 c0_i32_317
  let v637 : BitVec 1 := Scalar.xori v635 v636
  let c0_i32_315 : BitVec 32 := 0#32
  let v634 : BitVec 1 := Scalar.cmpi .ne v633 c0_i32_315
  let v638 : BitVec 1 := Scalar.andi v637 v634
  let v639 : BitVec 32 := Scalar.addi v633 v632
  let v640 : BitVec 32 := Scalar.select v638 v639 v633
  let c1_i32_320 : BitVec 32 := 1#32
  let v641 : BitVec 32 := Scalar.muli v640 c1_i32_320
  let v642 : BitVec 32 := Scalar.addi c0_i32_321 v641
  v642.toNat
def k0_off4 (d0 : Dev nD) (c3_i32_326 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v649 : BitVec 32 := Scalar.addi v2 c3_i32_326
  let c16_i32_327 : BitVec 32 := 16#32
  let c0_i32_328 : BitVec 32 := 0#32
  let v650 : BitVec 1 := Scalar.cmpi .eq c16_i32_327 c0_i32_328
  let c1_i32_329 : BitVec 32 := 1#32
  let v651 : BitVec 32 := Scalar.select v650 c1_i32_329 c16_i32_327
  let v652 : BitVec 32 := Scalar.remsi v649 v651
  let c0_i32_331 : BitVec 32 := 0#32
  let v654 : BitVec 1 := Scalar.cmpi .slt v652 c0_i32_331
  let c0_i32_332 : BitVec 32 := 0#32
  let v655 : BitVec 1 := Scalar.cmpi .slt v651 c0_i32_332
  let v656 : BitVec 1 := Scalar.xori v654 v655
  let c0_i32_330 : BitVec 32 := 0#32
  let v653 : BitVec 1 := Scalar.cmpi .ne v652 c0_i32_330
  let v657 : BitVec 1 := Scalar.andi v656 v653
  let v658 : BitVec 32 := Scalar.addi v652 v651
  let v659 : BitVec 32 := Scalar.select v657 v658 v652
  let c64_i32_333 : BitVec 32 := 64#32
  let v660 : BitVec 32 := Scalar.muli v659 c64_i32_333
  let v661 : Index := Scalar.indexCast v660
  let c0_334 : Index := 0#32
  ![v661.toNat, 0]
def k0_off5 (d0 : Dev nD) (c3_i32_326 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v649 : BitVec 32 := Scalar.addi v2 c3_i32_326
  let c16_i32_327 : BitVec 32 := 16#32
  let c0_i32_328 : BitVec 32 := 0#32
  let v650 : BitVec 1 := Scalar.cmpi .eq c16_i32_327 c0_i32_328
  let c1_i32_329 : BitVec 32 := 1#32
  let v651 : BitVec 32 := Scalar.select v650 c1_i32_329 c16_i32_327
  let v652 : BitVec 32 := Scalar.remsi v649 v651
  let c0_i32_331 : BitVec 32 := 0#32
  let v654 : BitVec 1 := Scalar.cmpi .slt v652 c0_i32_331
  let c0_i32_332 : BitVec 32 := 0#32
  let v655 : BitVec 1 := Scalar.cmpi .slt v651 c0_i32_332
  let v656 : BitVec 1 := Scalar.xori v654 v655
  let c0_i32_330 : BitVec 32 := 0#32
  let v653 : BitVec 1 := Scalar.cmpi .ne v652 c0_i32_330
  let v657 : BitVec 1 := Scalar.andi v656 v653
  let v658 : BitVec 32 := Scalar.addi v652 v651
  let v659 : BitVec 32 := Scalar.select v657 v658 v652
  let c64_i32_333 : BitVec 32 := 64#32
  let v660 : BitVec 32 := Scalar.muli v659 c64_i32_333
  let v663 : Index := Scalar.indexCast v660
  let c0_335 : Index := 0#32
  ![v663.toNat, 0]
def k0_off6 (d0 : Dev nD) (c3_i32_326 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v649 : BitVec 32 := Scalar.addi v2 c3_i32_326
  let c16_i32_327 : BitVec 32 := 16#32
  let c0_i32_328 : BitVec 32 := 0#32
  let v650 : BitVec 1 := Scalar.cmpi .eq c16_i32_327 c0_i32_328
  let c1_i32_329 : BitVec 32 := 1#32
  let v651 : BitVec 32 := Scalar.select v650 c1_i32_329 c16_i32_327
  let v652 : BitVec 32 := Scalar.remsi v649 v651
  let c0_i32_331 : BitVec 32 := 0#32
  let v654 : BitVec 1 := Scalar.cmpi .slt v652 c0_i32_331
  let c0_i32_332 : BitVec 32 := 0#32
  let v655 : BitVec 1 := Scalar.cmpi .slt v651 c0_i32_332
  let v656 : BitVec 1 := Scalar.xori v654 v655
  let c0_i32_330 : BitVec 32 := 0#32
  let v653 : BitVec 1 := Scalar.cmpi .ne v652 c0_i32_330
  let v657 : BitVec 1 := Scalar.andi v656 v653
  let v658 : BitVec 32 := Scalar.addi v652 v651
  let v659 : BitVec 32 := Scalar.select v657 v658 v652
  let c64_i32_333 : BitVec 32 := 64#32
  let v660 : BitVec 32 := Scalar.muli v659 c64_i32_333
  let v751 : Index := Scalar.indexCast v660
  let c0_369 : Index := 0#32
  ![v751.toNat, 0]
def k0_dev18 (d0 : Dev nD) : Nat :=
  let c0_i32_405 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_395 : BitVec 32 := 3#32
  let v840 : BitVec 32 := Scalar.addi v2 c3_i32_395
  let c16_i32_396 : BitVec 32 := 16#32
  let c0_i32_397 : BitVec 32 := 0#32
  let v841 : BitVec 1 := Scalar.cmpi .eq c16_i32_396 c0_i32_397
  let c1_i32_398 : BitVec 32 := 1#32
  let v842 : BitVec 32 := Scalar.select v841 c1_i32_398 c16_i32_396
  let v843 : BitVec 32 := Scalar.remsi v840 v842
  let c0_i32_400 : BitVec 32 := 0#32
  let v845 : BitVec 1 := Scalar.cmpi .slt v843 c0_i32_400
  let c0_i32_401 : BitVec 32 := 0#32
  let v846 : BitVec 1 := Scalar.cmpi .slt v842 c0_i32_401
  let v847 : BitVec 1 := Scalar.xori v845 v846
  let c0_i32_399 : BitVec 32 := 0#32
  let v844 : BitVec 1 := Scalar.cmpi .ne v843 c0_i32_399
  let v848 : BitVec 1 := Scalar.andi v847 v844
  let v849 : BitVec 32 := Scalar.addi v843 v842
  let v850 : BitVec 32 := Scalar.select v848 v849 v843
  let c1_i32_404 : BitVec 32 := 1#32
  let v851 : BitVec 32 := Scalar.muli v850 c1_i32_404
  let v852 : BitVec 32 := Scalar.addi c0_i32_405 v851
  v852.toNat
def k0_dev19 (d0 : Dev nD) : Nat :=
  let c0_i32_421 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_411 : BitVec 32 := 4#32
  let v863 : BitVec 32 := Scalar.addi v2 c4_i32_411
  let c16_i32_412 : BitVec 32 := 16#32
  let c0_i32_413 : BitVec 32 := 0#32
  let v864 : BitVec 1 := Scalar.cmpi .eq c16_i32_412 c0_i32_413
  let c1_i32_414 : BitVec 32 := 1#32
  let v865 : BitVec 32 := Scalar.select v864 c1_i32_414 c16_i32_412
  let v866 : BitVec 32 := Scalar.remsi v863 v865
  let c0_i32_416 : BitVec 32 := 0#32
  let v868 : BitVec 1 := Scalar.cmpi .slt v866 c0_i32_416
  let c0_i32_417 : BitVec 32 := 0#32
  let v869 : BitVec 1 := Scalar.cmpi .slt v865 c0_i32_417
  let v870 : BitVec 1 := Scalar.xori v868 v869
  let c0_i32_415 : BitVec 32 := 0#32
  let v867 : BitVec 1 := Scalar.cmpi .ne v866 c0_i32_415
  let v871 : BitVec 1 := Scalar.andi v870 v867
  let v872 : BitVec 32 := Scalar.addi v866 v865
  let v873 : BitVec 32 := Scalar.select v871 v872 v866
  let c1_i32_420 : BitVec 32 := 1#32
  let v874 : BitVec 32 := Scalar.muli v873 c1_i32_420
  let v875 : BitVec 32 := Scalar.addi c0_i32_421 v874
  v875.toNat
def k0_dev20 (d0 : Dev nD) : Nat :=
  let c0_i32_436 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_426 : BitVec 32 := 5#32
  let v886 : BitVec 32 := Scalar.addi v2 c5_i32_426
  let c16_i32_427 : BitVec 32 := 16#32
  let c0_i32_428 : BitVec 32 := 0#32
  let v887 : BitVec 1 := Scalar.cmpi .eq c16_i32_427 c0_i32_428
  let c1_i32_429 : BitVec 32 := 1#32
  let v888 : BitVec 32 := Scalar.select v887 c1_i32_429 c16_i32_427
  let v889 : BitVec 32 := Scalar.remsi v886 v888
  let c0_i32_431 : BitVec 32 := 0#32
  let v891 : BitVec 1 := Scalar.cmpi .slt v889 c0_i32_431
  let c0_i32_432 : BitVec 32 := 0#32
  let v892 : BitVec 1 := Scalar.cmpi .slt v888 c0_i32_432
  let v893 : BitVec 1 := Scalar.xori v891 v892
  let c0_i32_430 : BitVec 32 := 0#32
  let v890 : BitVec 1 := Scalar.cmpi .ne v889 c0_i32_430
  let v894 : BitVec 1 := Scalar.andi v893 v890
  let v895 : BitVec 32 := Scalar.addi v889 v888
  let v896 : BitVec 32 := Scalar.select v894 v895 v889
  let c1_i32_435 : BitVec 32 := 1#32
  let v897 : BitVec 32 := Scalar.muli v896 c1_i32_435
  let v898 : BitVec 32 := Scalar.addi c0_i32_436 v897
  v898.toNat
def k0_dev21 (d0 : Dev nD) : Nat :=
  let c0_i32_451 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_441 : BitVec 32 := 6#32
  let v909 : BitVec 32 := Scalar.addi v2 c6_i32_441
  let c16_i32_442 : BitVec 32 := 16#32
  let c0_i32_443 : BitVec 32 := 0#32
  let v910 : BitVec 1 := Scalar.cmpi .eq c16_i32_442 c0_i32_443
  let c1_i32_444 : BitVec 32 := 1#32
  let v911 : BitVec 32 := Scalar.select v910 c1_i32_444 c16_i32_442
  let v912 : BitVec 32 := Scalar.remsi v909 v911
  let c0_i32_446 : BitVec 32 := 0#32
  let v914 : BitVec 1 := Scalar.cmpi .slt v912 c0_i32_446
  let c0_i32_447 : BitVec 32 := 0#32
  let v915 : BitVec 1 := Scalar.cmpi .slt v911 c0_i32_447
  let v916 : BitVec 1 := Scalar.xori v914 v915
  let c0_i32_445 : BitVec 32 := 0#32
  let v913 : BitVec 1 := Scalar.cmpi .ne v912 c0_i32_445
  let v917 : BitVec 1 := Scalar.andi v916 v913
  let v918 : BitVec 32 := Scalar.addi v912 v911
  let v919 : BitVec 32 := Scalar.select v917 v918 v912
  let c1_i32_450 : BitVec 32 := 1#32
  let v920 : BitVec 32 := Scalar.muli v919 c1_i32_450
  let v921 : BitVec 32 := Scalar.addi c0_i32_451 v920
  v921.toNat
def k0_dev22 (d0 : Dev nD) : Nat :=
  let c0_i32_534 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_524 : BitVec 32 := 7#32
  let v1119 : BitVec 32 := Scalar.addi v2 c7_i32_524
  let c16_i32_525 : BitVec 32 := 16#32
  let c0_i32_526 : BitVec 32 := 0#32
  let v1120 : BitVec 1 := Scalar.cmpi .eq c16_i32_525 c0_i32_526
  let c1_i32_527 : BitVec 32 := 1#32
  let v1121 : BitVec 32 := Scalar.select v1120 c1_i32_527 c16_i32_525
  let v1122 : BitVec 32 := Scalar.remsi v1119 v1121
  let c0_i32_529 : BitVec 32 := 0#32
  let v1124 : BitVec 1 := Scalar.cmpi .slt v1122 c0_i32_529
  let c0_i32_530 : BitVec 32 := 0#32
  let v1125 : BitVec 1 := Scalar.cmpi .slt v1121 c0_i32_530
  let v1126 : BitVec 1 := Scalar.xori v1124 v1125
  let c0_i32_528 : BitVec 32 := 0#32
  let v1123 : BitVec 1 := Scalar.cmpi .ne v1122 c0_i32_528
  let v1127 : BitVec 1 := Scalar.andi v1126 v1123
  let v1128 : BitVec 32 := Scalar.addi v1122 v1121
  let v1129 : BitVec 32 := Scalar.select v1127 v1128 v1122
  let c1_i32_533 : BitVec 32 := 1#32
  let v1130 : BitVec 32 := Scalar.muli v1129 c1_i32_533
  let v1131 : BitVec 32 := Scalar.addi c0_i32_534 v1130
  v1131.toNat
def k0_dev23 (d0 : Dev nD) : Nat :=
  let c0_i32_549 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_539 : BitVec 32 := 8#32
  let v1142 : BitVec 32 := Scalar.addi v2 c8_i32_539
  let c16_i32_540 : BitVec 32 := 16#32
  let c0_i32_541 : BitVec 32 := 0#32
  let v1143 : BitVec 1 := Scalar.cmpi .eq c16_i32_540 c0_i32_541
  let c1_i32_542 : BitVec 32 := 1#32
  let v1144 : BitVec 32 := Scalar.select v1143 c1_i32_542 c16_i32_540
  let v1145 : BitVec 32 := Scalar.remsi v1142 v1144
  let c0_i32_544 : BitVec 32 := 0#32
  let v1147 : BitVec 1 := Scalar.cmpi .slt v1145 c0_i32_544
  let c0_i32_545 : BitVec 32 := 0#32
  let v1148 : BitVec 1 := Scalar.cmpi .slt v1144 c0_i32_545
  let v1149 : BitVec 1 := Scalar.xori v1147 v1148
  let c0_i32_543 : BitVec 32 := 0#32
  let v1146 : BitVec 1 := Scalar.cmpi .ne v1145 c0_i32_543
  let v1150 : BitVec 1 := Scalar.andi v1149 v1146
  let v1151 : BitVec 32 := Scalar.addi v1145 v1144
  let v1152 : BitVec 32 := Scalar.select v1150 v1151 v1145
  let c1_i32_548 : BitVec 32 := 1#32
  let v1153 : BitVec 32 := Scalar.muli v1152 c1_i32_548
  let v1154 : BitVec 32 := Scalar.addi c0_i32_549 v1153
  v1154.toNat
def k0_dev24 (d0 : Dev nD) : Nat :=
  let c0_i32_564 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_554 : BitVec 32 := 9#32
  let v1165 : BitVec 32 := Scalar.addi v2 c9_i32_554
  let c16_i32_555 : BitVec 32 := 16#32
  let c0_i32_556 : BitVec 32 := 0#32
  let v1166 : BitVec 1 := Scalar.cmpi .eq c16_i32_555 c0_i32_556
  let c1_i32_557 : BitVec 32 := 1#32
  let v1167 : BitVec 32 := Scalar.select v1166 c1_i32_557 c16_i32_555
  let v1168 : BitVec 32 := Scalar.remsi v1165 v1167
  let c0_i32_559 : BitVec 32 := 0#32
  let v1170 : BitVec 1 := Scalar.cmpi .slt v1168 c0_i32_559
  let c0_i32_560 : BitVec 32 := 0#32
  let v1171 : BitVec 1 := Scalar.cmpi .slt v1167 c0_i32_560
  let v1172 : BitVec 1 := Scalar.xori v1170 v1171
  let c0_i32_558 : BitVec 32 := 0#32
  let v1169 : BitVec 1 := Scalar.cmpi .ne v1168 c0_i32_558
  let v1173 : BitVec 1 := Scalar.andi v1172 v1169
  let v1174 : BitVec 32 := Scalar.addi v1168 v1167
  let v1175 : BitVec 32 := Scalar.select v1173 v1174 v1168
  let c1_i32_563 : BitVec 32 := 1#32
  let v1176 : BitVec 32 := Scalar.muli v1175 c1_i32_563
  let v1177 : BitVec 32 := Scalar.addi c0_i32_564 v1176
  v1177.toNat
def k0_dev25 (d0 : Dev nD) : Nat :=
  let c0_i32_579 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_569 : BitVec 32 := 10#32
  let v1188 : BitVec 32 := Scalar.addi v2 c10_i32_569
  let c16_i32_570 : BitVec 32 := 16#32
  let c0_i32_571 : BitVec 32 := 0#32
  let v1189 : BitVec 1 := Scalar.cmpi .eq c16_i32_570 c0_i32_571
  let c1_i32_572 : BitVec 32 := 1#32
  let v1190 : BitVec 32 := Scalar.select v1189 c1_i32_572 c16_i32_570
  let v1191 : BitVec 32 := Scalar.remsi v1188 v1190
  let c0_i32_574 : BitVec 32 := 0#32
  let v1193 : BitVec 1 := Scalar.cmpi .slt v1191 c0_i32_574
  let c0_i32_575 : BitVec 32 := 0#32
  let v1194 : BitVec 1 := Scalar.cmpi .slt v1190 c0_i32_575
  let v1195 : BitVec 1 := Scalar.xori v1193 v1194
  let c0_i32_573 : BitVec 32 := 0#32
  let v1192 : BitVec 1 := Scalar.cmpi .ne v1191 c0_i32_573
  let v1196 : BitVec 1 := Scalar.andi v1195 v1192
  let v1197 : BitVec 32 := Scalar.addi v1191 v1190
  let v1198 : BitVec 32 := Scalar.select v1196 v1197 v1191
  let c1_i32_578 : BitVec 32 := 1#32
  let v1199 : BitVec 32 := Scalar.muli v1198 c1_i32_578
  let v1200 : BitVec 32 := Scalar.addi c0_i32_579 v1199
  v1200.toNat
def k0_off7 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_583 : BitVec 32 := 11#32
  let v1207 : BitVec 32 := Scalar.addi v2 c11_i32_583
  let c16_i32_584 : BitVec 32 := 16#32
  let c0_i32_585 : BitVec 32 := 0#32
  let v1208 : BitVec 1 := Scalar.cmpi .eq c16_i32_584 c0_i32_585
  let c1_i32_586 : BitVec 32 := 1#32
  let v1209 : BitVec 32 := Scalar.select v1208 c1_i32_586 c16_i32_584
  let v1210 : BitVec 32 := Scalar.remsi v1207 v1209
  let c0_i32_588 : BitVec 32 := 0#32
  let v1212 : BitVec 1 := Scalar.cmpi .slt v1210 c0_i32_588
  let c0_i32_589 : BitVec 32 := 0#32
  let v1213 : BitVec 1 := Scalar.cmpi .slt v1209 c0_i32_589
  let v1214 : BitVec 1 := Scalar.xori v1212 v1213
  let c0_i32_587 : BitVec 32 := 0#32
  let v1211 : BitVec 1 := Scalar.cmpi .ne v1210 c0_i32_587
  let v1215 : BitVec 1 := Scalar.andi v1214 v1211
  let v1216 : BitVec 32 := Scalar.addi v1210 v1209
  let v1217 : BitVec 32 := Scalar.select v1215 v1216 v1210
  let c64_i32_590 : BitVec 32 := 64#32
  let v1218 : BitVec 32 := Scalar.muli v1217 c64_i32_590
  let v1219 : Index := Scalar.indexCast v1218
  let c0_591 : Index := 0#32
  ![v1219.toNat, 0]
def k0_off8 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_583 : BitVec 32 := 11#32
  let v1207 : BitVec 32 := Scalar.addi v2 c11_i32_583
  let c16_i32_584 : BitVec 32 := 16#32
  let c0_i32_585 : BitVec 32 := 0#32
  let v1208 : BitVec 1 := Scalar.cmpi .eq c16_i32_584 c0_i32_585
  let c1_i32_586 : BitVec 32 := 1#32
  let v1209 : BitVec 32 := Scalar.select v1208 c1_i32_586 c16_i32_584
  let v1210 : BitVec 32 := Scalar.remsi v1207 v1209
  let c0_i32_588 : BitVec 32 := 0#32
  let v1212 : BitVec 1 := Scalar.cmpi .slt v1210 c0_i32_588
  let c0_i32_589 : BitVec 32 := 0#32
  let v1213 : BitVec 1 := Scalar.cmpi .slt v1209 c0_i32_589
  let v1214 : BitVec 1 := Scalar.xori v1212 v1213
  let c0_i32_587 : BitVec 32 := 0#32
  let v1211 : BitVec 1 := Scalar.cmpi .ne v1210 c0_i32_587
  let v1215 : BitVec 1 := Scalar.andi v1214 v1211
  let v1216 : BitVec 32 := Scalar.addi v1210 v1209
  let v1217 : BitVec 32 := Scalar.select v1215 v1216 v1210
  let c64_i32_590 : BitVec 32 := 64#32
  let v1218 : BitVec 32 := Scalar.muli v1217 c64_i32_590
  let v1221 : Index := Scalar.indexCast v1218
  let c0_592 : Index := 0#32
  ![v1221.toNat, 0]
def k0_off9 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_583 : BitVec 32 := 11#32
  let v1207 : BitVec 32 := Scalar.addi v2 c11_i32_583
  let c16_i32_584 : BitVec 32 := 16#32
  let c0_i32_585 : BitVec 32 := 0#32
  let v1208 : BitVec 1 := Scalar.cmpi .eq c16_i32_584 c0_i32_585
  let c1_i32_586 : BitVec 32 := 1#32
  let v1209 : BitVec 32 := Scalar.select v1208 c1_i32_586 c16_i32_584
  let v1210 : BitVec 32 := Scalar.remsi v1207 v1209
  let c0_i32_588 : BitVec 32 := 0#32
  let v1212 : BitVec 1 := Scalar.cmpi .slt v1210 c0_i32_588
  let c0_i32_589 : BitVec 32 := 0#32
  let v1213 : BitVec 1 := Scalar.cmpi .slt v1209 c0_i32_589
  let v1214 : BitVec 1 := Scalar.xori v1212 v1213
  let c0_i32_587 : BitVec 32 := 0#32
  let v1211 : BitVec 1 := Scalar.cmpi .ne v1210 c0_i32_587
  let v1215 : BitVec 1 := Scalar.andi v1214 v1211
  let v1216 : BitVec 32 := Scalar.addi v1210 v1209
  let v1217 : BitVec 32 := Scalar.select v1215 v1216 v1210
  let c64_i32_590 : BitVec 32 := 64#32
  let v1218 : BitVec 32 := Scalar.muli v1217 c64_i32_590
  let v1309 : Index := Scalar.indexCast v1218
  let c0_626 : Index := 0#32
  ![v1309.toNat, 0]
def k0_dev26 (d0 : Dev nD) : Nat :=
  let c0_i32_662 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_652 : BitVec 32 := 11#32
  let v1403 : BitVec 32 := Scalar.addi v2 c11_i32_652
  let c16_i32_653 : BitVec 32 := 16#32
  let c0_i32_654 : BitVec 32 := 0#32
  let v1404 : BitVec 1 := Scalar.cmpi .eq c16_i32_653 c0_i32_654
  let c1_i32_655 : BitVec 32 := 1#32
  let v1405 : BitVec 32 := Scalar.select v1404 c1_i32_655 c16_i32_653
  let v1406 : BitVec 32 := Scalar.remsi v1403 v1405
  let c0_i32_657 : BitVec 32 := 0#32
  let v1408 : BitVec 1 := Scalar.cmpi .slt v1406 c0_i32_657
  let c0_i32_658 : BitVec 32 := 0#32
  let v1409 : BitVec 1 := Scalar.cmpi .slt v1405 c0_i32_658
  let v1410 : BitVec 1 := Scalar.xori v1408 v1409
  let c0_i32_656 : BitVec 32 := 0#32
  let v1407 : BitVec 1 := Scalar.cmpi .ne v1406 c0_i32_656
  let v1411 : BitVec 1 := Scalar.andi v1410 v1407
  let v1412 : BitVec 32 := Scalar.addi v1406 v1405
  let v1413 : BitVec 32 := Scalar.select v1411 v1412 v1406
  let c1_i32_661 : BitVec 32 := 1#32
  let v1414 : BitVec 32 := Scalar.muli v1413 c1_i32_661
  let v1415 : BitVec 32 := Scalar.addi c0_i32_662 v1414
  v1415.toNat
def k0_dev27 (d0 : Dev nD) : Nat :=
  let c0_i32_677 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_667 : BitVec 32 := 12#32
  let v1426 : BitVec 32 := Scalar.addi v2 c12_i32_667
  let c16_i32_668 : BitVec 32 := 16#32
  let c0_i32_669 : BitVec 32 := 0#32
  let v1427 : BitVec 1 := Scalar.cmpi .eq c16_i32_668 c0_i32_669
  let c1_i32_670 : BitVec 32 := 1#32
  let v1428 : BitVec 32 := Scalar.select v1427 c1_i32_670 c16_i32_668
  let v1429 : BitVec 32 := Scalar.remsi v1426 v1428
  let c0_i32_672 : BitVec 32 := 0#32
  let v1431 : BitVec 1 := Scalar.cmpi .slt v1429 c0_i32_672
  let c0_i32_673 : BitVec 32 := 0#32
  let v1432 : BitVec 1 := Scalar.cmpi .slt v1428 c0_i32_673
  let v1433 : BitVec 1 := Scalar.xori v1431 v1432
  let c0_i32_671 : BitVec 32 := 0#32
  let v1430 : BitVec 1 := Scalar.cmpi .ne v1429 c0_i32_671
  let v1434 : BitVec 1 := Scalar.andi v1433 v1430
  let v1435 : BitVec 32 := Scalar.addi v1429 v1428
  let v1436 : BitVec 32 := Scalar.select v1434 v1435 v1429
  let c1_i32_676 : BitVec 32 := 1#32
  let v1437 : BitVec 32 := Scalar.muli v1436 c1_i32_676
  let v1438 : BitVec 32 := Scalar.addi c0_i32_677 v1437
  v1438.toNat
def k0_dev28 (d0 : Dev nD) : Nat :=
  let c0_i32_692 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_682 : BitVec 32 := 13#32
  let v1449 : BitVec 32 := Scalar.addi v2 c13_i32_682
  let c16_i32_683 : BitVec 32 := 16#32
  let c0_i32_684 : BitVec 32 := 0#32
  let v1450 : BitVec 1 := Scalar.cmpi .eq c16_i32_683 c0_i32_684
  let c1_i32_685 : BitVec 32 := 1#32
  let v1451 : BitVec 32 := Scalar.select v1450 c1_i32_685 c16_i32_683
  let v1452 : BitVec 32 := Scalar.remsi v1449 v1451
  let c0_i32_687 : BitVec 32 := 0#32
  let v1454 : BitVec 1 := Scalar.cmpi .slt v1452 c0_i32_687
  let c0_i32_688 : BitVec 32 := 0#32
  let v1455 : BitVec 1 := Scalar.cmpi .slt v1451 c0_i32_688
  let v1456 : BitVec 1 := Scalar.xori v1454 v1455
  let c0_i32_686 : BitVec 32 := 0#32
  let v1453 : BitVec 1 := Scalar.cmpi .ne v1452 c0_i32_686
  let v1457 : BitVec 1 := Scalar.andi v1456 v1453
  let v1458 : BitVec 32 := Scalar.addi v1452 v1451
  let v1459 : BitVec 32 := Scalar.select v1457 v1458 v1452
  let c1_i32_691 : BitVec 32 := 1#32
  let v1460 : BitVec 32 := Scalar.muli v1459 c1_i32_691
  let v1461 : BitVec 32 := Scalar.addi c0_i32_692 v1460
  v1461.toNat
def k0_dev29 (d0 : Dev nD) : Nat :=
  let c0_i32_707 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_697 : BitVec 32 := 14#32
  let v1472 : BitVec 32 := Scalar.addi v2 c14_i32_697
  let c16_i32_698 : BitVec 32 := 16#32
  let c0_i32_699 : BitVec 32 := 0#32
  let v1473 : BitVec 1 := Scalar.cmpi .eq c16_i32_698 c0_i32_699
  let c1_i32_700 : BitVec 32 := 1#32
  let v1474 : BitVec 32 := Scalar.select v1473 c1_i32_700 c16_i32_698
  let v1475 : BitVec 32 := Scalar.remsi v1472 v1474
  let c0_i32_702 : BitVec 32 := 0#32
  let v1477 : BitVec 1 := Scalar.cmpi .slt v1475 c0_i32_702
  let c0_i32_703 : BitVec 32 := 0#32
  let v1478 : BitVec 1 := Scalar.cmpi .slt v1474 c0_i32_703
  let v1479 : BitVec 1 := Scalar.xori v1477 v1478
  let c0_i32_701 : BitVec 32 := 0#32
  let v1476 : BitVec 1 := Scalar.cmpi .ne v1475 c0_i32_701
  let v1480 : BitVec 1 := Scalar.andi v1479 v1476
  let v1481 : BitVec 32 := Scalar.addi v1475 v1474
  let v1482 : BitVec 32 := Scalar.select v1480 v1481 v1475
  let c1_i32_706 : BitVec 32 := 1#32
  let v1483 : BitVec 32 := Scalar.muli v1482 c1_i32_706
  let v1484 : BitVec 32 := Scalar.addi c0_i32_707 v1483
  v1484.toNat
def k0_dev30 (d0 : Dev nD) : Nat :=
  let c0_i32_722 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_712 : BitVec 32 := 15#32
  let v1495 : BitVec 32 := Scalar.addi v2 c15_i32_712
  let c16_i32_713 : BitVec 32 := 16#32
  let c0_i32_714 : BitVec 32 := 0#32
  let v1496 : BitVec 1 := Scalar.cmpi .eq c16_i32_713 c0_i32_714
  let c1_i32_715 : BitVec 32 := 1#32
  let v1497 : BitVec 32 := Scalar.select v1496 c1_i32_715 c16_i32_713
  let v1498 : BitVec 32 := Scalar.remsi v1495 v1497
  let c0_i32_717 : BitVec 32 := 0#32
  let v1500 : BitVec 1 := Scalar.cmpi .slt v1498 c0_i32_717
  let c0_i32_718 : BitVec 32 := 0#32
  let v1501 : BitVec 1 := Scalar.cmpi .slt v1497 c0_i32_718
  let v1502 : BitVec 1 := Scalar.xori v1500 v1501
  let c0_i32_716 : BitVec 32 := 0#32
  let v1499 : BitVec 1 := Scalar.cmpi .ne v1498 c0_i32_716
  let v1503 : BitVec 1 := Scalar.andi v1502 v1499
  let v1504 : BitVec 32 := Scalar.addi v1498 v1497
  let v1505 : BitVec 32 := Scalar.select v1503 v1504 v1498
  let c1_i32_721 : BitVec 32 := 1#32
  let v1506 : BitVec 32 := Scalar.muli v1505 c1_i32_721
  let v1507 : BitVec 32 := Scalar.addi c0_i32_722 v1506
  v1507.toNat
def k0_off10 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_726 : BitVec 32 := 64#32
  let v1514 : BitVec 32 := Scalar.muli v2 c64_i32_726
  let v1515 : Index := Scalar.indexCast v1514
  let c0_727 : Index := 0#32
  ![v1515.toNat, 0]
def k0_off11 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_726 : BitVec 32 := 64#32
  let v1514 : BitVec 32 := Scalar.muli v2 c64_i32_726
  let v1542 : Index := Scalar.indexCast v1514
  let c1_735 : Index := 1#32
  ![v1542.toNat, 1]
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S1024x512 : Shape := ⟨2, ![1024, 512]⟩
abbrev S512x64 : Shape := ⟨2, ![512, 64]⟩
abbrev S1024x2 : Shape := ⟨2, ![1024, 2]⟩
abbrev S64x512x1024 : Shape := ⟨3, ![64, 512, 1024]⟩
abbrev S1024x64 : Shape := ⟨2, ![1024, 64]⟩
abbrev S_ : Shape := ⟨0, ![]⟩
abbrev S1024 : Shape := ⟨1, ![1024]⟩
abbrev S1024x1 : Shape := ⟨2, ![1024, 1]⟩
abbrev S1024x2x1 : Shape := ⟨3, ![1024, 2, 1]⟩
abbrev S1 : Shape := ⟨1, ![1]⟩
abbrev S1x1x1 : Shape := ⟨3, ![1, 1, 1]⟩
abbrev S1024x512x1024 : Shape := ⟨3, ![1024, 512, 1024]⟩
abbrev S1024x1024 : Shape := ⟨2, ![1024, 1024]⟩

abbrev nBuf : Space → Nat
  | .hbm => 77
  | .vmem => 0
  | .smem => 0
  | _ => 0

abbrev bufTy : (tb : Table) → Fin (tcTables nBuf tb) → BufTy
  | .hbm, ⟨0, _⟩ => ⟨S1024x512, .bf16⟩
  | .hbm, ⟨1, _⟩ => ⟨S512x64, .bf16⟩
  | .hbm, ⟨2, _⟩ => ⟨S1024x2, .i32⟩
  | .hbm, ⟨3, _⟩ => ⟨S64x512x1024, .bf16⟩
  | .hbm, ⟨4, _⟩ => ⟨S1024x512, .f32⟩
  | .hbm, ⟨5, _⟩ => ⟨S512x64, .f32⟩
  | .hbm, ⟨6, _⟩ => ⟨S1024x64, .f32⟩
  | .hbm, ⟨7, _⟩ => ⟨S_, .f32⟩
  | .hbm, ⟨8, _⟩ => ⟨S1024, .f32⟩
  | .hbm, ⟨9, _⟩ => ⟨S1024x1, .f32⟩
  | .hbm, ⟨10, _⟩ => ⟨S1024x64, .f32⟩
  | .hbm, ⟨11, _⟩ => ⟨S1024x64, .f32⟩
  | .hbm, ⟨12, _⟩ => ⟨S1024x64, .f32⟩
  | .hbm, ⟨13, _⟩ => ⟨S_, .f32⟩
  | .hbm, ⟨14, _⟩ => ⟨S1024, .f32⟩
  | .hbm, ⟨15, _⟩ => ⟨S1024x1, .f32⟩
  | .hbm, ⟨16, _⟩ => ⟨S1024x64, .f32⟩
  | .hbm, ⟨17, _⟩ => ⟨S1024x64, .f32⟩
  | .hbm, ⟨18, _⟩ => ⟨S1024x1, .i32⟩
  | .hbm, ⟨19, _⟩ => ⟨S1024, .i32⟩
  | .hbm, ⟨20, _⟩ => ⟨S1024x1, .i32⟩
  | .hbm, ⟨21, _⟩ => ⟨S1024, .i32⟩
  | .hbm, ⟨22, _⟩ => ⟨S64x512x1024, .f32⟩
  | .hbm, ⟨23, _⟩ => ⟨S_, .i32⟩
  | .hbm, ⟨24, _⟩ => ⟨S1024x2, .i32⟩
  | .hbm, ⟨25, _⟩ => ⟨S1024x2, .i1⟩
  | .hbm, ⟨26, _⟩ => ⟨S_, .i32⟩
  | .hbm, ⟨27, _⟩ => ⟨S1024x2, .i32⟩
  | .hbm, ⟨28, _⟩ => ⟨S1024x2, .i32⟩
  | .hbm, ⟨29, _⟩ => ⟨S1024x2, .i32⟩
  | .hbm, ⟨30, _⟩ => ⟨S1024x2x1, .i32⟩
  | .hbm, ⟨31, _⟩ => ⟨S1, .i32⟩
  | .hbm, ⟨32, _⟩ => ⟨S_, .i32⟩
  | .hbm, ⟨33, _⟩ => ⟨S1024x2x1, .i32⟩
  | .hbm, ⟨34, _⟩ => ⟨S1024x2x1, .i1⟩
  | .hbm, ⟨35, _⟩ => ⟨S1x1x1, .i32⟩
  | .hbm, ⟨36, _⟩ => ⟨S1024x2x1, .i32⟩
  | .hbm, ⟨37, _⟩ => ⟨S1024x2x1, .i1⟩
  | .hbm, ⟨38, _⟩ => ⟨S1024x2x1, .i1⟩
  | .hbm, ⟨39, _⟩ => ⟨S_, .i1⟩
  | .hbm, ⟨40, _⟩ => ⟨S1024x2, .i1⟩
  | .hbm, ⟨41, _⟩ => ⟨S1024x2, .f32⟩
  | .hbm, ⟨42, _⟩ => ⟨S_, .f32⟩
  | .hbm, ⟨43, _⟩ => ⟨S1024x2, .f32⟩
  | .hbm, ⟨44, _⟩ => ⟨S1024x2, .f32⟩
  | .hbm, ⟨45, _⟩ => ⟨S1024x1, .f32⟩
  | .hbm, ⟨46, _⟩ => ⟨S1024x1, .f32⟩
  | .hbm, ⟨47, _⟩ => ⟨S1024x1, .f32⟩
  | .hbm, ⟨48, _⟩ => ⟨S_, .i32⟩
  | .hbm, ⟨49, _⟩ => ⟨S1024, .i32⟩
  | .hbm, ⟨50, _⟩ => ⟨S1024, .i1⟩
  | .hbm, ⟨51, _⟩ => ⟨S_, .i32⟩
  | .hbm, ⟨52, _⟩ => ⟨S1024, .i32⟩
  | .hbm, ⟨53, _⟩ => ⟨S1024, .i32⟩
  | .hbm, ⟨54, _⟩ => ⟨S1024, .i32⟩
  | .hbm, ⟨55, _⟩ => ⟨S1024x1, .i32⟩
  | .hbm, ⟨56, _⟩ => ⟨S1024x512x1024, .f32⟩
  | .hbm, ⟨57, _⟩ => ⟨S1024x1024, .f32⟩
  | .hbm, ⟨58, _⟩ => ⟨S_, .i32⟩
  | .hbm, ⟨59, _⟩ => ⟨S1024, .i32⟩
  | .hbm, ⟨60, _⟩ => ⟨S1024, .i1⟩
  | .hbm, ⟨61, _⟩ => ⟨S_, .i32⟩
  | .hbm, ⟨62, _⟩ => ⟨S1024, .i32⟩
  | .hbm, ⟨63, _⟩ => ⟨S1024, .i32⟩
  | .hbm, ⟨64, _⟩ => ⟨S1024, .i32⟩
  | .hbm, ⟨65, _⟩ => ⟨S1024x1, .i32⟩
  | .hbm, ⟨66, _⟩ => ⟨S1024x512x1024, .f32⟩
  | .hbm, ⟨67, _⟩ => ⟨S1024x1024, .f32⟩
  | .hbm, ⟨68, _⟩ => ⟨S1024x1, .f32⟩
  | .hbm, ⟨69, _⟩ => ⟨S1024x1, .f32⟩
  | .hbm, ⟨70, _⟩ => ⟨S1024x1024, .f32⟩
  | .hbm, ⟨71, _⟩ => ⟨S1024x1024, .f32⟩
  | .hbm, ⟨72, _⟩ => ⟨S1024x1, .f32⟩
  | .hbm, ⟨73, _⟩ => ⟨S1024x1, .f32⟩
  | .hbm, ⟨74, _⟩ => ⟨S1024x1024, .f32⟩
  | .hbm, ⟨75, _⟩ => ⟨S1024x1024, .f32⟩
  | .hbm, ⟨76, _⟩ => ⟨S1024x1024, .f32⟩
  | _, _ => ⟨S1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_c : Ref sig .tc := ⟨.hbm, 23, rfl⟩
abbrev main_call0_v0 : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_c_1 : Ref sig .tc := ⟨.hbm, 31, rfl⟩
abbrev main_call0_c_2 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_3 : Ref sig .tc := ⟨.hbm, 39, rfl⟩
abbrev main_call0_v12 : Ref sig .tc := ⟨.hbm, 40, rfl⟩
abbrev main_call0_v13 : Ref sig .tc := ⟨.hbm, 41, rfl⟩
abbrev main_call0_cst : Ref sig .tc := ⟨.hbm, 42, rfl⟩
abbrev main_call0_v14 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_c : Ref sig .tc := ⟨.hbm, 48, rfl⟩
abbrev main_v21 : Ref sig .tc := ⟨.hbm, 49, rfl⟩
abbrev main_v22 : Ref sig .tc := ⟨.hbm, 50, rfl⟩
abbrev main_c_1 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_c_2 : Ref sig .tc := ⟨.hbm, 58, rfl⟩
abbrev main_v29 : Ref sig .tc := ⟨.hbm, 59, rfl⟩
abbrev main_v30 : Ref sig .tc := ⟨.hbm, 60, rfl⟩
abbrev main_c_3 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩

abbrev nD : Nat := 1
abbrev τ : Topo := Topo.v7x

variable {F : FTy → Type} [FloatOps F]
-- ==== Proof.Values.lean ====
/-
# What one device computes, value by value

Each value is the kernel's own (`k0_payN`), at the inputs one device finds in its four input blocks: the numbering is the
kernel's. The four scratch buffers the first phase fills are stated in closed form (`x2`, `w2`, `ewb`, `mask2`), for the rest to
read from; `send` is what goes to each peer, `outv` the result from what came back.
-/
module

public import proofs.«01_k».proof.Proof.Gen.KernelIdeal
public import proofs.«01_k».proof.Proof.Gen.KernelIdeal.Skeleton
public import Idealize.ShloMosaic.Lib.Pointwise.Index

@[expose] public section

noncomputable section

namespace Cert.KernelIdeal.Moe

open Cert.KernelIdeal Cert.KernelIdeal.Gen
open Idealize.ShloMosaic Idealize.SL.Sem

variable {F : FTy → Type} [FloatOps F]

/-- What a device reads: which one it is, the tokens, the router's matrix, the routing table, its four experts. -/
structure Inp (F : FTy → Type) [FloatOps F] where
  dev : Dev nD
  x : (cc0_stg0_0 : Ref sig .tc).ty.Contents (Elt F)
  rw : (cc0_stg1_0 : Ref sig .tc).ty.Contents (Elt F)
  idx : (cc0_stg2_0 : Ref sig .tc).ty.Contents (Elt F)
  ew : (cc0_stg3_0 : Ref sig .tc).ty.Contents (Elt F)

open Inp

def v199 (I : Inp F) : Vec F S1024x512 .bf16 := (Memref.whole cc0_stg0_0 : Memref sig .tc .vmem S1024x512 .bf16).view.readAt (Elt F) (Rect.unit (s := S1024x512) ![0, 0] S1024x512.size inb_S1024x512_S1024x512_0_0).toLoadRect (x I)

def v0 (I : Inp F) : BitVec 32 := Dev.word (dev I)

def v1 (I : Inp F) : BitVec 32 := Scalar.divsi (v0 I) 1#32

def v2 (I : Inp F) : BitVec 32 := Scalar.remsi (v1 I) 16#32

def v208 (I : Inp F) : Vec F S512x64 .bf16 := (Memref.whole cc0_stg1_0 : Memref sig .tc .vmem S512x64 .bf16).view.readAt (Elt F) (Rect.unit (s := S512x64) ![0, 0] S512x64.size inb_S512x64_S512x64_0_0).toLoadRect (rw I)

def v219 (I : Inp F) : FVec F S1024x64 .f32 := k0_pay4 (v199 I) (v208 I)

def v220 (I : Inp F) : Vec F S1024x1 .i32 := (Memref.whole cc0_stg2_0 : Memref sig .tc .vmem S1024x2 .i32).view.readAt (Elt F) (Rect.unit (s := S1024x2) ![0, 0] S1024x1.size inb_S1024x2_S1024x1_0_0).toLoadRect (idx I)

def v221 (I : Inp F) : IVec S1024x1 32 := k0_pay5 (v220 I)

def v222 (I : Inp F) : Vec F S1024x1 .i32 := (Memref.whole cc0_stg2_0 : Memref sig .tc .vmem S1024x2 .i32).view.readAt (Elt F) (Rect.unit (s := S1024x2) ![0, 1] S1024x1.size inb_S1024x2_S1024x1_0_1).toLoadRect (idx I)

def v223 (I : Inp F) : IVec S1024x1 32 := k0_pay6 (v222 I)

def v224 (I : Inp F) : IVec S1024x64 32 := iota .tc S1024x64 32 [1] iota_S1024x64_d1_w32

def v230 (I : Inp F) : FVec F S1024x1 .f32 := k0_pay7 (v199 I) (v208 I) (v220 I)

def v232 (I : Inp F) : IVec S1024x64 1 := k0_pay8 (v222 I)

def v237 (I : Inp F) : FVec F S1024x1 .f32 := k0_pay9 (v219 I) (v230 I) (v232 I)

def v351 (I : Inp F) : BitVec 32 := Scalar.muli (v2 I) 4#32

def v352 (I : Inp F) : BitVec 32 := Scalar.addi (v351 I) 2#32

def v356 (I : Inp F) : FVec F S1024x64 .f32 := k0_pay24 (v2 I) (v219 I) (v224 I)

def v396 (I : Inp F) : FVec F S1024x1 .bf16 := (k0_pay29 (v2 I) (v219 I) (v221 I) (v223 I) (v224 I) (v237 I))

def v317 (I : Inp F) : Vec F S1x512x1024 .bf16 := (Memref.whole cc0_stg3_0 : Memref sig .tc .vmem S4x512x1024 .bf16).view.readAt (Elt F) (Rect.unit (s := S4x512x1024) ![0, 0, 0] S1x512x1024.size inb_S4x512x1024_S1x512x1024_0_0_0).toLoadRect (ew I)

def v318 (I : Inp F) : FVec F S512x1024 .bf16 := k0_pay18 (v317 I)

def v346 (I : Inp F) : Vec F S1x512x1024 .bf16 := (Memref.whole cc0_stg3_0 : Memref sig .tc .vmem S4x512x1024 .bf16).view.readAt (Elt F) (Rect.unit (s := S4x512x1024) ![1, 0, 0] S1x512x1024.size inb_S4x512x1024_S1x512x1024_1_0_0).toLoadRect (ew I)

def v375 (I : Inp F) : Vec F S1x512x1024 .bf16 := (Memref.whole cc0_stg3_0 : Memref sig .tc .vmem S4x512x1024 .bf16).view.readAt (Elt F) (Rect.unit (s := S4x512x1024) ![2, 0, 0] S1x512x1024.size inb_S4x512x1024_S1x512x1024_2_0_0).toLoadRect (ew I)

def v404 (I : Inp F) : Vec F S1x512x1024 .bf16 := (Memref.whole cc0_stg3_0 : Memref sig .tc .vmem S4x512x1024 .bf16).view.readAt (Elt F) (Rect.unit (s := S4x512x1024) ![3, 0, 0] S1x512x1024.size inb_S4x512x1024_S1x512x1024_3_0_0).toLoadRect (ew I)

def v263 (I : Inp F) : IVec S1024x1 1 := k0_pay10 (v2 I) (v221 I)

def c4_i32_157 (I : Inp F) : BitVec 32 := 4#32

def v265 (I : Inp F) : IVec S1024x1 32 := k0_pay11 (v223 I)

def v272 (I : Inp F) : IVec S1024x1 32 := k0_pay12 (v223 I)

def v278 (I : Inp F) : IVec S1024x1 32 := k0_pay13

def v292 (I : Inp F) : FVec F S1024x1 .f32 := k0_pay14 (F := F) (v2 I) (v223 I) (v263 I) (c4_i32_157 I) (v265 I) (v272 I) (v278 I)

/-- The doubled token rows: rows `0 … 1023`, and the first 320 of them again. -/
def x2 (I : Inp F) : (cc0_scratch0 : Ref sig .tc).ty.Contents (Elt F) := fun i =>
  if h : (i 0).val < 1024 then (k0_pay2 (v199 I)) (ix2 ⟨(i 0).val, h⟩ ⟨(i 1).val, (i 1).isLt⟩)
  else (k0_pay3 (v199 I)) (ix2 ⟨(i 0).val - 1024, by have : (i 0).val < 1344 := (i 0).isLt; omega⟩ ⟨(i 1).val, (i 1).isLt⟩)

/-- The weight columns, one per expert of the device, doubled alike. -/
def w2 (I : Inp F) : (cc0_scratch1 : Ref sig .tc).ty.Contents (Elt F) := fun i =>
  if h : (i 0).val < 1024 then
    (if (i 1).val = 0 then (k0_pay16 (v2 I) (v219 I) (v221 I) (v223 I) (v224 I) (v237 I)) else if (i 1).val = 1 then (k0_pay21 (v2 I) (v219 I) (v221 I) (v223 I) (v224 I) (v237 I)) else if (i 1).val = 2 then (k0_pay26 (v221 I) (v223 I) (v237 I) (v352 I) (v356 I)) else (k0_pay30 (v396 I))) (ix2 ⟨(i 0).val, h⟩ (0 : Fin 1))
  else
    (if (i 1).val = 0 then (k0_pay17 (v2 I) (v219 I) (v221 I) (v223 I) (v224 I) (v237 I)) else if (i 1).val = 1 then (k0_pay22 (v2 I) (v219 I) (v221 I) (v223 I) (v224 I) (v237 I)) else if (i 1).val = 2 then (k0_pay27 (v221 I) (v223 I) (v237 I) (v352 I) (v356 I)) else (k0_pay31 (v396 I)))
      (ix2 ⟨(i 0).val - 1024, by have : (i 0).val < 1344 := (i 0).isLt; omega⟩ (0 : Fin 1))

/-- The copy of the device's four expert matrices. -/
def ewb (I : Inp F) : (cc0_scratch2 : Ref sig .tc).ty.Contents (Elt F) := fun i =>
  (if (i 0).val = 0 then (k0_pay19 (v318 I)) else if (i 0).val = 1 then (k0_pay23 (v346 I)) else if (i 0).val = 2 then (k0_pay28 (v375 I)) else (k0_pay32 (v404 I)))
    (ix3 (0 : Fin 1) ⟨(i 1).val, (i 1).isLt⟩ ⟨(i 2).val, (i 2).isLt⟩)

/-- The 0/1 column of the rows the device serves, doubled alike. -/
def mask2 (I : Inp F) : (cc0_scratch3 : Ref sig .tc).ty.Contents (Elt F) := fun i =>
  if h : (i 0).val < 1024 then (k0_pay33 (v292 I)) (ix2 ⟨(i 0).val, h⟩ (0 : Fin 1))
  else (k0_pay34 (v292 I)) (ix2 ⟨(i 0).val - 1024, by have : (i 0).val < 1344 := (i 0).isLt; omega⟩ (0 : Fin 1))

def v429 (I : Inp F) : Vec F S128x512 .bf16 := (Memref.whole cc0_scratch0 : Memref sig .tc .vmem S1344x512 .bf16).view.readAt (Elt F) (Rect.unit (s := S1344x512) (k0_off1 (dev I)) S128x512.size (k0_off1_inb (dev I))).toLoadRect (x2 I)

def v431 (I : Inp F) : Vec F S128x4 .bf16 := (Memref.whole cc0_scratch1 : Memref sig .tc .vmem S1344x4 .bf16).view.readAt (Elt F) (Rect.unit (s := S1344x4) (k0_off2 (dev I)) S128x4.size (k0_off2_inb (dev I))).toLoadRect (w2 I)

def v436 (I : Inp F) : Vec F S1x512x1024 .bf16 := (Memref.whole cc0_scratch2 : Memref sig .tc .vmem S4x512x1024 .bf16).view.readAt (Elt F) (Rect.unit (s := S4x512x1024) ![0, 0, 0] S1x512x1024.size inb_S4x512x1024_S1x512x1024_0_0_0).toLoadRect (ewb I)

def v443 (I : Inp F) : Vec F S1x512x1024 .bf16 := (Memref.whole cc0_scratch2 : Memref sig .tc .vmem S4x512x1024 .bf16).view.readAt (Elt F) (Rect.unit (s := S4x512x1024) ![1, 0, 0] S1x512x1024.size inb_S4x512x1024_S1x512x1024_1_0_0).toLoadRect (ewb I)

def v450 (I : Inp F) : Vec F S1x512x1024 .bf16 := (Memref.whole cc0_scratch2 : Memref sig .tc .vmem S4x512x1024 .bf16).view.readAt (Elt F) (Rect.unit (s := S4x512x1024) ![2, 0, 0] S1x512x1024.size inb_S4x512x1024_S1x512x1024_2_0_0).toLoadRect (ewb I)

def v457 (I : Inp F) : Vec F S1x512x1024 .bf16 := (Memref.whole cc0_scratch2 : Memref sig .tc .vmem S4x512x1024 .bf16).view.readAt (Elt F) (Rect.unit (s := S4x512x1024) ![3, 0, 0] S1x512x1024.size inb_S4x512x1024_S1x512x1024_3_0_0).toLoadRect (ewb I)

def v461 (I : Inp F) : FVec F S128x1024 .bf16 := k0_pay35 (v429 I) (v431 I) (v436 I) (v443 I) (v450 I) (v457 I)

def v519 (I : Inp F) : Vec F S128x1 .f32 := (Memref.whole cc0_scratch3 : Memref sig .tc .vmem S1344x1 .f32).view.readAt (Elt F) (Rect.unit (s := S1344x1) (k0_off3 (dev I)) S128x1.size (k0_off3_inb (dev I))).toLoadRect (mask2 I)

def v462 (I : Inp F) : IVec S128x128 32 := iota .tc S128x128 32 [0] iota_S128x128_d0_w32

def v463 (I : Inp F) : IVec S128x128 32 := iota .tc S128x128 32 [1] iota_S128x128_d1_w32

def c64_i32_252 (I : Inp F) : BitVec 32 := 64#32

def v465 (I : Inp F) : IVec S128x128 32 := k0_pay36

def v468 (I : Inp F) : IVec S128x128 32 := k0_pay37

def c0_i32_254 (I : Inp F) : BitVec 32 := 0#32

def v514 (I : Inp F) : IVec S128x128 1 := k0_pay38 (v462 I) (v463 I) (c64_i32_252 I) (v465 I) (v468 I) (c0_i32_254 I)

def cst_267 (I : Inp F) : F .f32 := Scalar.ofBits .f32 0x00000000#32

def v515 (I : Inp F) : FVec F S128x128 .f32 := k0_pay39 (F := F)

def v522 (I : Inp F) : FVec F S128x1 .f32 := k0_pay40 (v514 I) (cst_267 I) (v515 I) (v519 I)

def v523 (I : Inp F) : IVec S128x64 32 := iota .tc S128x64 32 [0] iota_S128x64_d0_w32

def v524 (I : Inp F) : IVec S128x64 32 := iota .tc S128x64 32 [1] iota_S128x64_d1_w32

def v548 (I : Inp F) : IVec S128x64 32 := k0_pay41

def c64_i32_277 (I : Inp F) : BitVec 32 := 64#32

def v550 (I : Inp F) : IVec S128x64 32 := k0_pay42

def v557 (I : Inp F) : IVec S128x64 32 := k0_pay43

def v558 (I : Inp F) : BitVec 1 := Scalar.cmpi .sgt 64#32 0#32

def v559 (I : Inp F) : BitVec 32 := Scalar.extui (v558 I)

def v560 (I : Inp F) : BitVec 1 := Scalar.cmpi .slt 64#32 0#32

def v603 (I : Inp F) : FVec F S24x1024 .bf16 := k0_pay45 (v461 I) (v519 I) (v522 I) (v523 I) (v524 I) (v548 I) (c64_i32_277 I) (v550 I) (v557 I) (v559 I) (v560 I)

def v602 (I : Inp F) : FVec F S64x1024 .bf16 := k0_pay44 (v461 I) (v519 I) (v522 I) (v523 I) (v524 I) (v548 I) (c64_i32_277 I) (v550 I) (v557 I) (v559 I) (v560 I)

def v662 (I : Inp F) : Vec F S256x512 .bf16 := (Memref.whole cc0_scratch0 : Memref sig .tc .vmem S1344x512 .bf16).view.readAt (Elt F) (Rect.unit (s := S1344x512) (k0_off4 (dev I) 3#32) S256x512.size (k0_off4_inb (dev I) 0)).toLoadRect (x2 I)

def v664 (I : Inp F) : Vec F S256x4 .bf16 := (Memref.whole cc0_scratch1 : Memref sig .tc .vmem S1344x4 .bf16).view.readAt (Elt F) (Rect.unit (s := S1344x4) (k0_off5 (dev I) 3#32) S256x4.size (k0_off5_inb (dev I) 0)).toLoadRect (w2 I)

def v669 (I : Inp F) : Vec F S1x512x1024 .bf16 := (Memref.whole cc0_scratch2 : Memref sig .tc .vmem S4x512x1024 .bf16).view.readAt (Elt F) (Rect.unit (s := S4x512x1024) ![0, 0, 0] S1x512x1024.size inb_S4x512x1024_S1x512x1024_0_0_0).toLoadRect (ewb I)

def v672 (I : Inp F) : FVec F S256x1024 .f32 := k0_pay48 (v662 I) (v664 I) (v669 I)

def v674 (I : Inp F) : FVec F S256x512 .bf16 := k0_pay49 (v664 I)

def v676 (I : Inp F) : Vec F S1x512x1024 .bf16 := (Memref.whole cc0_scratch2 : Memref sig .tc .vmem S4x512x1024 .bf16).view.readAt (Elt F) (Rect.unit (s := S4x512x1024) ![1, 0, 0] S1x512x1024.size inb_S4x512x1024_S1x512x1024_1_0_0).toLoadRect (ewb I)

def v683 (I : Inp F) : Vec F S1x512x1024 .bf16 := (Memref.whole cc0_scratch2 : Memref sig .tc .vmem S4x512x1024 .bf16).view.readAt (Elt F) (Rect.unit (s := S4x512x1024) ![2, 0, 0] S1x512x1024.size inb_S4x512x1024_S1x512x1024_2_0_0).toLoadRect (ewb I)

def v690 (I : Inp F) : Vec F S1x512x1024 .bf16 := (Memref.whole cc0_scratch2 : Memref sig .tc .vmem S4x512x1024 .bf16).view.readAt (Elt F) (Rect.unit (s := S4x512x1024) ![3, 0, 0] S1x512x1024.size inb_S4x512x1024_S1x512x1024_3_0_0).toLoadRect (ewb I)

def v694 (I : Inp F) : FVec F S256x1024 .bf16 := k0_pay50 (v662 I) (v664 I) (v672 I) (v674 I) (v676 I) (v683 I) (v690 I)

def v752 (I : Inp F) : Vec F S256x1 .f32 := (Memref.whole cc0_scratch3 : Memref sig .tc .vmem S1344x1 .f32).view.readAt (Elt F) (Rect.unit (s := S1344x1) (k0_off6 (dev I) 3#32) S256x1.size (k0_off6_inb (dev I) 0)).toLoadRect (mask2 I)

def v695 (I : Inp F) : IVec S256x256 32 := iota .tc S256x256 32 [0] iota_S256x256_d0_w32

def v696 (I : Inp F) : IVec S256x256 32 := iota .tc S256x256 32 [1] iota_S256x256_d1_w32

def v698 (I : Inp F) : IVec S256x256 32 := k0_pay51

def v712 (I : Inp F) : IVec S256x256 1 := k0_pay52

def v716 (I : Inp F) : IVec S256x256 1 := k0_pay53

def v755 (I : Inp F) : FVec F S256x1 .f32 := k0_pay54 (v695 I) (v696 I) (v698 I) (v712 I) (v716 I) (v752 I)

def v757 (I : Inp F) : IVec S256x128 32 := iota .tc S256x128 32 [1] iota_S256x128_d1_w32

def v756 (I : Inp F) : IVec S256x128 32 := iota .tc S256x128 32 [0] iota_S256x128_d0_w32

def c32_i32_372 (I : Inp F) : BitVec 32 := 32#32

def v759 (I : Inp F) : IVec S256x128 32 := k0_pay55

def v761 (I : Inp F) : IVec S256x128 1 := k0_pay56

def v806 (I : Inp F) : IVec S256x128 1 := k0_pay57 (v756 I) (v757 I) (c32_i32_372 I) (v759 I) (v761 I)

def c32_i32_386 (I : Inp F) : BitVec 32 := 32#32

def v807 (I : Inp F) : BitVec 1 := Scalar.cmpi .eq 32#32 0#32

def v835 (I : Inp F) : FVec F S128x1024 .bf16 := k0_pay58 (v694 I) (v752 I) (v755 I) (v757 I) (v806 I) (c32_i32_386 I) (v807 I)

def v882 (I : Inp F) : FVec F S24x1024 .bf16 := k0_pay61 (v835 I)

def v941 (I : Inp F) : Vec F S256x512 .bf16 := (Memref.whole cc0_scratch0 : Memref sig .tc .vmem S1344x512 .bf16).view.readAt (Elt F) (Rect.unit (s := S1344x512) (k0_off4 (dev I) 7#32) S256x512.size (k0_off4_inb (dev I) 1)).toLoadRect (x2 I)

def v943 (I : Inp F) : Vec F S256x4 .bf16 := (Memref.whole cc0_scratch1 : Memref sig .tc .vmem S1344x4 .bf16).view.readAt (Elt F) (Rect.unit (s := S1344x4) (k0_off5 (dev I) 7#32) S256x4.size (k0_off5_inb (dev I) 1)).toLoadRect (w2 I)

def v944 (I : Inp F) : FVec F S256x1024 .f32 := k0_pay64 (F := F)

def v948 (I : Inp F) : Vec F S1x512x1024 .bf16 := (Memref.whole cc0_scratch2 : Memref sig .tc .vmem S4x512x1024 .bf16).view.readAt (Elt F) (Rect.unit (s := S4x512x1024) ![0, 0, 0] S1x512x1024.size inb_S4x512x1024_S1x512x1024_0_0_0).toLoadRect (ewb I)

def v950 (I : Inp F) : FVec F S256x1024 .f32 := k0_pay65 (v941 I) (v943 I) (v948 I)

def v955 (I : Inp F) : Vec F S1x512x1024 .bf16 := (Memref.whole cc0_scratch2 : Memref sig .tc .vmem S4x512x1024 .bf16).view.readAt (Elt F) (Rect.unit (s := S4x512x1024) ![1, 0, 0] S1x512x1024.size inb_S4x512x1024_S1x512x1024_1_0_0).toLoadRect (ewb I)

def v962 (I : Inp F) : Vec F S1x512x1024 .bf16 := (Memref.whole cc0_scratch2 : Memref sig .tc .vmem S4x512x1024 .bf16).view.readAt (Elt F) (Rect.unit (s := S4x512x1024) ![2, 0, 0] S1x512x1024.size inb_S4x512x1024_S1x512x1024_2_0_0).toLoadRect (ewb I)

def v969 (I : Inp F) : Vec F S1x512x1024 .bf16 := (Memref.whole cc0_scratch2 : Memref sig .tc .vmem S4x512x1024 .bf16).view.readAt (Elt F) (Rect.unit (s := S4x512x1024) ![3, 0, 0] S1x512x1024.size inb_S4x512x1024_S1x512x1024_3_0_0).toLoadRect (ewb I)

def v973 (I : Inp F) : FVec F S256x1024 .bf16 := k0_pay66 (v941 I) (v943 I) (v944 I) (v950 I) (v955 I) (v962 I) (v969 I)

def v1031 (I : Inp F) : Vec F S256x1 .f32 := (Memref.whole cc0_scratch3 : Memref sig .tc .vmem S1344x1 .f32).view.readAt (Elt F) (Rect.unit (s := S1344x1) (k0_off6 (dev I) 7#32) S256x1.size (k0_off6_inb (dev I) 1)).toLoadRect (mask2 I)

def v974 (I : Inp F) : IVec S256x256 32 := iota .tc S256x256 32 [0] iota_S256x256_d0_w32

def v975 (I : Inp F) : IVec S256x256 32 := iota .tc S256x256 32 [1] iota_S256x256_d1_w32

def v977 (I : Inp F) : IVec S256x256 32 := k0_pay67

def v991 (I : Inp F) : IVec S256x256 1 := k0_pay68

def v993 (I : Inp F) : IVec S256x256 32 := k0_pay69

def v1034 (I : Inp F) : FVec F S256x1 .f32 := k0_pay70 (v974 I) (v975 I) (v977 I) (v991 I) (v993 I) (v1031 I)

def v1036 (I : Inp F) : IVec S256x128 32 := iota .tc S256x128 32 [1] iota_S256x128_d1_w32

def v1035 (I : Inp F) : IVec S256x128 32 := iota .tc S256x128 32 [0] iota_S256x128_d0_w32

def c32_i32_501 (I : Inp F) : BitVec 32 := 32#32

def v1038 (I : Inp F) : IVec S256x128 32 := k0_pay71

def v1085 (I : Inp F) : IVec S256x128 1 := (k0_pay72 (v1035 I) (v1036 I) (c32_i32_501 I) (v1038 I))

def v1114 (I : Inp F) : FVec F S128x1024 .bf16 := k0_pay73 (v973 I) (v1031 I) (v1034 I) (v1036 I) (v1085 I)

def v1220 (I : Inp F) : Vec F S384x512 .bf16 := (Memref.whole cc0_scratch0 : Memref sig .tc .vmem S1344x512 .bf16).view.readAt (Elt F) (Rect.unit (s := S1344x512) (k0_off7 (dev I)) S384x512.size (k0_off7_inb (dev I))).toLoadRect (x2 I)

def v1222 (I : Inp F) : Vec F S384x4 .bf16 := (Memref.whole cc0_scratch1 : Memref sig .tc .vmem S1344x4 .bf16).view.readAt (Elt F) (Rect.unit (s := S1344x4) (k0_off8 (dev I)) S384x4.size (k0_off8_inb (dev I))).toLoadRect (w2 I)

def v1223 (I : Inp F) : FVec F S384x1024 .f32 := k0_pay78 (F := F)

def v1226 (I : Inp F) : FVec F S384x512 .bf16 := k0_pay79 (v1220 I) (v1222 I)

def v1227 (I : Inp F) : Vec F S1x512x1024 .bf16 := (Memref.whole cc0_scratch2 : Memref sig .tc .vmem S4x512x1024 .bf16).view.readAt (Elt F) (Rect.unit (s := S4x512x1024) ![0, 0, 0] S1x512x1024.size inb_S4x512x1024_S1x512x1024_0_0_0).toLoadRect (ewb I)

def v1234 (I : Inp F) : Vec F S1x512x1024 .bf16 := (Memref.whole cc0_scratch2 : Memref sig .tc .vmem S4x512x1024 .bf16).view.readAt (Elt F) (Rect.unit (s := S4x512x1024) ![1, 0, 0] S1x512x1024.size inb_S4x512x1024_S1x512x1024_1_0_0).toLoadRect (ewb I)

def v1241 (I : Inp F) : Vec F S1x512x1024 .bf16 := (Memref.whole cc0_scratch2 : Memref sig .tc .vmem S4x512x1024 .bf16).view.readAt (Elt F) (Rect.unit (s := S4x512x1024) ![2, 0, 0] S1x512x1024.size inb_S4x512x1024_S1x512x1024_2_0_0).toLoadRect (ewb I)

def v1248 (I : Inp F) : Vec F S1x512x1024 .bf16 := (Memref.whole cc0_scratch2 : Memref sig .tc .vmem S4x512x1024 .bf16).view.readAt (Elt F) (Rect.unit (s := S4x512x1024) ![3, 0, 0] S1x512x1024.size inb_S4x512x1024_S1x512x1024_3_0_0).toLoadRect (ewb I)

def v1252 (I : Inp F) : FVec F S384x1024 .bf16 := k0_pay80 (v1220 I) (v1222 I) (v1223 I) (v1226 I) (v1227 I) (v1234 I) (v1241 I) (v1248 I)

def v1310 (I : Inp F) : Vec F S384x1 .f32 := (Memref.whole cc0_scratch3 : Memref sig .tc .vmem S1344x1 .f32).view.readAt (Elt F) (Rect.unit (s := S1344x1) (k0_off9 (dev I)) S384x1.size (k0_off9_inb (dev I))).toLoadRect (mask2 I)

def v1253 (I : Inp F) : IVec S384x384 32 := iota .tc S384x384 32 [0] iota_S384x384_d0_w32

def v1254 (I : Inp F) : IVec S384x384 32 := iota .tc S384x384 32 [1] iota_S384x384_d1_w32

def c64_i32_610 (I : Inp F) : BitVec 32 := 64#32

def v1256 (I : Inp F) : IVec S384x384 32 := k0_pay81

def v1263 (I : Inp F) : IVec S384x384 32 := k0_pay82

def v1269 (I : Inp F) : IVec S384x384 32 := k0_pay83

def v1313 (I : Inp F) : FVec F S384x1 .f32 := k0_pay84 (v1253 I) (v1254 I) (c64_i32_610 I) (v1256 I) (v1263 I) (v1269 I) (v1310 I)

def v1315 (I : Inp F) : IVec S320x160 32 := iota .tc S320x160 32 [1] iota_S320x160_d1_w32

def v1339 (I : Inp F) : IVec S320x160 32 := k0_pay85 (v1315 I)

def v1314 (I : Inp F) : IVec S320x160 32 := iota .tc S320x160 32 [0] iota_S320x160_d0_w32

def v1341 (I : Inp F) : IVec S320x160 32 := k0_pay86 (v1314 I)

def v1360 (I : Inp F) : IVec S320x160 1 := k0_pay87 (v1314 I)

def v1361 (I : Inp F) : IVec S320x160 32 := k0_pay88

def v1396 (I : Inp F) : FVec F S160x1024 .bf16 := k0_pay89 (v1252 I) (v1310 I) (v1313 I) (v1315 I) (v1339 I) (v1341 I) (v1360 I) (v1361 I)

def v1398 (I : Inp F) : FVec F S64x1024 .f32 := k0_pay90 (v1252 I)

def v1516 (I : Inp F) : Vec F S64x1 .i32 := (Memref.whole cc0_stg2_0 : Memref sig .tc .vmem S1024x2 .i32).view.readAt (Elt F) (Rect.unit (s := S1024x2) (k0_off10 (dev I)) S64x1.size (k0_off10_inb (dev I))).toLoadRect (idx I)

def v1541 (I : Inp F) : IVec S64x1 32 := k0_pay96 (v1516 I)

def v1592 (I : Inp F) : IVec S64x15 1 := k0_pay100 (v2 I) (v1541 I)

def v1543 (I : Inp F) : Vec F S64x1 .i32 := (Memref.whole cc0_stg2_0 : Memref sig .tc .vmem S1024x2 .i32).view.readAt (Elt F) (Rect.unit (s := S1024x2) (k0_off11 (dev I)) S64x1.size (k0_off11_inb (dev I))).toLoadRect (idx I)

def v1544 (I : Inp F) : IVec S64x1 32 := k0_pay97 (v1543 I)

def c4_i32_736 (I : Inp F) : BitVec 32 := 4#32

def v1546 (I : Inp F) : IVec S64x1 32 := k0_pay98 (v1543 I)

def c0_i32_737 (I : Inp F) : BitVec 32 := 0#32

def v1593 (I : Inp F) : IVec S64x15 32 := k0_pay101 (v1544 I) (c4_i32_736 I) (v1546 I) (c0_i32_737 I)

def v1594 (I : Inp F) : IVec S64x15 32 := k0_pay102 (v2 I)

def v1638 (I : Inp F) : FVec F S64x480 .f32 := k0_pay105 (F := F) (v1592 I) (v1593 I) (v1594 I)

def v1639 (I : Inp F) : FVec F S64x480 .f32 := k0_pay106 (F := F) (v1592 I) (v1593 I) (v1594 I)

def v1667 (I : Inp F) : FVec F S64x480 .bf16 := k0_pay107 (v1638 I) (v1639 I)

def v1668 (I : Inp F) : FVec F S8x1024 .bf16 := k0_pay108 (F := F)

/-- What the device sends at offset `j + 1`: 24 packed rows. -/
def send (I : Inp F) : Fin 15 → Vec F S24x1024 .bf16
  | 0 => (k0_pay46 (v603 I))
  | 1 => (k0_pay47 (v602 I))
  | 2 => (k0_pay59 (v694 I) (v752 I) (v755 I) (v757 I) (v806 I) (c32_i32_386 I) (v807 I))
  | 3 => (k0_pay60 (v835 I))
  | 4 => (k0_pay62 (v882 I))
  | 5 => (k0_pay63 (v835 I))
  | 6 => (k0_pay74 (v973 I) (v1031 I) (v1034 I) (v1036 I) (v1085 I))
  | 7 => (k0_pay75 (v1114 I))
  | 8 => (k0_pay76 (v1114 I))
  | 9 => (k0_pay77 (v1114 I))
  | 10 => (k0_pay91 (v1252 I) (v1310 I) (v1313 I) (v1315 I) (v1339 I) (v1341 I) (v1360 I) (v1361 I))
  | 11 => (k0_pay92 (v1396 I))
  | 12 => (k0_pay93 (v1396 I))
  | 13 => (k0_pay94 (v1396 I))
  | 14 => (k0_pay95 (v1396 I))

/-- The filler of a landing slot's last eight rows. -/
def pad : Vec F S8x1024 .bf16 := k0_pay108 (F := F)

/-- The device's result, from all that landed. -/
def outv (I : Inp F) (r : Vec F S480x1024 .bf16) : FVec F S64x1024 .f32 := k0_pay124 (v1398 I) (v1667 I) r

end Cert.KernelIdeal.Moe

end
-- ==== Proof.Protocol.lean ====
/-
# The exchange between the sixteen devices

Device `c` sends one block of 24 rows to each of the other fifteen: at offset `j + 1` (`j : Fin 15`) to device `sh c j`, into slot
`j` of that device's landing buffer. Before it sends anything it tells every other device that its landing buffer may be written
(one unit on the other's barrier semaphore) and waits for the fifteen units of the others. So the unit device `sh c j` pays to
`c`'s barrier hands over slot `j` of `sh c j`'s landing buffer; the transfer at offset `j + 1` lands the block there and its
completion hands the slot, filled, to `sh c j`.

Here: the cells, the slots, the schedule of payments, what a device owes at launch, and the order of the waits.
-/
module

public import proofs.«01_k».proof.Proof.Values
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Resources -/

/-- The payments of one cell are named by `Fin 15`: which peer pays. -/
abbrev UB : Type := URounds (GSem nD τ sig) (Fin 15)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch. -/
def s₀ : MemSt nD τ sig (Elt F) := ⟨m, fun _ => 0, ρ⟩

/-! ## The devices, by offset -/

set_option backward.proofsInPublic true in
/-- The device `j + 1` places after `c`. -/
def sh (c : Dev nD) (j : Fin 15) : Dev nD := ⟨(c.val + (j.val + 1)) % 16, Nat.mod_lt _ (by decide)⟩

theorem sh_rev (c : Dev nD) (j : Fin 15) : sh (sh c j) j.rev = c := by revert c j; decide +kernel
theorem sh_rev' (c : Dev nD) (j : Fin 15) : sh (sh c j.rev) j = c := by revert c j; decide +kernel
theorem sh_inj (c : Dev nD) (i j : Fin 15) (h : sh c i = sh c j) : i = j := by revert c i j; decide +kernel

/-- Moving every device by one offset is a bijection. -/
def shE (j : Fin 15) : Dev nD ≃ Dev nD := ⟨fun c => sh c j, fun c => sh c j.rev, fun c => sh_rev c j, fun c => sh_rev' c j⟩

theorem dev1_eq (c : Dev nD) : (⟨k0_dev1 c, k0_dev1_lt c⟩ : Dev nD) = sh c 0 := Fin.ext (by revert c; decide +kernel)
theorem dev2_eq (c : Dev nD) : (⟨k0_dev2 c, k0_dev2_lt c⟩ : Dev nD) = sh c 1 := Fin.ext (by revert c; decide +kernel)
theorem dev3_eq (c : Dev nD) : (⟨k0_dev3 c, k0_dev3_lt c⟩ : Dev nD) = sh c 2 := Fin.ext (by revert c; decide +kernel)
theorem dev4_eq (c : Dev nD) : (⟨k0_dev4 c, k0_dev4_lt c⟩ : Dev nD) = sh c 3 := Fin.ext (by revert c; decide +kernel)
theorem dev5_eq (c : Dev nD) : (⟨k0_dev5 c, k0_dev5_lt c⟩ : Dev nD) = sh c 4 := Fin.ext (by revert c; decide +kernel)
theorem dev6_eq (c : Dev nD) : (⟨k0_dev6 c, k0_dev6_lt c⟩ : Dev nD) = sh c 5 := Fin.ext (by revert c; decide +kernel)
theorem dev7_eq (c : Dev nD) : (⟨k0_dev7 c, k0_dev7_lt c⟩ : Dev nD) = sh c 6 := Fin.ext (by revert c; decide +kernel)
theorem dev8_eq (c : Dev nD) : (⟨k0_dev8 c, k0_dev8_lt c⟩ : Dev nD) = sh c 7 := Fin.ext (by revert c; decide +kernel)
theorem dev9_eq (c : Dev nD) : (⟨k0_dev9 c, k0_dev9_lt c⟩ : Dev nD) = sh c 8 := Fin.ext (by revert c; decide +kernel)
theorem dev10_eq (c : Dev nD) : (⟨k0_dev10 c, k0_dev10_lt c⟩ : Dev nD) = sh c 9 := Fin.ext (by revert c; decide +kernel)
theorem dev11_eq (c : Dev nD) : (⟨k0_dev11 c, k0_dev11_lt c⟩ : Dev nD) = sh c 10 := Fin.ext (by revert c; decide +kernel)
theorem dev12_eq (c : Dev nD) : (⟨k0_dev12 c, k0_dev12_lt c⟩ : Dev nD) = sh c 11 := Fin.ext (by revert c; decide +kernel)
theorem dev13_eq (c : Dev nD) : (⟨k0_dev13 c, k0_dev13_lt c⟩ : Dev nD) = sh c 12 := Fin.ext (by revert c; decide +kernel)
theorem dev14_eq (c : Dev nD) : (⟨k0_dev14 c, k0_dev14_lt c⟩ : Dev nD) = sh c 13 := Fin.ext (by revert c; decide +kernel)
theorem dev15_eq (c : Dev nD) : (⟨k0_dev15 c, k0_dev15_lt c⟩ : Dev nD) = sh c 14 := Fin.ext (by revert c; decide +kernel)
theorem dev16_eq (c : Dev nD) : (⟨k0_dev16 c, k0_dev16_lt c⟩ : Dev nD) = sh c 0 := Fin.ext (by revert c; decide +kernel)
theorem dev17_eq (c : Dev nD) : (⟨k0_dev17 c, k0_dev17_lt c⟩ : Dev nD) = sh c 1 := Fin.ext (by revert c; decide +kernel)
theorem dev18_eq (c : Dev nD) : (⟨k0_dev18 c, k0_dev18_lt c⟩ : Dev nD) = sh c 2 := Fin.ext (by revert c; decide +kernel)
theorem dev19_eq (c : Dev nD) : (⟨k0_dev19 c, k0_dev19_lt c⟩ : Dev nD) = sh c 3 := Fin.ext (by revert c; decide +kernel)
theorem dev20_eq (c : Dev nD) : (⟨k0_dev20 c, k0_dev20_lt c⟩ : Dev nD) = sh c 4 := Fin.ext (by revert c; decide +kernel)
theorem dev21_eq (c : Dev nD) : (⟨k0_dev21 c, k0_dev21_lt c⟩ : Dev nD) = sh c 5 := Fin.ext (by revert c; decide +kernel)
theorem dev22_eq (c : Dev nD) : (⟨k0_dev22 c, k0_dev22_lt c⟩ : Dev nD) = sh c 6 := Fin.ext (by revert c; decide +kernel)
theorem dev23_eq (c : Dev nD) : (⟨k0_dev23 c, k0_dev23_lt c⟩ : Dev nD) = sh c 7 := Fin.ext (by revert c; decide +kernel)
theorem dev24_eq (c : Dev nD) : (⟨k0_dev24 c, k0_dev24_lt c⟩ : Dev nD) = sh c 8 := Fin.ext (by revert c; decide +kernel)
theorem dev25_eq (c : Dev nD) : (⟨k0_dev25 c, k0_dev25_lt c⟩ : Dev nD) = sh c 9 := Fin.ext (by revert c; decide +kernel)
theorem dev26_eq (c : Dev nD) : (⟨k0_dev26 c, k0_dev26_lt c⟩ : Dev nD) = sh c 10 := Fin.ext (by revert c; decide +kernel)
theorem dev27_eq (c : Dev nD) : (⟨k0_dev27 c, k0_dev27_lt c⟩ : Dev nD) = sh c 11 := Fin.ext (by revert c; decide +kernel)
theorem dev28_eq (c : Dev nD) : (⟨k0_dev28 c, k0_dev28_lt c⟩ : Dev nD) = sh c 12 := Fin.ext (by revert c; decide +kernel)
theorem dev29_eq (c : Dev nD) : (⟨k0_dev29 c, k0_dev29_lt c⟩ : Dev nD) = sh c 13 := Fin.ext (by revert c; decide +kernel)
theorem dev30_eq (c : Dev nD) : (⟨k0_dev30 c, k0_dev30_lt c⟩ : Dev nD) = sh c 14 := Fin.ext (by revert c; decide +kernel)

/-! ## Buffers, slots, semaphores -/

abbrev xM : Memref sig .tc .vmem S1024x512 .bf16 := Memref.whole cc0_stg0_0
abbrev wM : Memref sig .tc .vmem S512x64 .bf16 := Memref.whole cc0_stg1_0
abbrev iM : Memref sig .tc .vmem S1024x2 .i32 := Memref.whole cc0_stg2_0
abbrev eM : Memref sig .tc .vmem S4x512x1024 .bf16 := Memref.whole cc0_stg3_0
abbrev oM : Memref sig .tc .vmem S64x1024 .f32 := Memref.whole cc0_stg4_0
abbrev sM : Memref sig .tc .vmem S480x1024 .bf16 := Memref.whole cc0_scratch4
abbrev rM : Memref sig .tc .vmem S480x1024 .bf16 := Memref.whole cc0_scratch5

theorem inb_slot (j : Fin 15) : ∀ a, (![32 * j.val, 0] : Fin 2 → ℕ) a + S24x1024.size a ≤ S480x1024.size a := by revert j; decide
theorem inb_padr (j : Fin 15) : ∀ a, (![32 * j.val + 24, 0] : Fin 2 → ℕ) a + S8x1024.size a ≤ S480x1024.size a := by revert j; decide
theorem inb_sem (j : Fin 15) : ∀ a, (![j.val + 1] : Fin 1 → ℕ) a + S1.size a ≤ S16.size a := by revert j; decide

abbrev slotR (j : Fin 15) : Rect S480x1024 := Rect.unit (s := S480x1024) ![32 * j.val, 0] S24x1024.size (inb_slot j)
abbrev padR (j : Fin 15) : Rect S480x1024 := Rect.unit (s := S480x1024) ![32 * j.val + 24, 0] S8x1024.size (inb_padr j)

/-- Slot `j` of the sending and of the landing buffer: 24 rows from row `32 j`. -/
abbrev sndM (j : Fin 15) : Memref sig .tc .vmem S24x1024 .bf16 := sM.slice (slotR j) (fun _ => rfl)
abbrev rcvM (j : Fin 15) : Memref sig .tc .vmem S24x1024 .bf16 := rM.slice (slotR j) (fun _ => rfl)

abbrev sSems (j : Fin 15) : DmaSems sig S_ := (cc0_scratch6.slice (Rect.unit (s := S16) ![j.val + 1] S1.size (inb_sem j))).squeeze S_ squeezes_S1_S_
abbrev rSems (j : Fin 15) : DmaSems sig S_ := (cc0_scratch7.slice (Rect.unit (s := S16) ![j.val + 1] S1.size (inb_sem j))).squeeze S_ squeezes_S1_S_

/-- The runtime's barrier semaphore. -/
abbrev barS : Sem sig := (SemArray.scalar (sig.barrier 0 rfl) : Sems sig S_).sem

/-- The cells a device takes part with: its barrier, a sending one and a receiving one for each offset. -/
abbrev Kd : Type := Option (Bool × Fin 15)
def csem : Kd → SemLoc sig
  | none => .reg barS
  | some (false, j) => .dma (sSems j).sem
  | some (true, j) => .dma (rSems j).sem

abbrev cell (c : Dev nD) (k : Kd) : GSem nD τ sig := ((c : Thread nD τ), csem k)

abbrev barCell (c : Dev nD) : GSem nD τ sig := ((c : Thread nD τ), .reg barS)
abbrev sendCell (c : Dev nD) (j : Fin 15) : GSem nD τ sig := ((c : Thread nD τ), .dma (sSems j).sem)
abbrev recvCell (c : Dev nD) (j : Fin 15) : GSem nD τ sig := ((c : Thread nD τ), .dma (rSems j).sem)

/-- Which of them a semaphore is. -/
def kindOf : SemLoc sig → Option Kd
  | .reg _ => some none
  | .dma q =>
    if h : 6 ≤ q.val ∧ q.val < 21 then some (some (false, ⟨q.val - 6, by omega⟩))
    else if h : 22 ≤ q.val ∧ q.val < 37 then some (some (true, ⟨q.val - 22, by omega⟩))
    else none

theorem kindOf_csem (k : Kd) : kindOf (csem k) = some k := by revert k; decide +kernel
theorem kindOf_bar : kindOf (.reg barS) = some none := rfl
theorem kindOf_send (j : Fin 15) : kindOf (.dma (sSems j).sem) = some (some (false, j)) := kindOf_csem (some (false, j))
theorem kindOf_recv (j : Fin 15) : kindOf (.dma (rSems j).sem) = some (some (true, j)) := kindOf_csem (some (true, j))

theorem csem_inj : Function.Injective csem := fun a b h => by
  have := kindOf_csem a; rw [h, kindOf_csem] at this; exact (Option.some.inj this).symm

/-- The credit of one transfer. -/
abbrev N : ℕ := (rcvM 0).view.dmaCredit
theorem N_pos : 0 < N := View.dmaCredit_pos _ (by decide)
theorem credit_rcv (j : Fin 15) : (rcvM j).view.dmaCredit = N := rfl
theorem credit_snd (j : Fin 15) : (sndM j).view.dmaCredit = N := by decide +revert +kernel

/-! ## Contents -/

/-- What device `c` reads. -/
def In (c : Dev nD) : Inp F where
  dev := c
  x := (win0_0.blk (0 : Fin 1)).view.read (Elt F) ((s₀ m ρ).mem ((c : Thread nD τ).loc main_arg0))
  rw := (win0_1.blk (0 : Fin 1)).view.read (Elt F) ((s₀ m ρ).mem ((c : Thread nD τ).loc main_arg1))
  idx := (win0_2.blk (0 : Fin 1)).view.read (Elt F) ((s₀ m ρ).mem ((c : Thread nD τ).loc main_arg2))
  ew := (win0_3.blk (0 : Fin 1)).view.read (Elt F) ((s₀ m ρ).mem ((c : Thread nD τ).loc main_arg3))

theorem row_div (i : S480x1024.Idx) : (i 0).val / 32 < 15 := by
  have : (i 0).val < 480 := (i 0).isLt
  omega

/-- The landing buffer of device `c` once everything has landed and the rows between the slots are cleared: slot `j` holds what
    the device `j + 1` places before `c` packed for `c`. -/
def landed (c : Dev nD) : Vec F S480x1024 .bf16 := fun i =>
  if h : (i 0).val % 32 < 24 then send (In m ρ (sh c (Fin.rev ⟨(i 0).val / 32, row_div i⟩))) ⟨(i 0).val / 32, row_div i⟩ (ix2 ⟨(i 0).val % 32, h⟩ (i 1))
  else pad (ix2 ⟨(i 0).val % 32 - 24, by omega⟩ (i 1))

/-- Slot `j` of the sending buffer of device `c`, and of its landing buffer. -/
def sSlot (c : Dev nD) (j : Fin 15) (f : Buf (Elt F) ((sndM j).view.loc (c : Thread nD τ))) : sProp 𝕄 :=
  (sndM j).view.loc (c : Thread nD τ) ↦[(sndM j).view.set]{fullShare} f
def rSlot (c : Dev nD) (j : Fin 15) (f : Buf (Elt F) ((rcvM j).view.loc (c : Thread nD τ))) : sProp 𝕄 :=
  (rcvM j).view.loc (c : Thread nD τ) ↦[(rcvM j).view.set]{fullShare} f

instance sSlot_storable (c : Dev nD) (j f) : BI.Storable (upEmb : UEmb _ 𝕄) (sSlot (F := F) c j f) := by unfold sSlot; infer_instance
instance rSlot_storable (c : Dev nD) (j f) : BI.Storable (upEmb : UEmb _ 𝕄) (rSlot (F := F) c j f) := by unfold rSlot; infer_instance

/-- Writing the block device `c` packed for `sh c j` into slot `j` there leaves what `landed` says. -/
theorem landed_slot (c : Dev nD) (j : Fin 15) (fd : Buf (Elt F) ((rcvM j).view.loc (sh c j : Thread nD τ))) (w : Vec F S24x1024 .bf16)
    (hw : w = send (In m ρ c) j) :
    rSlot (sh c j) j ((rcvM j).view.write (Elt F) fd w Finset.univ) = rSlot (sh c j) j (landed m ρ (sh c j)) := by
  subst hw
  unfold rSlot
  refine pointsTo_congr fun i hi => ?_
  obtain ⟨y, -, rfl⟩ := Finset.mem_map.mp hi
  rw [View.write_emb_of_mem _ _ (Finset.mem_univ _)]
  have h0 : ((rcvM j).view.emb y 0).val = 32 * j.val + (y 0).val := by
    show (32 * j.val + 1 * (y 0).val) = _
    omega
  have h1 : (rcvM j).view.emb y 1 = y 1 := Fin.ext (by show (0 + 1 * (y 1).val) = _; omega)
  have hy : (y 0).val < 24 := (y 0).isLt
  have hd : (⟨((rcvM j).view.emb y 0).val / 32, row_div _⟩ : Fin 15) = j := Fin.ext (by show _ / 32 = _; rw [h0]; omega)
  have hm : ((rcvM j).view.emb y 0).val % 32 = (y 0).val := by rw [h0]; omega
  show send (In m ρ c) j y = landed m ρ (sh c j) ((rcvM j).view.emb y)
  unfold landed
  rw [dif_pos (by rw [hm]; exact hy), hd, sh_rev]
  congr 1
  funext a
  refine Fin.cases ?_ (fun b => ?_) a
  · exact Fin.ext hm.symm
  · obtain rfl : b = 0 := Subsingleton.elim _ _
    exact h1.symm

/-! ## The schedule -/

/-- What the unit paid by `sh c d` to the barrier of `c` hands over: slot `d` of the landing buffer there. -/
def barPay (c : Dev nD) (d : Fin 15) : sProp 𝕄 := iprop(∃ f, rSlot (sh c d) d f)
/-- What a landing hands over: the slot, filled. -/
def recvPay (c : Dev nD) (j : Fin 15) : sProp 𝕄 := rSlot c j (landed m ρ c)
/-- What the end of a sending hands back: the slot sent from. -/
def sendPay (c : Dev nD) (j : Fin 15) : sProp 𝕄 := iprop(∃ f, sSlot c j f)

/-- One round. A barrier is paid one unit by every other device; a sending or receiving cell is paid once, by the transfer. -/
def xRd : Rounds.Schedule (GSem nD τ sig) (Fin 15) 𝕄 where
  duties g r := if r = 0 ∧ g.1.2 = .tc then (match kindOf g.2 with | some none => Finset.univ | some (some _) => {0} | none => ∅) else ∅
  unitless _ := False
  amount g _ _ := match kindOf g.2 with | some (some _) => N | _ => 1
  payload g _ d := match kindOf g.2 with
    | some none => barPay g.1.1 d
    | some (some (false, j)) => sendPay g.1.1 j
    | some (some (true, j)) => recvPay m ρ g.1.1 j
    | none => iprop(emp)
  amount_pos g _ _ _ := by
    show 0 < (match kindOf g.2 with | some (some _) => N | _ => 1)
    split
    · exact N_pos
    · exact Nat.one_pos

instance xRd_payload_storable (g : GSem nD τ sig) (r : ℕ) (d : Fin 15) : BI.Storable (upEmb : UEmb _ 𝕄) ((xRd (F := F) m ρ).payload g r d) := by
  show BI.Storable upEmb (match kindOf g.2 with
    | some none => barPay g.1.1 d
    | some (some (false, j)) => sendPay g.1.1 j
    | some (some (true, j)) => recvPay m ρ g.1.1 j
    | none => iprop(emp))
  unfold barPay recvPay sendPay
  split <;> infer_instance

section Sched
variable (c : Dev nD) (j d : Fin 15)

theorem duties_bar : (xRd (F := F) m ρ).duties (barCell c) 0 = Finset.univ := by dsimp only [xRd]; rw [if_pos ⟨rfl, rfl⟩, kindOf_bar]
theorem duties_send : (xRd (F := F) m ρ).duties (sendCell c j) 0 = {0} := by dsimp only [xRd]; rw [if_pos ⟨rfl, rfl⟩, kindOf_send]
theorem duties_recv : (xRd (F := F) m ρ).duties (recvCell c j) 0 = {0} := by dsimp only [xRd]; rw [if_pos ⟨rfl, rfl⟩, kindOf_recv]
theorem duties_later (g : GSem nD τ sig) : ∀ r, 1 ≤ r → (xRd (F := F) m ρ).duties g r = ∅ :=
  fun r hr => by dsimp only [xRd]; rw [if_neg fun h => by omega]

theorem amount_bar : (xRd (F := F) m ρ).amount (barCell c) 0 d = 1 := by dsimp only [xRd]; rw [kindOf_bar]
theorem amount_send : (xRd (F := F) m ρ).amount (sendCell c j) 0 d = N := by dsimp only [xRd]; rw [kindOf_send]
theorem amount_recv : (xRd (F := F) m ρ).amount (recvCell c j) 0 d = N := by dsimp only [xRd]; rw [kindOf_recv]

theorem payload_bar : (xRd (F := F) m ρ).payload (barCell c) 0 d = barPay c d := by dsimp only [xRd]; rw [kindOf_bar]
theorem payload_send : (xRd (F := F) m ρ).payload (sendCell c j) 0 d = sendPay c j := by dsimp only [xRd]; rw [kindOf_send]
theorem payload_recv : (xRd (F := F) m ρ).payload (recvCell c j) 0 d = recvPay m ρ c j := by dsimp only [xRd]; rw [kindOf_recv]

theorem expect_bar : (xRd (F := F) m ρ).expect (barCell c) 0 = 15 := by
  unfold Schedule.expect Schedule.amountOf
  rw [duties_bar, Finset.sum_congr rfl fun d _ => amount_bar m ρ c d, Finset.sum_const, Finset.card_univ, Fintype.card_fin, smul_eq_mul]
theorem expect_send : (xRd (F := F) m ρ).expect (sendCell c j) 0 = N := by
  unfold Schedule.expect Schedule.amountOf; rw [duties_send, Finset.sum_singleton, amount_send]
theorem expect_recv : (xRd (F := F) m ρ).expect (recvCell c j) 0 = N := by
  unfold Schedule.expect Schedule.amountOf; rw [duties_recv, Finset.sum_singleton, amount_recv]

theorem rest_bar : bigSep ((xRd (F := F) m ρ).duties (barCell c) 0 \ ∅) (fun d => (xRd (F := F) m ρ).payload (barCell c) 0 d)
    = bigSep Finset.univ fun d => barPay c d := by
  rw [Finset.sdiff_empty, duties_bar]; exact bigSep_congr fun d _ => payload_bar m ρ c d
theorem rest_send : bigSep ((xRd (F := F) m ρ).duties (sendCell c j) 0 \ ∅) (fun d => (xRd (F := F) m ρ).payload (sendCell c j) 0 d) = sendPay c j := by
  rw [Finset.sdiff_empty, duties_send, bigSep_singleton, payload_send]
theorem rest_recv : bigSep ((xRd (F := F) m ρ).duties (recvCell c j) 0 \ ∅) (fun d => (xRd (F := F) m ρ).payload (recvCell c j) 0 d) = recvPay m ρ c j := by
  rw [Finset.sdiff_empty, duties_recv, bigSep_singleton, payload_recv]

end Sched

/-! ## What a device owes; the order of the waits -/

/-- The offsets from the `n`-th on. -/
def from_ (n : ℕ) : Finset (Fin 15) := Finset.univ.filter fun j => n ≤ j.val

theorem from_step (j : Fin 15) : from_ j.val = insert j (from_ (j.val + 1)) := by revert j; decide +kernel
theorem not_mem_from (j : Fin 15) : j ∉ from_ (j.val + 1) := by revert j; decide +kernel
theorem from_zero : from_ 0 = Finset.univ := by decide +kernel
theorem from_end : from_ 15 = ∅ := by decide +kernel

/-- Device `c` owes the credits of the transfers it has not started yet, -/
def owR (c : Dev nD) (n : ℕ) : CellTallies nD τ sig Unit := ∑ j ∈ from_ n, tallyAt (recvCell (sh c j) j) () N
/-- and, while it is still telling the others, one unit to the barrier of each it has not told. -/
def owB (c : Dev nD) (n : ℕ) : CellTallies nD τ sig Unit := (∑ j ∈ from_ n, tallyAt (barCell (sh c j)) () 1) + owR c 0

theorem owR_step (c : Dev nD) (j : Fin 15) : owR c j.val = owR c (j.val + 1) + tallyAt (recvCell (sh c j) j) () N := by
  unfold owR; rw [from_step, Finset.sum_insert (not_mem_from j), add_comm]
theorem owR_end (c : Dev nD) : owR c 15 = 0 := by unfold owR; rw [from_end, Finset.sum_empty]
theorem owB_step (c : Dev nD) (j : Fin 15) : owB c j.val = owB c (j.val + 1) + tallyAt (barCell (sh c j)) () 1 := by
  unfold owB; rw [from_step, Finset.sum_insert (not_mem_from j), add_comm (tallyAt _ _ _), add_right_comm]
theorem owB_end (c : Dev nD) : owB c 15 = owR c 0 := by unfold owB; rw [from_end, Finset.sum_empty, zero_add]

def O₀ (c : Dev nD) : CellTallies nD τ sig Unit := owB c 0

def L (g : GSem nD τ sig) : Finset Unit := if g.1.2 = .tc then {()} else ∅
/-- Barriers come before landings; the staging and the sending cells before both. -/
def lv (g : GSem nD τ sig) (_ : Unit) : ℕ := match kindOf g.2 with | some none => 1 | some (some (true, _)) => 2 | _ => 0

theorem L_of_ne (g : GSem nD τ sig) (h : g.1.2 ≠ .tc) : L g = ∅ := if_neg h
theorem L_tc (c : Dev nD) (sm : SemLoc sig) : L ((c : Thread nD τ), sm) = {()} := if_pos rfl

theorem sum_tally_pos {s : Finset (Fin 15)} {f : Fin 15 → GSem nD τ sig} {n : ℕ} {g : GSem nD τ sig} {u : Unit}
    (h : 0 < (∑ j ∈ s, (tallyAt (f j) () n : CellTallies nD τ sig Unit)) g u) : ∃ j, g = f j := by
  by_contra hn
  rw [not_exists] at hn
  rw [Finset.sum_apply, Finsupp.finset_sum_apply, Finset.sum_eq_zero fun j _ => by rw [tallyAt_apply, if_neg fun h => hn j h.1]] at h
  exact Nat.lt_irrefl 0 h

theorem owR_pos {c : Dev nD} {n : ℕ} {g : GSem nD τ sig} {u : Unit} (h : 0 < owR c n g u) : ∃ j, g = recvCell (sh c j) j := sum_tally_pos h
theorem O₀_pos {c : Dev nD} {g : GSem nD τ sig} {u : Unit} (h : 0 < O₀ c g u) : (∃ j, g = barCell (sh c j)) ∨ ∃ j, g = recvCell (sh c j) j := by
  unfold O₀ owB at h
  rw [Pi.add_apply, Finsupp.add_apply] at h
  rcases Nat.eq_zero_or_pos ((∑ j ∈ from_ 0, (tallyAt (barCell (sh c j)) () 1 : CellTallies nD τ sig Unit)) g u) with h0 | h0
  · rw [h0, zero_add] at h; exact .inr (owR_pos h)
  · exact .inl (sum_tally_pos h0)

theorem lv_bar (c : Dev nD) (u : Unit) : lv (barCell c) u = 1 := by dsimp only [lv]; rw [kindOf_bar]
theorem lv_recv (c : Dev nD) (j : Fin 15) (u : Unit) : lv (recvCell c j) u = 2 := by dsimp only [lv]; rw [kindOf_recv]

theorem mayWait_stage (c : Dev nD) (q : DmaSem sig) (hq : kindOf (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨j, rfl⟩ | ⟨j, rfl⟩ <;> exact Finset.mem_singleton_self _)
      (fun p hp => by rw [Finset.mem_singleton.mp hp]; dsimp only [lv]; rw [hq])
      (fun g u hg => by
        rcases O₀_pos hg with ⟨j, rfl⟩ | ⟨j, rfl⟩
        · rw [lv_bar]; decide
        · rw [lv_recv]; decide)
  · rw [MayWait_zero]; iintro -; iempintro

theorem mayWait_bar (c : Dev nD) : (levAts L lv : sProp 𝕄) ⊢ MayWait (c : Thread nD τ) (.reg barS) () (owR c 0) :=
  MayOwe.of_cut (L := L) (lev := lv) 1 (fun p hp => by rw [Finset.mem_singleton.mp hp, L_tc]; exact Finset.mem_singleton_self _)
    (fun g u hg => by obtain ⟨j, rfl⟩ := owR_pos hg; exact Finset.mem_singleton_self _)
    (fun p hp => by rw [Finset.mem_singleton.mp hp, lv_bar])
    (fun g u hg => by obtain ⟨j, rfl⟩ := owR_pos hg; rw [lv_recv]; decide)

end Cert.KernelIdeal.Moe

end
-- ==== Proof.Steps.lean ====
/-
# One step of the body at a time

Each effect of the body that touches the exchange, as one rule generic in the offset, over a state that says how far the device
has got: how many peers it has told, how many blocks it has sent, received, and seen out.
-/
module

public import proofs.«01_k».proof.Proof.Protocol

@[expose] public section

noncomputable section

namespace Cert.KernelIdeal.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-- The weakest precondition of a program of device `c`. -/
abbrev Wp (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## A local buffer, filled piece by piece -/

/-- The buffer holds `g` at the indices in `S`, and anything elsewhere. -/
def At (c : Dev nD) {sp : Space} {s : Shape} {e : EltTy} (M : Memref sig .tc sp s e) (S : s.Idx → Prop) (g : Vec F s e) : sProp 𝕄 :=
  iprop(∃ f : Buf (Elt F) (M.view.loc (c : Thread nD τ)), ⌜∀ i, S i → M.view.read (Elt F) f i = g i⌝ ∗ (M.view.loc (c : Thread nD τ) ↦{fullShare} f))

section Local
variable (c : Dev nD) {cs : CoreSpace} {s : Shape} {e : EltTy}

theorem at_start {M : Memref sig .tc cs s e} (g : Vec F s e) (f : Buf (Elt F) (M.view.loc (c : Thread nD τ))) :
    (M.view.loc (c : Thread nD τ) ↦{fullShare} f) ⊢ At c M (fun _ => False) g := by
  unfold At; iintro H; iexists f
  isplitr
  · ipureintro; intro i h; exact h.elim
  · iexact H

/-- A load whose value nothing uses. -/
theorem at_load {α : Type} {Q : α → sProp 𝕄} {M : Memref sig .tc cs s e} {S : s.Idx → Prop} {g : Vec F s e} {r : LoadRect s} {hl : M.view.LoadsAt r}
    {k : (r.shape.Idx → Elt F e) → Prog (TpuEff nD τ sig (Elt F) Λ₀ .tc) α} :
    At c M S g ⊢ iprop((∀ v, At c M S g -∗ Wp c (k v) Q) -∗ Wp c (.op (.load M r hl) k) Q) := by
  unfold At
  iintro ⟨%f, %hf, H⟩ Hk
  iapply (wp_load 𝒱₀ (c : Thread nD τ) none Set.univ (Finset.subset_univ _)) $$ H
  iintro H
  iapply Hk
  iexists f
  isplitr
  · ipureintro; exact hf
  · iexact H

/-- A store of `g`'s own values over a rectangle. -/
theorem at_store {α : Type} {Q : α → sProp 𝕄} {M : Memref sig .tc cs s e} {S : s.Idx → Prop} {g : Vec F s e} {r : Rect s} {w : r.shape.Idx → Elt F e}
    {hx : (M.access r).Stores Finset.univ} {hm : (Finset.univ : Finset r.shape.Idx) = Finset.univ ∨ ∀ a, r.stride a = 1}
    {k : PUnit → Prog (TpuEff nD τ sig (Elt F) Λ₀ .tc) α} (hw : ∀ y, w y = g (r.emb y)) :
    At c M S g ⊢ iprop((At c M (fun i => i ∈ r.set ∨ S i) g -∗ Wp c (k ⟨⟩) Q) -∗ Wp c (.op (.store M r w Finset.univ hx hm) k) Q) := by
  unfold At
  iintro ⟨%f, %hf, H⟩ Hk
  iapply (wp_store 𝒱₀ (c : Thread nD τ) none Set.univ (m := M) (r := r) (Mk := Finset.univ) (Finset.subset_univ _)) $$ H
  iintro H
  iapply Hk
  iexists _
  isplitr
  · ipureintro
    intro i hi
    by_cases hr : i ∈ Finset.univ.map r.emb
    · obtain ⟨y, -, rfl⟩ := Finset.mem_map.mp hr
      rw [← hw y]
      exact View.read_slice_write_emb (v := M.view) (Val := Elt F) r f w (Finset.mem_univ y)
    · have h2 := View.read_slice_write_of_not_mem (v := M.view) (Val := Elt F) r f w Finset.univ hr
      refine h2.trans (hf i ?_)
      rcases hi with hi | hi
      · exact absurd (by rw [Rect.map_emb_univ]; exact hi) hr
      · exact hi
  · iexact H

/-- Filled everywhere, the buffer holds `g`. -/
theorem at_done {b : Ref sig .tc} {S : b.ty.shape.Idx → Prop} {g : b.ty.Contents (Elt F)} (h : ∀ i, S i) :
    At c (Memref.whole b) S g ⊢ (((c : Thread nD τ).loc b) ↦{fullShare} g : sProp 𝕄) := by
  unfold At
  iintro ⟨%f, %hf, H⟩
  have : f = g := funext fun i => by
    have h' : (View.whole b).read (Elt F) f i = g i := hf i (h i)
    rw [View.read_whole] at h'; exact h'
  subst this
  iexact H

/-- A load of a buffer whose contents are known. -/
theorem ld {α : Type} {Q : α → sProp 𝕄} {M : Memref sig .tc cs s e} {r : LoadRect s} {hl : M.view.LoadsAt r} {f : Buf (Elt F) (M.view.loc (c : Thread nD τ))}
    {k : (r.shape.Idx → Elt F e) → Prog (TpuEff nD τ sig (Elt F) Λ₀ .tc) α} :
    (M.view.loc (c : Thread nD τ) ↦{fullShare} f)
      ⊢ iprop(((M.view.loc (c : Thread nD τ) ↦{fullShare} f) -∗ Wp c (k (M.view.readAt (Elt F) r f)) Q) -∗ Wp c (.op (.load M r hl) k) Q) :=
  wp_load 𝒱₀ (c : Thread nD τ) none Set.univ (Finset.subset_univ _)

end Local

/-! ## The exchange -/

variable (m : (ℓ : Loc nD τ sig) → Buf (Elt F) ℓ) (ρ : Dev nD → PrngReg)

/-- The offsets below `n`. -/
def upto (n : ℕ) : Finset (Fin 15) := Finset.univ.filter fun j => j.val < n
theorem upto_step (j : Fin 15) : upto (j.val + 1) = insert j (upto j.val) := by revert j; decide +kernel
theorem not_mem_upto (j : Fin 15) : j ∉ upto j.val := by revert j; decide +kernel
theorem upto_zero : upto 0 = ∅ := by decide +kernel
theorem upto_end : upto 15 = Finset.univ := by decide +kernel

theorem from_split (j : Fin 15) (Φ : Fin 15 → sProp 𝕄) : bigSep (from_ j.val) Φ = iprop(Φ j ∗ bigSep (from_ (j.val + 1)) Φ) := by
  rw [from_step]; exact bigSep_insert (not_mem_from j)
theorem upto_split (j : Fin 15) (Φ : Fin 15 → sProp 𝕄) : bigSep (upto (j.val + 1)) Φ = iprop(Φ j ∗ bigSep (upto j.val) Φ) := by
  rw [upto_step]; exact bigSep_insert (not_mem_upto j)

/-- The invariants of all the cells of all the devices, and that each has reached its round. -/
def records (K : Dev nD × Kd → ℕ) : sProp 𝕄 :=
  iprop((bigSep Finset.univ fun ck : Dev nD × Kd => cellInv ER (xRd m ρ) (K ck) (cell ck.1 ck.2))
    ∗ bigSep Finset.univ fun ck : Dev nD × Kd => reached ER (cell ck.1 ck.2) 0)

instance records_persistent (K : Dev nD × Kd → ℕ) : BI.Persistent (records m ρ K) := by unfold records; infer_instance

def ctx (K : Dev nD × Kd → ℕ) : sProp 𝕄 := iprop(records m ρ K ∗ levAts L lv)
instance ctx_persistent (K : Dev nD × Kd → ℕ) : BI.Persistent (ctx m ρ K) := by unfold ctx; infer_instance

theorem inv_at (K : Dev nD × Kd → ℕ) (c : Dev nD) (k : Kd) : ctx m ρ K ⊢ cellInv ER (xRd m ρ) (K (c, k)) (cell c k) := by
  unfold ctx records; iintro ⟨⟨HI, -⟩, -⟩
  iapply (show (bigSep Finset.univ fun ck : Dev nD × Kd => (cellInv ER (xRd m ρ) (K ck) (cell ck.1 ck.2) : sProp 𝕄)) ⊢ cellInv ER (xRd m ρ) (K (c, k)) (cell c k) from
    bigSep_elim (Finset.mem_univ (c, k)))
  iexact HI
theorem reached_at (K : Dev nD × Kd → ℕ) (c : Dev nD) (k : Kd) : ctx m ρ K ⊢ reached ER (cell c k) 0 := by
  unfold ctx records; iintro ⟨⟨-, HR⟩, -⟩
  iapply (show (bigSep Finset.univ fun ck : Dev nD × Kd => (reached ER (cell ck.1 ck.2) 0 : sProp 𝕄)) ⊢ reached ER (cell c k) 0 from
    bigSep_elim (Finset.mem_univ (c, k)))
  iexact HR
theorem ctx_wait (K : Dev nD × Kd → ℕ) (c : Dev nD) : ctx m ρ K ⊢ MayWait (c : Thread nD τ) (.reg barS) () (owR c 0) := by
  unfold ctx; iintro ⟨-, H⟩; iapply (mayWait_bar c); iexact H

/-- What the device owes, whatever it has waited for so far. -/
def Ow (c : Dev nD) (O : CellTallies nD τ sig Unit) : sProp 𝕄 := iprop(∃ W : Waits sig Unit, owes (c : Thread nD τ) O W)

/-! ### Telling the peers -/

/-- `n` peers told: for the others the device still has the right to pay their barrier and the slot to hand over. -/
def Sig (c : Dev nD) (n : ℕ) : sProp 𝕄 :=
  iprop(Ow c (owB c n) ∗ bigSep (from_ n) fun j => iprop(dutyTok ER (barCell (sh c j)) 0 j.rev ∗ ∃ f, rSlot c j.rev f))

section Steps
variable (K : Dev nD × Kd → ℕ) (c : Dev nD)

theorem sig_step {α : Type} {Q : α → sProp 𝕄} (j : Fin 15) {n : Dev nD} (hn : n = sh c j) {k' : ℤ} (hk : ((1 : ℕ) : ℤ) = k') {k : PUnit → Prog (TpuEff nD τ sig (Elt F) Λ₀ .tc) α} :
    iprop(ctx m ρ K ∗ Sig c j.val) ⊢ iprop((Sig c (j.val + 1) -∗ Wp c (k ⟨⟩) Q) -∗ Wp c (.op (.semSignal ((n : Dev nD) : Thread nD τ) barS k') k) Q) := by
  subst hn hk
  unfold Sig Ow
  rw [from_split]
  iintro ⟨#Hc, ⟨%W, HO⟩, ⟨Ht, ⟨%f, Hs⟩⟩, Hr⟩ Hk
  iapply (Rounds.wp_signal 𝒱₀ ER (xRd m ρ) (c : Thread nD τ) none (dst := ((sh c j : Dev nD) : Thread nD τ)) (κ := K (sh c j, none))
      (d := j.rev) (by rw [duties_bar]; exact Finset.mem_univ _) (amount_bar m ρ (sh c j) j.rev) () (owB c (j.val + 1)) (owB_step c j))
    $$ [HO Ht Hs]
  · isplitr; · iapply (inv_at m ρ K (sh c j) none); iexact Hc
    isplitl [HO]; · iexact HO
    isplitl [Ht]; · iexact Ht
    isplitl [Hs]
    · rw [payload_bar]; unfold barPay; rw [sh_rev]
      iexists f; iexact Hs
    · iapply (reached_at m ρ K (sh c j) none); iexact Hc
  iintro HO
  iapply Hk
  isplitl [HO]
  · iexists W; iexact HO
  · iexact Hr

/-! ### Waiting for the peers, sending -/

/-- `n` blocks sent: what is left to send with, and the credits of the blocks under way. -/
def Snd (c : Dev nD) (n : ℕ) : sProp 𝕄 :=
  iprop(Ow c (owR c n)
    ∗ (bigSep (from_ n) fun j => iprop(dutyTok ER (sendCell c j) 0 0 ∗ dutyTok ER (recvCell (sh c j) j) 0 0
        ∗ (∃ f, rSlot (sh c j) j f) ∗ ∃ f, sSlot c j f))
    ∗ bigSep (upto n) fun j => cred (tallyAt (sendCell c j) () N))

/-- The same with slot `j` of the sending buffer filled with the block for the device at that offset. -/
def SndF (c : Dev nD) (j : Fin 15) : sProp 𝕄 :=
  iprop(Ow c (owR c j.val) ∗ dutyTok ER (sendCell c j) 0 0 ∗ dutyTok ER (recvCell (sh c j) j) 0 0
    ∗ (∃ f, rSlot (sh c j) j f) ∗ (∃ f, ⌜(sndM j).view.read (Elt F) f = send (In m ρ c) j⌝ ∗ sSlot c j f)
    ∗ (bigSep (from_ (j.val + 1)) fun j => iprop(dutyTok ER (sendCell c j) 0 0 ∗ dutyTok ER (recvCell (sh c j) j) 0 0
        ∗ (∃ f, rSlot (sh c j) j f) ∗ ∃ f, sSlot c j f))
    ∗ bigSep (upto j.val) fun j => cred (tallyAt (sendCell c j) () N))

theorem each {I : Type} {s : Finset I} {Φ Ψ : I → sProp 𝕄} (h : ∀ i ∈ s, Φ i ⊢ Ψ i) : bigSep s Φ ⊢ bigSep s Ψ := bigSep_mono h

/-- What a device holds between its last signal and its first sending. -/
theorem bar_wait {α : Type} {Q : α → sProp 𝕄} {n : ℕ} (hn : n = 15) {k' : ℤ} (hk : (n : ℤ) = k') {k : PUnit → Prog (TpuEff nD τ sig (Elt F) Λ₀ .tc) α} :
    iprop(ctx m ρ K ∗ cred (tallyAt (barCell c) () 15) ∗ atPos ER (barCell c) 0 ∅ 0 ∗ Sig c 15
        ∗ (bigSep Finset.univ fun j => iprop(dutyTok ER (sendCell c j) 0 0 ∗ dutyTok ER (recvCell (sh c j) j) 0 0 ∗ ∃ f, sSlot c j f)))
      ⊢ iprop(((Snd c 0 ∗ semVal (barCell c) 0) -∗ Wp c (k ⟨⟩) Q) -∗ Wp c (.op (.semWait barS k') k) Q) := by
  subst hk
  unfold Sig Ow
  rw [from_end, owB_end]
  iintro ⟨#Hc, Hcr, Hat, ⟨⟨%W, HO⟩, -⟩, Hs⟩ Hk
  iapply (Rounds.wp_wait_rest_token 𝒱₀ ER (xRd m ρ) (c : Thread nD τ) none (κ := K (c, none))
      (wpE_semWait_eq 𝒱₀ (c : Thread nD τ) none Set.univ) (Set.mem_univ _) () (O := owR c 0) (W := W) (R := 0) (m := 0) (T := ∅)
      (by rw [expect_bar, hn])) $$ [Hcr HO Hat]
  · isplitr; · iapply (inv_at m ρ K c none); iexact Hc
    isplitl [Hcr]; · rw [hn]; iexact Hcr
    isplitl [HO]; · iexact HO
    isplitr; · iapply (ctx_wait m ρ K c); iexact Hc
    iexact Hat
  iintro ⟨HO, Hat, -, Hpay⟩
  ihave Hp := (Entails.of_eq (rest_bar m ρ c)) $$ Hpay
  imod (Rounds.cell_close ER (xRd m ρ) (Set.mem_univ (K (c, none))) (fun h => h) (R := 0 + 1) (duties_later m ρ (barCell c))) $$ [Hat] with Hz
  · isplitr; · iapply (inv_at m ρ K c none); iexact Hc
    iexact Hat
  iapply Hk
  isplitr [Hz]
  · unfold Snd Ow
    rw [from_zero, upto_zero, bigSep_empty]
    isplitl [HO]; · iexists _; iexact HO
    isplitl [Hs Hp]
    · ihave H := (Entails.of_eq (bigSep_sep' Finset.univ (fun j => iprop(dutyTok ER (sendCell c j) 0 0 ∗ dutyTok ER (recvCell (sh c j) j) 0 0 ∗ ∃ f, sSlot c j f))
        (fun j => (barPay c j : sProp 𝕄))).symm) $$ [Hs Hp]
      · isplitl [Hs] <;> iassumption
      iapply (each fun (j : Fin 15) _ => show iprop((dutyTok ER (sendCell c j) 0 0 ∗ dutyTok ER (recvCell (sh c j) j) 0 0 ∗ ∃ f, sSlot c j f) ∗ barPay c j)
          ⊢ (iprop(dutyTok ER (sendCell c j) 0 0 ∗ dutyTok ER (recvCell (sh c j) j) 0 0 ∗ (∃ f, rSlot (sh c j) j f) ∗ ∃ f, sSlot c j f) : sProp 𝕄) from by
        unfold barPay
        iintro ⟨⟨H1, H2, H3⟩, H4⟩
        isplitl [H1]; · iexact H1
        isplitl [H2]; · iexact H2
        isplitl [H4] <;> iassumption)
      iexact H
    · iempintro
  · iexact Hz

/-- A load of a slot of the sending buffer, its value unused. -/
theorem snd_load {α : Type} {Q : α → sProp 𝕄} (j : Fin 15) {hl : sM.view.LoadsAt (slotR j).toLoadRect} {k : ((slotR j).toLoadRect.shape.Idx → Elt F .bf16) → Prog (TpuEff nD τ sig (Elt F) Λ₀ .tc) α} :
    Snd c j.val ⊢ iprop((∀ v, Snd c j.val -∗ Wp c (k v) Q) -∗ Wp c (.op (.load sM (slotR j).toLoadRect hl) k) Q) := by
  unfold Snd
  rw [from_split]
  iintro ⟨HO, ⟨⟨H1, H2, H3, ⟨%f, H4⟩⟩, H5⟩, H6⟩ Hk
  unfold sSlot
  iapply (wp_load_rect 𝒱₀ (c : Thread nD τ) none Set.univ (m := sM) (r := slotR j) (Finset.Subset.refl _)) $$ H4
  iintro H4
  iapply Hk
  isplitl [HO]; · iexact HO
  isplitr [H6]
  · isplitr [H5]
    · isplitl [H1]; · iexact H1
      isplitl [H2]; · iexact H2
      isplitl [H3]; · iexact H3
      iexists f; iexact H4
    · iexact H5
  · iexact H6

/-- The store that fills it. -/
theorem snd_store {α : Type} {Q : α → sProp 𝕄} (j : Fin 15) {w : (slotR j).shape.Idx → Elt F .bf16} (hw : w = send (In m ρ c) j)
    {hx : (sM.access (slotR j)).Stores Finset.univ} {hm : (Finset.univ : Finset (slotR j).shape.Idx) = Finset.univ ∨ ∀ a, (slotR j).stride a = 1}
    {k : PUnit → Prog (TpuEff nD τ sig (Elt F) Λ₀ .tc) α} :
    Snd c j.val ⊢ iprop((SndF m ρ c j -∗ Wp c (k ⟨⟩) Q) -∗ Wp c (.op (.store sM (slotR j) w Finset.univ hx hm) k) Q) := by
  unfold Snd
  rw [from_split]
  iintro ⟨HO, ⟨⟨H1, H2, H3, ⟨%f, H4⟩⟩, H5⟩, H6⟩ Hk
  unfold sSlot
  iapply (wp_store 𝒱₀ (c : Thread nD τ) none Set.univ (m := sM) (r := slotR j) (Mk := Finset.univ) (S := (sM.access (slotR j)).set) (by rw [View.setOn_univ])) $$ H4
  iintro H4
  iapply Hk
  unfold SndF sSlot
  isplitl [HO]; · iexact HO
  isplitl [H1]; · iexact H1
  isplitl [H2]; · iexact H2
  isplitl [H3]; · iexact H3
  isplitl [H4]
  · iexists _
    isplitr
    · ipureintro
      exact (View.read_write_univ (v := (sndM j).view) (Val := Elt F) f w).trans hw
    · iexact H4
  isplitl [H5] <;> iassumption

/-- The transfer at offset `j + 1`. -/
theorem snd_send {α : Type} {Q : α → sProp 𝕄} (j : Fin 15) {n : Dev nD} (hn : n = sh c j)
    {hsc : (rcvM j : Memref sig (Dev.tc n : Thread nD τ).2.kind .vmem S24x1024 .bf16).view.ref.isScScratch = false}
    {hsrc : (sndM j).view.WordExact} {hdst : (rcvM j).view.WordExact}
    {hsem : DmaTarget.Typed .vmem (.dma (rSems j).sem) (.remote (Dev.tc n : Thread nD τ) (rcvM j) (.dma (sSems j).sem) hsc)}
    {k : PUnit → Prog (TpuEff nD τ sig (Elt F) Λ₀ .tc) α} :
    iprop(ctx m ρ K ∗ SndF m ρ c j) ⊢ iprop((Snd c (j.val + 1) -∗ Wp c (k ⟨⟩) Q)
      -∗ Wp c (.op (.enqueueDma (sndM j) (.remote (Dev.tc n : Thread nD τ) (rcvM j) (.dma (sSems j).sem) hsc) (.dma (rSems j).sem) hsrc hdst hsem) k) Q) := by
  subst hn
  unfold SndF Ow
  iintro ⟨#Hc, ⟨%W, HO⟩, H1, H2, ⟨%fd, H3⟩, ⟨%fs, %hfs, H4⟩, H5, H6⟩ Hk
  unfold sSlot rSlot
  iapply (Rounds.wp_send_pointsTo 𝒱₀ ER (xRd m ρ) (c : Thread nD τ) none (κ₁ := K (c, some (false, j))) (κ₂ := K (sh c j, some (true, j)))
    (r₁ := 0) (r₂ := 0) (d₁ := 0) (d₂ := 0) (fs := fs) (fd := fd)
    (by rw [duties_send]; exact Finset.mem_singleton_self _) (by rw [duties_recv]; exact Finset.mem_singleton_self _)
    () () N rfl (amount_send m ρ c j 0) (amount_recv m ρ (sh c j) j 0) (owR c (j.val + 1)) (owR_step c j) (W := W)
    (by rw [payload_send]; unfold sendPay sSlot; iintro H; iexists fs; iexact H)
    (by rw [payload_recv]; unfold recvPay; rw [← landed_slot m ρ c j fd _ hfs]; unfold rSlot; exact Entails.refl _)) $$ [HO H1 H2 H3 H4]
  · isplitr; · iapply (inv_at m ρ K c (some (false, j))); iexact Hc
    isplitr; · iapply (inv_at m ρ K (sh c j) (some (true, j))); iexact Hc
    isplitl [H4]; · iexact H4
    isplitl [H3]; · iexact H3
    isplitl [HO]; · iexact HO
    isplitl [H1]; · iexact H1
    isplitr; · iapply (reached_at m ρ K c (some (false, j))); iexact Hc
    isplitl [H2]; · iexact H2
    iapply (reached_at m ρ K (sh c j) (some (true, j))); iexact Hc
  iintro ⟨Hcr, HO⟩
  iapply Hk
  unfold Snd Ow sSlot rSlot
  rw [upto_split]
  isplitl [HO]; · iexists W; iexact HO
  isplitl [H5]; · iexact H5
  isplitl [Hcr] <;> iassumption

/-! ### The rows between the slots -/

def padPts (c : Dev nD) (j : Fin 15) (f : Buf (Elt F) (rM.view.loc (c : Thread nD τ))) : sProp 𝕄 :=
  (rM.access (padR j)).loc (c : Thread nD τ) ↦[(rM.access (padR j)).set]{fullShare} f

/-- The first `n` runs of rows between the slots of the landing buffer are cleared. -/
def Pd (c : Dev nD) (n : ℕ) : sProp 𝕄 :=
  iprop((bigSep (from_ n) fun j => iprop(∃ f, padPts c j f)) ∗ bigSep (upto n) fun j => padPts c j (landed m ρ c))

theorem pad_load {α : Type} {Q : α → sProp 𝕄} (j : Fin 15) {hl : rM.view.LoadsAt (padR j).toLoadRect} {k : ((padR j).toLoadRect.shape.Idx → Elt F .bf16) → Prog (TpuEff nD τ sig (Elt F) Λ₀ .tc) α} :
    Pd m ρ c j.val ⊢ iprop((∀ v, Pd m ρ c j.val -∗ Wp c (k v) Q) -∗ Wp c (.op (.load rM (padR j).toLoadRect hl) k) Q) := by
  unfold Pd
  rw [from_split]
  iintro ⟨⟨⟨%f, H1⟩, H2⟩, H3⟩ Hk
  unfold padPts
  iapply (wp_load_rect 𝒱₀ (c : Thread nD τ) none Set.univ (m := rM) (r := padR j) (Finset.Subset.refl _)) $$ H1
  iintro H1
  iapply Hk
  isplitr [H3]
  · isplitl [H1]
    · iexists f; iexact H1
    · iexact H2
  · iexact H3

theorem landed_pad (j : Fin 15) (f : Buf (Elt F) (rM.view.loc (c : Thread nD τ))) (w : (padR j).shape.Idx → Elt F .bf16) (hw : w = pad) :
    padPts c j ((rM.access (padR j)).write (Elt F) f w Finset.univ) = padPts c j (landed m ρ c) := by
  subst hw
  unfold padPts
  refine pointsTo_congr fun i hi => ?_
  obtain ⟨y, -, rfl⟩ := Finset.mem_map.mp hi
  rw [View.write_emb_of_mem _ _ (Finset.mem_univ _)]
  have h0 : ((rM.access (padR j)).emb y 0).val = 32 * j.val + 24 + (y 0).val := by
    show (32 * j.val + 24 + 1 * (y 0).val) = _
    omega
  have h1 : (rM.access (padR j)).emb y 1 = y 1 := Fin.ext (by show (0 + 1 * (y 1).val) = _; omega)
  have hy : (y 0).val < 8 := (y 0).isLt
  have hm : ((rM.access (padR j)).emb y 0).val % 32 = 24 + (y 0).val := by rw [h0]; omega
  show pad y = landed m ρ c ((rM.access (padR j)).emb y)
  unfold landed
  rw [dif_neg (by rw [hm]; omega)]
  congr 1
  funext a
  refine Fin.cases ?_ (fun b => ?_) a
  · exact Fin.ext (by show _ = _ % 32 - 24; rw [hm]; omega)
  · obtain rfl : b = 0 := Subsingleton.elim _ _
    exact h1.symm

theorem pad_store {α : Type} {Q : α → sProp 𝕄} (j : Fin 15) {w : (padR j).shape.Idx → Elt F .bf16} (hw : w = pad)
    {hx : (rM.access (padR j)).Stores Finset.univ} {hm : (Finset.univ : Finset (padR j).shape.Idx) = Finset.univ ∨ ∀ a, (padR j).stride a = 1}
    {k : PUnit → Prog (TpuEff nD τ sig (Elt F) Λ₀ .tc) α} :
    Pd m ρ c j.val ⊢ iprop((Pd m ρ c (j.val + 1) -∗ Wp c (k ⟨⟩) Q) -∗ Wp c (.op (.store rM (padR j) w Finset.univ hx hm) k) Q) := by
  unfold Pd
  rw [from_split, upto_split]
  iintro ⟨⟨⟨%f, H1⟩, H2⟩, H3⟩ Hk
  unfold padPts
  iapply (wp_store 𝒱₀ (c : Thread nD τ) none Set.univ (m := rM) (r := padR j) (Mk := Finset.univ) (S := (rM.access (padR j)).set) (by rw [View.setOn_univ])) $$ H1
  iintro H1
  iapply Hk
  ihave H1 := (Entails.of_eq (show ((rM.access (padR j)).loc (c : Thread nD τ) ↦[(rM.access (padR j)).set]{fullShare} ((rM.access (padR j)).write (Elt F) f w Finset.univ) : sProp 𝕄) = _ from landed_pad m ρ c j f w hw)) $$ H1
  unfold padPts
  isplitl [H2]; · iexact H2
  isplitl [H1] <;> iassumption

/-! ### What lands, and the end of the sendings -/

/-- `n` blocks received. -/
def Rcv (c : Dev nD) (n : ℕ) : sProp 𝕄 :=
  iprop(Ow c 0 ∗ (bigSep (from_ n) fun j => iprop(cred (tallyAt (recvCell c j) () N) ∗ atPos ER (recvCell c j) 0 ∅ 0))
    ∗ bigSep (upto n) fun j => iprop(recvPay m ρ c j ∗ semVal (recvCell c j) 0))

theorem rcv_wait {α : Type} {Q : α → sProp 𝕄} (j : Fin 15) {hsrc : (sndM j).view.WordExact} {hdst : (rcvM j).view.WordExact}
    {k : PUnit → Prog (TpuEff nD τ sig (Elt F) Λ₀ .tc) α} :
    iprop(ctx m ρ K ∗ Rcv m ρ c j.val) ⊢ iprop((Rcv m ρ c (j.val + 1) -∗ Wp c (k ⟨⟩) Q)
      -∗ Wp c (.op (.waitDma2 (rSems j).sem (sndM j) (rcvM j) hsrc hdst) k) Q) := by
  unfold Rcv Ow
  rw [from_split, upto_split]
  iintro ⟨#Hc, ⟨%W, HO⟩, ⟨⟨Hcr, Hat⟩, H1⟩, H2⟩ Hk
  iapply (Rounds.wp_wait_rest_token 𝒱₀ ER (xRd m ρ) (c : Thread nD τ) none (κ := K (c, some (true, j)))
      (wpE_waitDma2_eq 𝒱₀ (c : Thread nD τ) none Set.univ) (Set.mem_univ _) () (O := 0) (W := W) (R := 0) (m := 0) (T := ∅)
      (by rw [Nat.zero_add, expect_recv])) $$ [Hcr HO Hat]
  · isplitr; · iapply (inv_at m ρ K c (some (true, j))); iexact Hc
    isplitl [Hcr]; · iexact Hcr
    isplitl [HO]; · iexact HO
    isplitr; · rw [MayWait_zero]; iempintro
    iexact Hat
  iintro ⟨HO, Hat, -, Hpay⟩
  ihave Hp := (Entails.of_eq (rest_recv m ρ c j)) $$ Hpay
  imod (Rounds.cell_close ER (xRd m ρ) (Set.mem_univ (K (c, some (true, j)))) (fun h => h) (R := 0 + 1) (duties_later m ρ (recvCell c j))) $$ [Hat] with Hz
  · isplitr; · iapply (inv_at m ρ K c (some (true, j))); iexact Hc
    iexact Hat
  iapply Hk
  isplitl [HO]; · iexists _; iexact HO
  isplitl [H1]; · iexact H1
  isplitr [H2]
  · isplitl [Hp] <;> iassumption
  · iexact H2

/-- `n` sendings seen to their end. -/
def Fin' (c : Dev nD) (n : ℕ) : sProp 𝕄 :=
  iprop(Ow c 0 ∗ (bigSep (from_ n) fun j => iprop(cred (tallyAt (sendCell c j) () N) ∗ atPos ER (sendCell c j) 0 ∅ 0))
    ∗ bigSep (upto n) fun j => iprop(sendPay c j ∗ semVal (sendCell c j) 0))

theorem fin_wait {α : Type} {Q : α → sProp 𝕄} (j : Fin 15) {hsrc : (rcvM j).view.WordExact} {hdst : (sndM j).view.WordExact}
    {k : PUnit → Prog (TpuEff nD τ sig (Elt F) Λ₀ .tc) α} :
    iprop(ctx m ρ K ∗ Fin' c j.val) ⊢ iprop((Fin' c (j.val + 1) -∗ Wp c (k ⟨⟩) Q)
      -∗ Wp c (.op (.waitDma2 (sSems j).sem (rcvM j) (sndM j) hsrc hdst) k) Q) := by
  unfold Fin' Ow
  rw [from_split, upto_split]
  iintro ⟨#Hc, ⟨%W, HO⟩, ⟨⟨Hcr, Hat⟩, H1⟩, H2⟩ Hk
  iapply (Rounds.wp_wait_rest_token 𝒱₀ ER (xRd m ρ) (c : Thread nD τ) none (κ := K (c, some (false, j)))
      (wpE_waitDma2_eq 𝒱₀ (c : Thread nD τ) none Set.univ) (Set.mem_univ _) () (O := 0) (W := W) (R := 0) (m := 0) (T := ∅)
      (by rw [Nat.zero_add, expect_send])) $$ [Hcr HO Hat]
  · isplitr; · iapply (inv_at m ρ K c (some (false, j))); iexact Hc
    isplitl [Hcr]; · rw [credit_snd]; iexact Hcr
    isplitl [HO]; · iexact HO
    isplitr; · rw [MayWait_zero]; iempintro
    iexact Hat
  iintro ⟨HO, Hat, -, Hpay⟩
  ihave Hp := (Entails.of_eq (rest_send m ρ c j)) $$ Hpay
  imod (Rounds.cell_close ER (xRd m ρ) (Set.mem_univ (K (c, some (false, j)))) (fun h => h) (R := 0 + 1) (duties_later m ρ (sendCell c j))) $$ [Hat] with Hz
  · isplitr; · iapply (inv_at m ρ K c (some (false, j))); iexact Hc
    iexact Hat
  iapply Hk
  isplitl [HO]; · iexists _; iexact HO
  isplitl [H1]; · iexact H1
  isplitr [H2]
  · isplitl [Hp] <;> iassumption
  · iexact H2

end Steps

end Cert.KernelIdeal.Moe

end
-- ==== Proof.Fill.lean ====
/-
# The steps in the form the parts of the body use them

What the device holds besides the exchange — its four inputs, the four scratch buffers the first phase fills — and each step of
`Steps` with its hypotheses one after the other.
-/
module

public import proofs.«01_k».proof.Proof.Steps

@[expose] public section

noncomputable section

namespace Cert.KernelIdeal.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev xxM : Memref sig .tc .vmem S1344x512 .bf16 := Memref.whole cc0_scratch0
abbrev wwM : Memref sig .tc .vmem S1344x4 .bf16 := Memref.whole cc0_scratch1
abbrev bM : Memref sig .tc .vmem S4x512x1024 .bf16 := Memref.whole cc0_scratch2
abbrev kM : Memref sig .tc .vmem S1344x1 .f32 := Memref.whole cc0_scratch3

/-- A part of the body, at the buffers and semaphores the kernel runs it with. -/
abbrev atBufs {α : Type 1}
    (f : (arg0 : Memref sig .tc .vmem S1024x512 .bf16) → arg0.IsWhole → (arg1 : Memref sig .tc .vmem S512x64 .bf16) → arg1.IsWhole
      → (arg2 : Memref sig .tc .vmem S1024x2 .i32) → arg2.IsWhole → (arg3 : Memref sig .tc .vmem S4x512x1024 .bf16) → arg3.IsWhole
      → (arg4 : Memref sig .tc .vmem S64x1024 .f32) → arg4.IsWhole → (arg5 : Memref sig .tc .vmem S1344x512 .bf16) → arg5.IsWhole
      → (arg6 : Memref sig .tc .vmem S1344x4 .bf16) → arg6.IsWhole → (arg7 : Memref sig .tc .vmem S4x512x1024 .bf16) → arg7.IsWhole
      → (arg8 : Memref sig .tc .vmem S1344x1 .f32) → arg8.IsWhole → (arg9 : Memref sig .tc .vmem S480x1024 .bf16) → arg9.IsWhole
      → (arg10 : Memref sig .tc .vmem S480x1024 .bf16) → arg10.IsWhole → DmaSems sig S16 → DmaSems sig S16 → α) : α :=
  f xM (Memref.isWhole_whole _) wM (Memref.isWhole_whole _) iM (Memref.isWhole_whole _) eM (Memref.isWhole_whole _) oM (Memref.isWhole_whole _)
    xxM (Memref.isWhole_whole _) wwM (Memref.isWhole_whole _) bM (Memref.isWhole_whole _) kM (Memref.isWhole_whole _)
    sM (Memref.isWhole_whole _) rM (Memref.isWhole_whole _) cc0_scratch6 cc0_scratch7

variable (m : (ℓ : Loc nD τ sig) → Buf (Elt F) ℓ) (ρ : Dev nD → PrngReg) (K : Dev nD × Kd → ℕ) (c : Dev nD)

/-- The inputs, and the filled scratch buffers. -/
abbrev B0 : sProp 𝕄 := xM.view.loc (c : Thread nD τ) ↦{fullShare} (In m ρ c).x
abbrev B1 : sProp 𝕄 := wM.view.loc (c : Thread nD τ) ↦{fullShare} (In m ρ c).rw
abbrev B2 : sProp 𝕄 := iM.view.loc (c : Thread nD τ) ↦{fullShare} (In m ρ c).idx
abbrev B3 : sProp 𝕄 := eM.view.loc (c : Thread nD τ) ↦{fullShare} (In m ρ c).ew
abbrev B5 : sProp 𝕄 := xxM.view.loc (c : Thread nD τ) ↦{fullShare} (x2 (In m ρ c))
abbrev B6 : sProp 𝕄 := wwM.view.loc (c : Thread nD τ) ↦{fullShare} (w2 (In m ρ c))
abbrev B7 : sProp 𝕄 := bM.view.loc (c : Thread nD τ) ↦{fullShare} (ewb (In m ρ c))
abbrev B8 : sProp 𝕄 := kM.view.loc (c : Thread nD τ) ↦{fullShare} (mask2 (In m ρ c))
/-- The weight columns below `n`, the expert matrices below `n`. -/
abbrev A6 (n : ℕ) : sProp 𝕄 := At c wwM (fun i => (i 1).val < n) (w2 (In m ρ c))
abbrev A7 (n : ℕ) : sProp 𝕄 := At c bM (fun i => (i 0).val < n) (ewb (In m ρ c))

variable {α : Type} {β : Type}

theorem ret {Q : α → sProp 𝕄} (a : α) : Q a ⊢ Wp c (.ret a) Q := by
  unfold Wp; rw [wp_ret]; iintro H; imodintro; iexact H
theorem seq {Q : β → sProp 𝕄} (p : Prog (TpuEff nD τ sig (Elt F) Λ₀ .tc) α) (k : α → Prog (TpuEff nD τ sig (Elt F) Λ₀ .tc) β) :
    Wp c p (fun a => Wp c (k a) Q) ⊢ Wp c (p >>= k) Q := by
  unfold Wp; rw [wp_bind]

theorem tell {Q : α → sProp 𝕄} (j : ℕ) (h : j < 15) {n : Dev nD} (hn : n = sh c ⟨j, h⟩) {k' : ℤ} (hk : ((1 : ℕ) : ℤ) = k') {k : PUnit → Prog (TpuEff nD τ sig (Elt F) Λ₀ .tc) α} :
    ctx m ρ K ⊢ iprop(Sig c j -∗ (Sig c (j + 1) -∗ Wp c (k ⟨⟩) Q) -∗ Wp c (.op (.semSignal ((n : Dev nD) : Thread nD τ) barS k') k) Q) :=
  BIClass.wand_intro (sig_step m ρ K c ⟨j, h⟩ hn hk)

theorem slot_load {Q : α → sProp 𝕄} (j : ℕ) (h : j < 15) {hl : sM.view.LoadsAt (slotR ⟨j, h⟩).toLoadRect}
    {k : ((slotR ⟨j, h⟩).toLoadRect.shape.Idx → Elt F .bf16) → Prog (TpuEff nD τ sig (Elt F) Λ₀ .tc) α} :
    Snd c j ⊢ iprop((∀ v, Snd c j -∗ Wp c (k v) Q) -∗ Wp c (.op (.load sM (slotR ⟨j, h⟩).toLoadRect hl) k) Q) := snd_load c ⟨j, h⟩

theorem slot_fill {Q : α → sProp 𝕄} (j : ℕ) (h : j < 15) {w : (slotR ⟨j, h⟩).shape.Idx → Elt F .bf16} (hw : w = send (In m ρ c) ⟨j, h⟩)
    {hx : (sM.access (slotR ⟨j, h⟩)).Stores Finset.univ} {hm : (Finset.univ : Finset (slotR ⟨j, h⟩).shape.Idx) = Finset.univ ∨ ∀ a, (slotR ⟨j, h⟩).stride a = 1}
    {k : PUnit → Prog (TpuEff nD τ sig (Elt F) Λ₀ .tc) α} :
    Snd c j ⊢ iprop((SndF m ρ c ⟨j, h⟩ -∗ Wp c (k ⟨⟩) Q) -∗ Wp c (.op (.store sM (slotR ⟨j, h⟩) w Finset.univ hx hm) k) Q) := snd_store m ρ c ⟨j, h⟩ hw

theorem slot_send {Q : α → sProp 𝕄} (j : ℕ) (h : j < 15) {n : Dev nD} (hn : n = sh c ⟨j, h⟩)
    {hsc : (rcvM ⟨j, h⟩ : Memref sig (Dev.tc n : Thread nD τ).2.kind .vmem S24x1024 .bf16).view.ref.isScScratch = false}
    {hsrc : (sndM ⟨j, h⟩).view.WordExact} {hdst : (rcvM ⟨j, h⟩).view.WordExact}
    {hsem : DmaTarget.Typed .vmem (.dma (rSems ⟨j, h⟩).sem) (.remote (Dev.tc n : Thread nD τ) (rcvM ⟨j, h⟩) (.dma (sSems ⟨j, h⟩).sem) hsc)}
    {k : PUnit → Prog (TpuEff nD τ sig (Elt F) Λ₀ .tc) α} :
    ctx m ρ K ⊢ iprop(SndF m ρ c ⟨j, h⟩ -∗ (Snd c (j + 1) -∗ Wp c (k ⟨⟩) Q)
      -∗ Wp c (.op (.enqueueDma (sndM ⟨j, h⟩) (.remote (Dev.tc n : Thread nD τ) (rcvM ⟨j, h⟩) (.dma (sSems ⟨j, h⟩).sem) hsc) (.dma (rSems ⟨j, h⟩).sem) hsrc hdst hsem) k) Q) :=
  BIClass.wand_intro (snd_send m ρ K c ⟨j, h⟩ hn)

theorem gap_load {Q : α → sProp 𝕄} (j : ℕ) (h : j < 15) {hl : rM.view.LoadsAt (padR ⟨j, h⟩).toLoadRect}
    {k : ((padR ⟨j, h⟩).toLoadRect.shape.Idx → Elt F .bf16) → Prog (TpuEff nD τ sig (Elt F) Λ₀ .tc) α} :
    Pd m ρ c j ⊢ iprop((∀ v, Pd m ρ c j -∗ Wp c (k v) Q) -∗ Wp c (.op (.load rM (padR ⟨j, h⟩).toLoadRect hl) k) Q) := pad_load m ρ c ⟨j, h⟩

theorem gap_clear {Q : α → sProp 𝕄} (j : ℕ) (h : j < 15) {w : (padR ⟨j, h⟩).shape.Idx → Elt F .bf16} (hw : w = pad)
    {hx : (rM.access (padR ⟨j, h⟩)).Stores Finset.univ} {hm : (Finset.univ : Finset (padR ⟨j, h⟩).shape.Idx) = Finset.univ ∨ ∀ a, (padR ⟨j, h⟩).stride a = 1}
    {k : PUnit → Prog (TpuEff nD τ sig (Elt F) Λ₀ .tc) α} :
    Pd m ρ c j ⊢ iprop((Pd m ρ c (j + 1) -∗ Wp c (k ⟨⟩) Q) -∗ Wp c (.op (.store rM (padR ⟨j, h⟩) w Finset.univ hx hm) k) Q) := pad_store m ρ c ⟨j, h⟩ hw

theorem arrive {Q : α → sProp 𝕄} (j : ℕ) (h : j < 15) {hsrc : (sndM ⟨j, h⟩).view.WordExact} {hdst : (rcvM ⟨j, h⟩).view.WordExact}
    {k : PUnit → Prog (TpuEff nD τ sig (Elt F) Λ₀ .tc) α} :
    ctx m ρ K ⊢ iprop(Rcv m ρ c j -∗ (Rcv m ρ c (j + 1) -∗ Wp c (k ⟨⟩) Q)
      -∗ Wp c (.op (.waitDma2 (rSems ⟨j, h⟩).sem (sndM ⟨j, h⟩) (rcvM ⟨j, h⟩) hsrc hdst) k) Q) := BIClass.wand_intro (rcv_wait m ρ K c ⟨j, h⟩)

theorem gone {Q : α → sProp 𝕄} (j : ℕ) (h : j < 15) {hsrc : (rcvM ⟨j, h⟩).view.WordExact} {hdst : (sndM ⟨j, h⟩).view.WordExact}
    {k : PUnit → Prog (TpuEff nD τ sig (Elt F) Λ₀ .tc) α} :
    ctx m ρ K ⊢ iprop(Fin' c j -∗ (Fin' c (j + 1) -∗ Wp c (k ⟨⟩) Q)
      -∗ Wp c (.op (.waitDma2 (sSems ⟨j, h⟩).sem (rcvM ⟨j, h⟩) (sndM ⟨j, h⟩) hsrc hdst) k) Q) := BIClass.wand_intro (fin_wait m ρ K c ⟨j, h⟩)

/-- Everything but the exchange that the first wait needs. -/
def Rdy (c : Dev nD) : sProp 𝕄 :=
  iprop(cred (tallyAt (barCell c) () 15) ∗ atPos ER (barCell c) 0 ∅ 0 ∗ Sig c 15
        ∗ (bigSep Finset.univ fun j => iprop(dutyTok ER (sendCell c j) 0 0 ∗ dutyTok ER (recvCell (sh c j) j) 0 0 ∗ ∃ f, sSlot c j f)))

theorem meet {Q : α → sProp 𝕄} {k' : ℤ} (hk : ((15 : ℕ) : ℤ) = k') {k : PUnit → Prog (TpuEff nD τ sig (Elt F) Λ₀ .tc) α} :
    ctx m ρ K ⊢ iprop(Rdy c -∗ ((Snd c 0 ∗ semVal (barCell c) 0) -∗ Wp c (k ⟨⟩) Q) -∗ Wp c (.op (.semWait barS k') k) Q) := by
  refine BIClass.wand_intro ?_
  unfold Rdy
  obtain ⟨n, hn⟩ : ∃ n, n = 15 := ⟨15, rfl⟩
  have h := bar_wait (Q := Q) m ρ K c hn (k' := k') (by rw [hn]; exact hk) (k := k)
  exact h

/-! ## Filling the scratch buffers -/

theorem at_mono {sp : Space} {s : Shape} {e : EltTy} {M : Memref sig .tc sp s e} {S S' : s.Idx → Prop} {g : Vec F s e} (h : ∀ i, S' i → S i) :
    At c M S g ⊢ At c M S' g := by
  unfold At
  iintro ⟨%f, %hf, H⟩
  iexists f
  isplitr
  · ipureintro; exact fun i hi => hf i (h i hi)
  · iexact H

theorem ext2 {sz : Fin 2 → ℕ} {y z : (⟨2, sz⟩ : Shape).Idx} (h0 : (y 0).val = (z 0).val) (h1 : (y 1).val = (z 1).val) : y = z := by
  funext a
  match a with
  | ⟨0, _⟩ => exact Fin.ext h0
  | ⟨1, _⟩ => exact Fin.ext h1

theorem ext3 {sz : Fin 3 → ℕ} {y z : (⟨3, sz⟩ : Shape).Idx} (h0 : (y 0).val = (z 0).val) (h1 : (y 1).val = (z 1).val) (h2 : (y 2).val = (z 2).val) : y = z := by
  funext a
  match a with
  | ⟨0, _⟩ => exact Fin.ext h0
  | ⟨1, _⟩ => exact Fin.ext h1
  | ⟨2, _⟩ => exact Fin.ext h2

variable (I : Inp F)

theorem x2_lo (y : S1024x512.Idx) : k0_pay2 (v199 I) y = x2 I ((Rect.unit (s := S1344x512) ![0, 0] S1024x512.size inb_S1344x512_S1024x512_0_0).emb y) := by
  have h0 : ((Rect.unit (s := S1344x512) ![0, 0] S1024x512.size inb_S1344x512_S1024x512_0_0).emb y 0).val = (y 0).val := by show 0 + 1 * (y 0).val = _; omega
  have h1 : ((Rect.unit (s := S1344x512) ![0, 0] S1024x512.size inb_S1344x512_S1024x512_0_0).emb y 1).val = (y 1).val := by show 0 + 1 * (y 1).val = _; omega
  have hy : (y 0).val < 1024 := (y 0).isLt
  unfold x2
  rw [dif_pos (by rw [h0]; exact hy)]
  exact congrArg (k0_pay2 (v199 I)) (ext2 h0.symm h1.symm)

theorem x2_hi (y : S320x512.Idx) : k0_pay3 (v199 I) y = x2 I ((Rect.unit (s := S1344x512) ![1024, 0] S320x512.size inb_S1344x512_S320x512_1024_0).emb y) := by
  have h0 : ((Rect.unit (s := S1344x512) ![1024, 0] S320x512.size inb_S1344x512_S320x512_1024_0).emb y 0).val = 1024 + (y 0).val := by show 1024 + 1 * (y 0).val = _; omega
  have h1 : ((Rect.unit (s := S1344x512) ![1024, 0] S320x512.size inb_S1344x512_S320x512_1024_0).emb y 1).val = (y 1).val := by show 0 + 1 * (y 1).val = _; omega
  unfold x2
  rw [dif_neg (by rw [h0]; omega)]
  exact congrArg (k0_pay3 (v199 I)) (ext2 (by show (y 0).val = _ - 1024; rw [h0]; omega) h1.symm)

theorem mask2_lo (y : S1024x1.Idx) : k0_pay33 (v292 I) y = mask2 I ((Rect.unit (s := S1344x1) ![0, 0] S1024x1.size inb_S1344x1_S1024x1_0_0).emb y) := by
  have h0 : ((Rect.unit (s := S1344x1) ![0, 0] S1024x1.size inb_S1344x1_S1024x1_0_0).emb y 0).val = (y 0).val := by show 0 + 1 * (y 0).val = _; omega
  have hy : (y 0).val < 1024 := (y 0).isLt
  have hz : (y 1).val < 1 := (y 1).isLt
  unfold mask2
  rw [dif_pos (by rw [h0]; exact hy)]
  exact congrArg (k0_pay33 (v292 I)) (ext2 h0.symm (by show (y 1).val = 0; omega))

theorem mask2_hi (y : S320x1.Idx) : k0_pay34 (v292 I) y = mask2 I ((Rect.unit (s := S1344x1) ![1024, 0] S320x1.size inb_S1344x1_S320x1_1024_0).emb y) := by
  have h0 : ((Rect.unit (s := S1344x1) ![1024, 0] S320x1.size inb_S1344x1_S320x1_1024_0).emb y 0).val = 1024 + (y 0).val := by show 1024 + 1 * (y 0).val = _; omega
  have hz : (y 1).val < 1 := (y 1).isLt
  unfold mask2
  rw [dif_neg (by rw [h0]; omega)]
  exact congrArg (k0_pay34 (v292 I)) (ext2 (by show (y 0).val = _ - 1024; rw [h0]; omega) (by show (y 1).val = 0; omega))

/-- The column stored at expert `k`, upper and lower rows. -/
def wcol (k : ℕ) : FVec F S1024x1 .bf16 :=
  if k = 0 then k0_pay16 (v2 I) (v219 I) (v221 I) (v223 I) (v224 I) (v237 I) else if k = 1 then k0_pay21 (v2 I) (v219 I) (v221 I) (v223 I) (v224 I) (v237 I)
  else if k = 2 then k0_pay26 (v221 I) (v223 I) (v237 I) (v352 I) (v356 I) else k0_pay30 (v396 I)
def wcol' (k : ℕ) : FVec F S320x1 .bf16 :=
  if k = 0 then k0_pay17 (v2 I) (v219 I) (v221 I) (v223 I) (v224 I) (v237 I) else if k = 1 then k0_pay22 (v2 I) (v219 I) (v221 I) (v223 I) (v224 I) (v237 I)
  else if k = 2 then k0_pay27 (v221 I) (v223 I) (v237 I) (v352 I) (v356 I) else k0_pay31 (v396 I)
def wmat (k : ℕ) : FVec F S1x512x1024 .bf16 :=
  if k = 0 then k0_pay19 (v318 I) else if k = 1 then k0_pay23 (v346 I) else if k = 2 then k0_pay28 (v375 I) else k0_pay32 (v404 I)

theorem w2_lo (k : ℕ) {inb : ∀ a, (![0, k] : Fin 2 → ℕ) a + S1024x1.size a ≤ S1344x4.size a} (y : S1024x1.Idx) :
    wcol I k y = w2 I ((Rect.unit (s := S1344x4) ![0, k] S1024x1.size inb).emb y) := by
  have hz : (y 1).val < 1 := (y 1).isLt
  have h0 : ((Rect.unit (s := S1344x4) ![0, k] S1024x1.size inb).emb y 0).val = (y 0).val := by show 0 + 1 * (y 0).val = _; omega
  have h1 : ((Rect.unit (s := S1344x4) ![0, k] S1024x1.size inb).emb y 1).val = k := by show k + 1 * (y 1).val = _; omega
  have hy : (y 0).val < 1024 := (y 0).isLt
  unfold w2 wcol
  rw [dif_pos (by rw [h0]; exact hy), h1]
  exact congrArg _ (ext2 h0.symm (by show (y 1).val = 0; omega))

theorem w2_hi (k : ℕ) {inb : ∀ a, (![1024, k] : Fin 2 → ℕ) a + S320x1.size a ≤ S1344x4.size a} (y : S320x1.Idx) :
    wcol' I k y = w2 I ((Rect.unit (s := S1344x4) ![1024, k] S320x1.size inb).emb y) := by
  have hz : (y 1).val < 1 := (y 1).isLt
  have h0 : ((Rect.unit (s := S1344x4) ![1024, k] S320x1.size inb).emb y 0).val = 1024 + (y 0).val := by show 1024 + 1 * (y 0).val = _; omega
  have h1 : ((Rect.unit (s := S1344x4) ![1024, k] S320x1.size inb).emb y 1).val = k := by show k + 1 * (y 1).val = _; omega
  unfold w2 wcol'
  rw [dif_neg (by rw [h0]; omega), h1]
  exact congrArg _ (ext2 (by show (y 0).val = _ - 1024; rw [h0]; omega) (by show (y 1).val = 0; omega))

theorem ewb_at (k : ℕ) {inb : ∀ a, (![k, 0, 0] : Fin 3 → ℕ) a + S1x512x1024.size a ≤ S4x512x1024.size a} (y : S1x512x1024.Idx) :
    wmat I k y = ewb I ((Rect.unit (s := S4x512x1024) ![k, 0, 0] S1x512x1024.size inb).emb y) := by
  have hz : (y 0).val < 1 := (y 0).isLt
  have h0 : ((Rect.unit (s := S4x512x1024) ![k, 0, 0] S1x512x1024.size inb).emb y 0).val = k := by show k + 1 * (y 0).val = _; omega
  have h1 : ((Rect.unit (s := S4x512x1024) ![k, 0, 0] S1x512x1024.size inb).emb y 1).val = (y 1).val := by show 0 + 1 * (y 1).val = _; omega
  have h2 : ((Rect.unit (s := S4x512x1024) ![k, 0, 0] S1x512x1024.size inb).emb y 2).val = (y 2).val := by show 0 + 1 * (y 2).val = _; omega
  unfold ewb wmat
  rw [h0]
  exact congrArg _ (ext3 (by show (y 0).val = 0; omega) h1.symm h2.symm)

/-! ### One column, one matrix, a whole buffer -/

/-- After column `k`'s two stores the columns below `k + 1` are in. -/
theorem col_done (k : ℕ) {i1 : ∀ a, (![0, k] : Fin 2 → ℕ) a + S1024x1.size a ≤ S1344x4.size a} {i2 : ∀ a, (![1024, k] : Fin 2 → ℕ) a + S320x1.size a ≤ S1344x4.size a} :
    At c wwM (fun i => i ∈ (Rect.unit (s := S1344x4) ![1024, k] S320x1.size i2).set ∨ (i ∈ (Rect.unit (s := S1344x4) ![0, k] S1024x1.size i1).set ∨ (i 1).val < k)) (w2 (In m ρ c))
      ⊢ A6 m ρ c (k + 1) := at_mono c fun i hi => by
  have h0 : (i 0).val < 1344 := (i 0).isLt
  by_cases hk : (i 1).val < k
  · exact Or.inr (Or.inr hk)
  by_cases hr : (i 0).val < 1024
  · refine Or.inr (Or.inl (Rect.mem_set_unit.mpr fun a => ?_))
    match a with
    | ⟨0, _⟩ => exact ⟨Nat.zero_le _, by show (i 0).val < 0 + 1024; omega⟩
    | ⟨1, _⟩ => exact ⟨by show k ≤ (i 1).val; omega, by show (i 1).val < k + 1; omega⟩
  · refine Or.inl (Rect.mem_set_unit.mpr fun a => ?_)
    match a with
    | ⟨0, _⟩ => exact ⟨by show 1024 ≤ (i 0).val; omega, by show (i 0).val < 1024 + 320; omega⟩
    | ⟨1, _⟩ => exact ⟨by show k ≤ (i 1).val; omega, by show (i 1).val < k + 1; omega⟩

theorem mat_done (k : ℕ) {i1 : ∀ a, (![k, 0, 0] : Fin 3 → ℕ) a + S1x512x1024.size a ≤ S4x512x1024.size a} :
    At c bM (fun i => i ∈ (Rect.unit (s := S4x512x1024) ![k, 0, 0] S1x512x1024.size i1).set ∨ (i 0).val < k) (ewb (In m ρ c))
      ⊢ A7 m ρ c (k + 1) := at_mono c fun i hi => by
  by_cases hk : (i 0).val < k
  · exact Or.inr hk
  refine Or.inl (Rect.mem_set_unit.mpr fun a => ?_)
  match a with
  | ⟨0, _⟩ => exact ⟨by show k ≤ (i 0).val; omega, by show (i 0).val < k + 1; omega⟩
  | ⟨1, _⟩ => exact ⟨Nat.zero_le _, by have h : (i 1).val < 512 := (i 1).isLt; show (i 1).val < 0 + 512; omega⟩
  | ⟨2, _⟩ => exact ⟨Nat.zero_le _, by have h : (i 2).val < 1024 := (i 2).isLt; show (i 2).val < 0 + 1024; omega⟩

theorem x2_done {i1 i2} :
    At c xxM (fun i => i ∈ (Rect.unit (s := S1344x512) ![1024, 0] S320x512.size i2).set ∨ (i ∈ (Rect.unit (s := S1344x512) ![0, 0] S1024x512.size i1).set ∨ False)) (x2 (In m ρ c))
      ⊢ B5 m ρ c := at_done c fun i => by
  have h0 : (i 0).val < 1344 := (i 0).isLt
  have h1 : (i 1).val < 512 := (i 1).isLt
  by_cases hr : (i 0).val < 1024
  · refine Or.inr (Or.inl (Rect.mem_set_unit.mpr fun a => ?_))
    match a with
    | ⟨0, _⟩ => exact ⟨Nat.zero_le _, by show (i 0).val < 0 + 1024; omega⟩
    | ⟨1, _⟩ => exact ⟨Nat.zero_le _, by show (i 1).val < 0 + 512; omega⟩
  · refine Or.inl (Rect.mem_set_unit.mpr fun a => ?_)
    match a with
    | ⟨0, _⟩ => exact ⟨by show 1024 ≤ (i 0).val; omega, by show (i 0).val < 1024 + 320; omega⟩
    | ⟨1, _⟩ => exact ⟨Nat.zero_le _, by show (i 1).val < 0 + 512; omega⟩

theorem mask2_done {i1 i2} :
    At c kM (fun i => i ∈ (Rect.unit (s := S1344x1) ![1024, 0] S320x1.size i2).set ∨ (i ∈ (Rect.unit (s := S1344x1) ![0, 0] S1024x1.size i1).set ∨ False)) (mask2 (In m ρ c))
      ⊢ B8 m ρ c := at_done c fun i => by
  have h0 : (i 0).val < 1344 := (i 0).isLt
  have h1 : (i 1).val < 1 := (i 1).isLt
  by_cases hr : (i 0).val < 1024
  · refine Or.inr (Or.inl (Rect.mem_set_unit.mpr fun a => ?_))
    match a with
    | ⟨0, _⟩ => exact ⟨Nat.zero_le _, by show (i 0).val < 0 + 1024; omega⟩
    | ⟨1, _⟩ => exact ⟨Nat.zero_le _, by show (i 1).val < 0 + 1; omega⟩
  · refine Or.inl (Rect.mem_set_unit.mpr fun a => ?_)
    match a with
    | ⟨0, _⟩ => exact ⟨by show 1024 ≤ (i 0).val; omega, by show (i 0).val < 1024 + 320; omega⟩
    | ⟨1, _⟩ => exact ⟨Nat.zero_le _, by show (i 1).val < 0 + 1; omega⟩

theorem A6_done : A6 m ρ c 4 ⊢ B6 m ρ c := at_done c fun i => (i 1).isLt
theorem A7_done : A7 m ρ c 4 ⊢ B7 m ρ c := at_done c fun i => (i 0).isLt

end Cert.KernelIdeal.Moe

end
-- ==== Proof.PartsA.lean ====
/-
# The parts of the body up to the meeting
-/
module

public import proofs.«01_k».proof.Proof.Fill

@[expose] public section

noncomputable section

namespace Cert.KernelIdeal.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Kd → ℕ) (c : Dev nD)

theorem part1 {Q : (Σ' (d0 : Dev nD) (v2 : BitVec 32) (v3 : Sems sig S_) (v30 : BitVec 32) (c16_i32_18 : BitVec 32), BitVec 1) → sProp 𝕄} :
    iprop(ctx m ρ K ∗ Sig c 0 ∗ (∀ r, ⌜∃ v30 c16_i32_18 v31, r = ⟨c, v2 (In m ρ c), (SemArray.scalar (sig.barrier 0 rfl)), v30, c16_i32_18, v31⟩⌝ -∗ Sig c 2 -∗ Q r))
      ⊢ Wp c (atBufs (k0_part1 (F := F))) Q := by
  unfold atBufs
  simp only [k0_part1_eq_skeleton]; unfold k0_part1_skel
  simp only [semSignalWord, Prog.lift, Prog.bind_op, Prog.bind_ret, Prog.pure_eq_ret, wp_deviceId]
  iintro ⟨#Hc, Hs, Hk⟩
  iapply (tell m ρ K c 0 (by decide) (dev1_eq c) rfl) $$ Hc Hs; iintro Hs
  iapply (tell m ρ K c 1 (by decide) (dev2_eq c) rfl) $$ Hc Hs; iintro Hs
  iapply ret
  iapply Hk $$ %_ [] Hs
  ipureintro; exact ⟨_, _, _, rfl⟩

theorem part2 {Q : (Σ' (v59 : BitVec 32) (v64 : BitVec 1), BitVec 32) → sProp 𝕄} (v30 : BitVec 32) (c16_i32_18 : BitVec 32) (v31 : BitVec 1):
    iprop(ctx m ρ K ∗ Sig c 2 ∗ (∀ r, ⌜∃ v59 v64 v65, r = ⟨v59, v64, v65⟩⌝ -∗ Sig c 4 -∗ Q r))
      ⊢ Wp c (atBufs (k0_part2 (F := F)) c (v2 (In m ρ c)) (SemArray.scalar (sig.barrier 0 rfl)) v30 c16_i32_18 v31) Q := by
  unfold atBufs
  simp only [k0_part2_eq_skeleton]; unfold k0_part2_skel
  simp only [semSignalWord, Prog.lift, Prog.bind_op, Prog.bind_ret, Prog.pure_eq_ret]
  iintro ⟨#Hc, Hs, Hk⟩
  iapply (tell m ρ K c 2 (by decide) (dev3_eq c) rfl) $$ Hc Hs; iintro Hs
  iapply (tell m ρ K c 3 (by decide) (dev4_eq c) rfl) $$ Hc Hs; iintro Hs
  iapply ret
  iapply Hk $$ %_ [] Hs
  ipureintro; exact ⟨_, _, _, rfl⟩

theorem part3 {Q : (Σ' (v95 : BitVec 32) (c16_i32_63 : BitVec 32), BitVec 1) → sProp 𝕄} (v59 : BitVec 32) (v64 : BitVec 1) (v65 : BitVec 32):
    iprop(ctx m ρ K ∗ Sig c 4 ∗ (∀ r, ⌜∃ v95 c16_i32_63 v96, r = ⟨v95, c16_i32_63, v96⟩⌝ -∗ Sig c 7 -∗ Q r))
      ⊢ Wp c (atBufs (k0_part3 (F := F)) c (v2 (In m ρ c)) (SemArray.scalar (sig.barrier 0 rfl)) v59 v64 v65) Q := by
  unfold atBufs
  simp only [k0_part3_eq_skeleton]; unfold k0_part3_skel
  simp only [semSignalWord, Prog.lift, Prog.bind_op, Prog.bind_ret, Prog.pure_eq_ret]
  iintro ⟨#Hc, Hs, Hk⟩
  iapply (tell m ρ K c 4 (by decide) (dev5_eq c) rfl) $$ Hc Hs; iintro Hs
  iapply (tell m ρ K c 5 (by decide) (dev6_eq c) rfl) $$ Hc Hs; iintro Hs
  iapply (tell m ρ K c 6 (by decide) (dev7_eq c) rfl) $$ Hc Hs; iintro Hs
  iapply ret
  iapply Hk $$ %_ [] Hs
  ipureintro; exact ⟨_, _, _, rfl⟩

theorem part4 {Q : (Σ' (v124 : BitVec 32) (v129 : BitVec 1), BitVec 32) → sProp 𝕄} (v95 : BitVec 32) (c16_i32_63 : BitVec 32) (v96 : BitVec 1):
    iprop(ctx m ρ K ∗ Sig c 7 ∗ (∀ r, ⌜∃ v124 v129 v130, r = ⟨v124, v129, v130⟩⌝ -∗ Sig c 9 -∗ Q r))
      ⊢ Wp c (atBufs (k0_part4 (F := F)) c (v2 (In m ρ c)) (SemArray.scalar (sig.barrier 0 rfl)) v95 c16_i32_63 v96) Q := by
  unfold atBufs
  simp only [k0_part4_eq_skeleton]; unfold k0_part4_skel
  simp only [semSignalWord, Prog.lift, Prog.bind_op, Prog.bind_ret, Prog.pure_eq_ret]
  iintro ⟨#Hc, Hs, Hk⟩
  iapply (tell m ρ K c 7 (by decide) (dev8_eq c) rfl) $$ Hc Hs; iintro Hs
  iapply (tell m ρ K c 8 (by decide) (dev9_eq c) rfl) $$ Hc Hs; iintro Hs
  iapply ret
  iapply Hk $$ %_ [] Hs
  ipureintro; exact ⟨_, _, _, rfl⟩

theorem part5 {Q : (Σ' (v160 : BitVec 32) (c16_i32_108 : BitVec 32), BitVec 1) → sProp 𝕄} (v124 : BitVec 32) (v129 : BitVec 1) (v130 : BitVec 32):
    iprop(ctx m ρ K ∗ Sig c 9 ∗ (∀ r, ⌜∃ v160 c16_i32_108 v161, r = ⟨v160, c16_i32_108, v161⟩⌝ -∗ Sig c 12 -∗ Q r))
      ⊢ Wp c (atBufs (k0_part5 (F := F)) c (v2 (In m ρ c)) (SemArray.scalar (sig.barrier 0 rfl)) v124 v129 v130) Q := by
  unfold atBufs
  simp only [k0_part5_eq_skeleton]; unfold k0_part5_skel
  simp only [semSignalWord, Prog.lift, Prog.bind_op, Prog.bind_ret, Prog.pure_eq_ret]
  iintro ⟨#Hc, Hs, Hk⟩
  iapply (tell m ρ K c 9 (by decide) (dev10_eq c) rfl) $$ Hc Hs; iintro Hs
  iapply (tell m ρ K c 10 (by decide) (dev11_eq c) rfl) $$ Hc Hs; iintro Hs
  iapply (tell m ρ K c 11 (by decide) (dev12_eq c) rfl) $$ Hc Hs; iintro Hs
  iapply ret
  iapply Hk $$ %_ [] Hs
  ipureintro; exact ⟨_, _, _, rfl⟩

theorem part6 {Q : (Σ' (v189 : BitVec 32) (v194 : BitVec 1), BitVec 32) → sProp 𝕄} (v160 : BitVec 32) (c16_i32_108 : BitVec 32) (v161 : BitVec 1):
    iprop(ctx m ρ K ∗ Sig c 12 ∗ (∀ r, ⌜∃ v189 v194 v195, r = ⟨v189, v194, v195⟩⌝ -∗ Sig c 14 -∗ Q r))
      ⊢ Wp c (atBufs (k0_part6 (F := F)) c (v2 (In m ρ c)) (SemArray.scalar (sig.barrier 0 rfl)) v160 c16_i32_108 v161) Q := by
  unfold atBufs
  simp only [k0_part6_eq_skeleton]; unfold k0_part6_skel
  simp only [semSignalWord, Prog.lift, Prog.bind_op, Prog.bind_ret, Prog.pure_eq_ret]
  iintro ⟨#Hc, Hs, Hk⟩
  iapply (tell m ρ K c 12 (by decide) (dev13_eq c) rfl) $$ Hc Hs; iintro Hs
  iapply (tell m ρ K c 13 (by decide) (dev14_eq c) rfl) $$ Hc Hs; iintro Hs
  iapply ret
  iapply Hk $$ %_ [] Hs
  ipureintro; exact ⟨_, _, _, rfl⟩

theorem part7 {Q : (Σ' (v219 : FVec F S1024x64 .f32) (v221 : IVec S1024x1 32) (v223 : IVec S1024x1 32) (v224 : IVec S1024x64 32) (v230 : FVec F S1024x1 .f32), IVec S1024x64 1) → sProp 𝕄} (v189 : BitVec 32) (v194 : BitVec 1) (v195 : BitVec 32):
    iprop(ctx m ρ K ∗ Sig c 14 ∗ B0 m ρ c ∗ (∃ f : Buf (Elt F) (xxM.view.loc (c : Thread nD τ)), xxM.view.loc (c : Thread nD τ) ↦{fullShare} f) ∗ B1 m ρ c ∗ B2 m ρ c ∗ (∀ r, ⌜r = ⟨v219 (In m ρ c), v221 (In m ρ c), v223 (In m ρ c), v224 (In m ρ c), v230 (In m ρ c), v232 (In m ρ c)⟩⌝ -∗ Sig c 15 -∗ B0 m ρ c -∗ B5 m ρ c -∗ B1 m ρ c -∗ B2 m ρ c -∗ Q r))
      ⊢ Wp c (atBufs (k0_part7 (F := F)) c (SemArray.scalar (sig.barrier 0 rfl)) v189 v194 v195) Q := by
  unfold atBufs
  simp only [k0_part7_eq_skeleton]; unfold k0_part7_skel
  simp only [semSignalWord, Prog.lift, Prog.bind_op, Prog.bind_ret, Prog.pure_eq_ret]
  iintro ⟨#Hc, Hs, H0, H5, H1, H2, Hk⟩
  iapply (tell m ρ K c 14 (by decide) (dev15_eq c) rfl) $$ Hc Hs; iintro Hs
  iapply (ld c) $$ H0; iintro H0
  icases H5 with ⟨%f5, H5⟩
  ihave H5 := (at_start (M := xxM) c (x2 (In m ρ c)) f5) $$ H5
  iapply (at_load c) $$ H5; iintro %_ H5
  iapply (at_store c (w := (k0_pay2 (v199 (In m ρ c)))) (x2_lo (In m ρ c))) $$ H5; iintro H5
  iapply (at_load c) $$ H5; iintro %_ H5
  iapply (at_store c (w := (k0_pay3 (v199 (In m ρ c)))) (x2_hi (In m ρ c))) $$ H5; iintro H5
  ihave H5 := (x2_done m ρ c) $$ H5
  iapply (ld c) $$ H1; iintro H1
  iapply (ld c) $$ H2; iintro H2
  iapply (ld c) $$ H2; iintro H2
  iapply ret
  iapply Hk $$ %_ [] Hs H0 H5 H1 H2
  ipureintro; exact rfl

theorem part8 {Q : (Σ' (v237 : FVec F S1024x1 .f32) (v263 : IVec S1024x1 1) (c4_i32_157 : BitVec 32) (v265 : IVec S1024x1 32) (v272 : IVec S1024x1 32), IVec S1024x1 32) → sProp 𝕄} :
    iprop((∀ r, ⌜r = ⟨v237 (In m ρ c), v263 (In m ρ c), c4_i32_157 (In m ρ c), v265 (In m ρ c), v272 (In m ρ c), v278 (In m ρ c)⟩⌝ -∗ Q r))
      ⊢ Wp c (atBufs (k0_part8 (F := F)) (v2 (In m ρ c)) (v219 (In m ρ c)) (v221 (In m ρ c)) (v223 (In m ρ c)) (v230 (In m ρ c)) (v232 (In m ρ c))) Q := by
  unfold atBufs
  simp only [k0_part8_eq_skeleton]; unfold k0_part8_skel
  simp only [Prog.lift, Prog.bind_op, Prog.bind_ret, Prog.pure_eq_ret]
  iintro Hk
  iapply ret
  iapply Hk $$ %_ []
  ipureintro; exact rfl

theorem part9 {Q : (Σ' (v292 : FVec F S1024x1 .f32) (v318 : FVec F S512x1024 .bf16), Vec F S1x512x1024 .bf16) → sProp 𝕄} :
    iprop(A6 m ρ c 0 ∗ B3 m ρ c ∗ A7 m ρ c 0 ∗ (∀ r, ⌜∃ v319, r = ⟨v292 (In m ρ c), v318 (In m ρ c), v319⟩⌝ -∗ A6 m ρ c 1 -∗ B3 m ρ c -∗ A7 m ρ c 0 -∗ Q r))
      ⊢ Wp c (atBufs (k0_part9 (F := F)) (v2 (In m ρ c)) (v219 (In m ρ c)) (v221 (In m ρ c)) (v223 (In m ρ c)) (v224 (In m ρ c)) (v237 (In m ρ c)) (v263 (In m ρ c)) (c4_i32_157 (In m ρ c)) (v265 (In m ρ c)) (v272 (In m ρ c)) (v278 (In m ρ c))) Q := by
  unfold atBufs
  simp only [k0_part9_eq_skeleton]; unfold k0_part9_skel
  simp only [Prog.lift, Prog.bind_op, Prog.bind_ret, Prog.pure_eq_ret]
  iintro ⟨H6, H3, H7, Hk⟩
  iapply (at_load c) $$ H6; iintro %_ H6
  iapply (at_store c (w := (k0_pay16 (v2 (In m ρ c)) (v219 (In m ρ c)) (v221 (In m ρ c)) (v223 (In m ρ c)) (v224 (In m ρ c)) (v237 (In m ρ c)))) (w2_lo (In m ρ c) 0)) $$ H6; iintro H6
  iapply (at_load c) $$ H6; iintro %_ H6
  iapply (at_store c (w := (k0_pay17 (v2 (In m ρ c)) (v219 (In m ρ c)) (v221 (In m ρ c)) (v223 (In m ρ c)) (v224 (In m ρ c)) (v237 (In m ρ c)))) (w2_hi (In m ρ c) 0)) $$ H6; iintro H6
  ihave H6 := (col_done m ρ c 0) $$ H6
  iapply (ld c) $$ H3; iintro H3
  iapply (at_load c) $$ H7; iintro %_ H7
  iapply ret
  iapply Hk $$ %_ [] H6 H3 H7
  ipureintro; exact ⟨_, rfl⟩

theorem part10 {Q : (Σ' (v352 : BitVec 32), FVec F S1024x64 .f32) → sProp 𝕄} (v319 : Vec F S1x512x1024 .bf16):
    iprop(A7 m ρ c 0 ∗ A6 m ρ c 1 ∗ B3 m ρ c ∗ (∀ r, ⌜r = ⟨v352 (In m ρ c), v356 (In m ρ c)⟩⌝ -∗ A7 m ρ c 2 -∗ A6 m ρ c 2 -∗ B3 m ρ c -∗ Q r))
      ⊢ Wp c (atBufs (k0_part10 (F := F)) (v2 (In m ρ c)) (v219 (In m ρ c)) (v221 (In m ρ c)) (v223 (In m ρ c)) (v224 (In m ρ c)) (v237 (In m ρ c)) (v318 (In m ρ c)) v319) Q := by
  unfold atBufs
  simp only [k0_part10_eq_skeleton]; unfold k0_part10_skel
  simp only [Prog.lift, Prog.bind_op, Prog.bind_ret, Prog.pure_eq_ret]
  iintro ⟨H7, H6, H3, Hk⟩
  iapply (at_store c (w := (k0_pay19 (v318 (In m ρ c)))) (ewb_at (In m ρ c) 0)) $$ H7; iintro H7
  ihave H7 := (mat_done m ρ c 0) $$ H7
  iapply (at_load c) $$ H6; iintro %_ H6
  iapply (at_store c (w := (k0_pay21 (v2 (In m ρ c)) (v219 (In m ρ c)) (v221 (In m ρ c)) (v223 (In m ρ c)) (v224 (In m ρ c)) (v237 (In m ρ c)))) (w2_lo (In m ρ c) 1)) $$ H6; iintro H6
  iapply (at_load c) $$ H6; iintro %_ H6
  iapply (at_store c (w := (k0_pay22 (v2 (In m ρ c)) (v219 (In m ρ c)) (v221 (In m ρ c)) (v223 (In m ρ c)) (v224 (In m ρ c)) (v237 (In m ρ c)))) (w2_hi (In m ρ c) 1)) $$ H6; iintro H6
  ihave H6 := (col_done m ρ c 1) $$ H6
  iapply (ld c) $$ H3; iintro H3
  iapply (at_load c) $$ H7; iintro %_ H7
  iapply (at_store c (w := (k0_pay23 (v346 (In m ρ c)))) (ewb_at (In m ρ c) 1)) $$ H7; iintro H7
  ihave H7 := (mat_done m ρ c 1) $$ H7
  iapply ret
  iapply Hk $$ %_ [] H7 H6 H3
  ipureintro; exact rfl

theorem part11 {Q : (FVec F S1024x1 .bf16) → sProp 𝕄} :
    iprop(A6 m ρ c 2 ∗ B3 m ρ c ∗ A7 m ρ c 2 ∗ (∀ r, ⌜r = v396 (In m ρ c)⌝ -∗ A6 m ρ c 3 -∗ B3 m ρ c -∗ A7 m ρ c 3 -∗ Q r))
      ⊢ Wp c (atBufs (k0_part11 (F := F)) (v2 (In m ρ c)) (v219 (In m ρ c)) (v221 (In m ρ c)) (v223 (In m ρ c)) (v224 (In m ρ c)) (v237 (In m ρ c)) (v352 (In m ρ c)) (v356 (In m ρ c))) Q := by
  unfold atBufs
  simp only [k0_part11_eq_skeleton]; unfold k0_part11_skel
  simp only [Prog.lift, Prog.bind_op, Prog.bind_ret, Prog.pure_eq_ret]
  iintro ⟨H6, H3, H7, Hk⟩
  iapply (at_load c) $$ H6; iintro %_ H6
  iapply (at_store c (w := (k0_pay26 (v221 (In m ρ c)) (v223 (In m ρ c)) (v237 (In m ρ c)) (v352 (In m ρ c)) (v356 (In m ρ c)))) (w2_lo (In m ρ c) 2)) $$ H6; iintro H6
  iapply (at_load c) $$ H6; iintro %_ H6
  iapply (at_store c (w := (k0_pay27 (v221 (In m ρ c)) (v223 (In m ρ c)) (v237 (In m ρ c)) (v352 (In m ρ c)) (v356 (In m ρ c)))) (w2_hi (In m ρ c) 2)) $$ H6; iintro H6
  ihave H6 := (col_done m ρ c 2) $$ H6
  iapply (ld c) $$ H3; iintro H3
  iapply (at_load c) $$ H7; iintro %_ H7
  iapply (at_store c (w := (k0_pay28 (v375 (In m ρ c)))) (ewb_at (In m ρ c) 2)) $$ H7; iintro H7
  ihave H7 := (mat_done m ρ c 2) $$ H7
  iapply ret
  iapply Hk $$ %_ [] H6 H3 H7
  ipureintro; exact rfl

theorem part12 {Q : (Σ' (v427 : BitVec 32), Vec F S128x512 .bf16) → sProp 𝕄} :
    iprop(A6 m ρ c 3 ∗ B3 m ρ c ∗ A7 m ρ c 3 ∗ (∃ f : Buf (Elt F) (kM.view.loc (c : Thread nD τ)), kM.view.loc (c : Thread nD τ) ↦{fullShare} f) ∗ B5 m ρ c ∗ (∀ r, ⌜∃ v427, r = ⟨v427, v429 (In m ρ c)⟩⌝ -∗ B6 m ρ c -∗ B3 m ρ c -∗ B7 m ρ c -∗ B8 m ρ c -∗ B5 m ρ c -∗ Q r))
      ⊢ Wp c (atBufs (k0_part12 (F := F)) c (v2 (In m ρ c)) (v292 (In m ρ c)) (v396 (In m ρ c))) Q := by
  unfold atBufs
  simp only [k0_part12_eq_skeleton]; unfold k0_part12_skel
  simp only [Prog.lift, Prog.bind_op, Prog.bind_ret, Prog.pure_eq_ret]
  iintro ⟨H6, H3, H7, H8, H5, Hk⟩
  iapply (at_load c) $$ H6; iintro %_ H6
  iapply (at_store c (w := (k0_pay30 (v396 (In m ρ c)))) (w2_lo (In m ρ c) 3)) $$ H6; iintro H6
  iapply (at_load c) $$ H6; iintro %_ H6
  iapply (at_store c (w := (k0_pay31 (v396 (In m ρ c)))) (w2_hi (In m ρ c) 3)) $$ H6; iintro H6
  ihave H6 := (col_done m ρ c 3) $$ H6
  ihave H6 := (A6_done m ρ c) $$ H6
  iapply (ld c) $$ H3; iintro H3
  iapply (at_load c) $$ H7; iintro %_ H7
  iapply (at_store c (w := (k0_pay32 (v404 (In m ρ c)))) (ewb_at (In m ρ c) 3)) $$ H7; iintro H7
  ihave H7 := (mat_done m ρ c 3) $$ H7
  ihave H7 := (A7_done m ρ c) $$ H7
  icases H8 with ⟨%f8, H8⟩
  ihave H8 := (at_start (M := kM) c (mask2 (In m ρ c)) f8) $$ H8
  iapply (at_load c) $$ H8; iintro %_ H8
  iapply (at_store c (w := (k0_pay33 (v292 (In m ρ c)))) (mask2_lo (In m ρ c))) $$ H8; iintro H8
  iapply (at_load c) $$ H8; iintro %_ H8
  iapply (at_store c (w := (k0_pay34 (v292 (In m ρ c)))) (mask2_hi (In m ρ c))) $$ H8; iintro H8
  ihave H8 := (mask2_done m ρ c) $$ H8
  iapply (ld c) $$ H5; iintro H5
  iapply ret
  iapply Hk $$ %_ [] H6 H3 H7 H8 H5
  ipureintro; exact ⟨_, rfl⟩

theorem part13 {Q : (Σ' (v461 : FVec F S128x1024 .bf16) (v462 : IVec S128x128 32) (v463 : IVec S128x128 32) (c64_i32_252 : BitVec 32) (v465 : IVec S128x128 32) (v468 : IVec S128x128 32), BitVec 32) → sProp 𝕄} (v427 : BitVec 32):
    iprop(B6 m ρ c ∗ B7 m ρ c ∗ (∀ r, ⌜r = ⟨v461 (In m ρ c), v462 (In m ρ c), v463 (In m ρ c), c64_i32_252 (In m ρ c), v465 (In m ρ c), v468 (In m ρ c), c0_i32_254 (In m ρ c)⟩⌝ -∗ B6 m ρ c -∗ B7 m ρ c -∗ Q r))
      ⊢ Wp c (atBufs (k0_part13 (F := F)) c v427 (v429 (In m ρ c))) Q := by
  unfold atBufs
  simp only [k0_part13_eq_skeleton]; unfold k0_part13_skel
  simp only [Prog.lift, Prog.bind_op, Prog.bind_ret, Prog.pure_eq_ret]
  iintro ⟨H6, H7, Hk⟩
  iapply (ld c) $$ H6; iintro H6
  iapply (ld c) $$ H7; iintro H7
  iapply (ld c) $$ H7; iintro H7
  iapply (ld c) $$ H7; iintro H7
  iapply (ld c) $$ H7; iintro H7
  iapply ret
  iapply Hk $$ %_ [] H6 H7
  ipureintro; exact rfl

theorem part14 {Q : (Σ' (v514 : IVec S128x128 1) (cst_267 : F .f32), FVec F S128x128 .f32) → sProp 𝕄} :
    iprop((∀ r, ⌜r = ⟨v514 (In m ρ c), cst_267 (In m ρ c), v515 (In m ρ c)⟩⌝ -∗ Q r))
      ⊢ Wp c (atBufs (k0_part14 (F := F)) (v462 (In m ρ c)) (v463 (In m ρ c)) (c64_i32_252 (In m ρ c)) (v465 (In m ρ c)) (v468 (In m ρ c)) (c0_i32_254 (In m ρ c))) Q := by
  unfold atBufs
  simp only [k0_part14_eq_skeleton]; unfold k0_part14_skel
  simp only [Prog.lift, Prog.bind_op, Prog.bind_ret, Prog.pure_eq_ret]
  iintro Hk
  iapply ret
  iapply Hk $$ %_ []
  ipureintro; exact rfl

theorem part15 {Q : (Σ' (v519 : Vec F S128x1 .f32) (v522 : FVec F S128x1 .f32) (v523 : IVec S128x64 32) (v524 : IVec S128x64 32) (v548 : IVec S128x64 32) (c64_i32_277 : BitVec 32) (v550 : IVec S128x64 32) (v557 : IVec S128x64 32) (v559 : BitVec 32), BitVec 1) → sProp 𝕄} (v427 : BitVec 32):
    iprop(B8 m ρ c ∗ (∀ r, ⌜r = ⟨v519 (In m ρ c), v522 (In m ρ c), v523 (In m ρ c), v524 (In m ρ c), v548 (In m ρ c), c64_i32_277 (In m ρ c), v550 (In m ρ c), v557 (In m ρ c), v559 (In m ρ c), v560 (In m ρ c)⟩⌝ -∗ B8 m ρ c -∗ Q r))
      ⊢ Wp c (atBufs (k0_part15 (F := F)) c v427 (v514 (In m ρ c)) (cst_267 (In m ρ c)) (v515 (In m ρ c))) Q := by
  unfold atBufs
  simp only [k0_part15_eq_skeleton]; unfold k0_part15_skel
  simp only [Prog.lift, Prog.bind_op, Prog.bind_ret, Prog.pure_eq_ret]
  iintro ⟨H8, Hk⟩
  iapply (ld c) $$ H8; iintro H8
  iapply ret
  iapply Hk $$ %_ [] H8
  ipureintro; exact rfl

theorem part16 {Q : (Σ' (v602 : FVec F S64x1024 .bf16), FVec F S24x1024 .bf16) → sProp 𝕄} :
    iprop(ctx m ρ K ∗ Rdy c ∗ (∀ r, ⌜r = ⟨v602 (In m ρ c), v603 (In m ρ c)⟩⌝ -∗ Snd c 0 -∗ semVal (barCell c) 0 -∗ Q r))
      ⊢ Wp c (atBufs (k0_part16 (F := F)) (SemArray.scalar (sig.barrier 0 rfl)) (v461 (In m ρ c)) (v519 (In m ρ c)) (v522 (In m ρ c)) (v523 (In m ρ c)) (v524 (In m ρ c)) (v548 (In m ρ c)) (c64_i32_277 (In m ρ c)) (v550 (In m ρ c)) (v557 (In m ρ c)) (v559 (In m ρ c)) (v560 (In m ρ c))) Q := by
  unfold atBufs
  simp only [k0_part16_eq_skeleton]; unfold k0_part16_skel
  simp only [semWaitWord, Prog.lift, Prog.bind_op, Prog.bind_ret, Prog.pure_eq_ret]
  iintro ⟨#Hc, Hs, Hk⟩
  iapply (meet m ρ K c rfl) $$ Hc Hs; iintro ⟨Hs, Hz⟩
  iapply (slot_load c 0 (by decide)) $$ Hs; iintro %_ Hs
  iapply ret
  iapply Hk $$ %_ [] Hs Hz
  ipureintro; exact rfl

end Cert.KernelIdeal.Moe

end
-- ==== Proof.PartsB.lean ====
/-
# The parts of the body that compute and send
-/
module

public import proofs.«01_k».proof.Proof.Fill

@[expose] public section

noncomputable section

namespace Cert.KernelIdeal.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Kd → ℕ) (c : Dev nD)

theorem part17 {Q : (Σ' (v617 : BitVec 32) (v632 : BitVec 32) (v633 : BitVec 32), BitVec 1) → sProp 𝕄} :
    iprop(ctx m ρ K ∗ Snd c 0 ∗ (∀ r, ⌜∃ v617 v632 v633 v638, r = ⟨v617, v632, v633, v638⟩⌝ -∗ SndF m ρ c ⟨1, by decide⟩ -∗ Q r))
      ⊢ Wp c (atBufs (k0_part17 (F := F)) c (v2 (In m ρ c)) (v602 (In m ρ c)) (v603 (In m ρ c))) Q := by
  unfold atBufs
  simp only [k0_part17_eq_skeleton]; unfold k0_part17_skel
  simp only [Prog.lift, Prog.bind_op, Prog.bind_ret, Prog.pure_eq_ret]
  iintro ⟨#Hc, Hs, Hk⟩
  iapply (slot_fill m ρ c 0 (by decide) (by rfl)) $$ Hs; iintro Hs
  iapply (slot_send m ρ K c 0 _ (dev16_eq c)) $$ Hc Hs; iintro Hs
  iapply (slot_load c 1 (by decide)) $$ Hs; iintro %_ Hs
  iapply (slot_fill m ρ c 1 (by decide) (by rfl)) $$ Hs; iintro Hs
  iapply ret
  iapply Hk $$ %_ [] Hs
  ipureintro; exact ⟨_, _, _, _, rfl⟩

theorem part18 {Q : (Σ' (v640 : BitVec 32) (v660 : BitVec 32) (v662 : Vec F S256x512 .bf16) (v664 : Vec F S256x4 .bf16) (v672 : FVec F S256x1024 .f32), FVec F S256x512 .bf16) → sProp 𝕄} (v632 : BitVec 32) (v633 : BitVec 32) (v638 : BitVec 1):
    iprop(ctx m ρ K ∗ SndF m ρ c ⟨1, by decide⟩ ∗ B5 m ρ c ∗ B6 m ρ c ∗ B7 m ρ c ∗ (∀ r, ⌜∃ v640 v660, r = ⟨v640, v660, v662 (In m ρ c), v664 (In m ρ c), v672 (In m ρ c), v674 (In m ρ c)⟩⌝ -∗ Snd c 2 -∗ B5 m ρ c -∗ B6 m ρ c -∗ B7 m ρ c -∗ Q r))
      ⊢ Wp c (atBufs (k0_part18 (F := F)) c (v2 (In m ρ c)) v632 v633 v638) Q := by
  unfold atBufs
  simp only [k0_part18_eq_skeleton]; unfold k0_part18_skel
  simp only [Prog.lift, Prog.bind_op, Prog.bind_ret, Prog.pure_eq_ret]
  iintro ⟨#Hc, Hs, H5, H6, H7, Hk⟩
  iapply (slot_send m ρ K c 1 _ (dev17_eq c)) $$ Hc Hs; iintro Hs
  iapply (ld c) $$ H5; iintro H5
  iapply (ld c) $$ H6; iintro H6
  iapply (ld c) $$ H7; iintro H7
  iapply ret
  iapply Hk $$ %_ [] Hs H5 H6 H7
  ipureintro; exact ⟨_, _, rfl⟩

theorem part19 {Q : (Σ' (v694 : FVec F S256x1024 .bf16) (v695 : IVec S256x256 32) (v696 : IVec S256x256 32) (v698 : IVec S256x256 32) (v712 : IVec S256x256 1), IVec S256x256 1) → sProp 𝕄} :
    iprop(B7 m ρ c ∗ (∀ r, ⌜r = ⟨v694 (In m ρ c), v695 (In m ρ c), v696 (In m ρ c), v698 (In m ρ c), v712 (In m ρ c), v716 (In m ρ c)⟩⌝ -∗ B7 m ρ c -∗ Q r))
      ⊢ Wp c (atBufs (k0_part19 (F := F)) (v662 (In m ρ c)) (v664 (In m ρ c)) (v672 (In m ρ c)) (v674 (In m ρ c))) Q := by
  unfold atBufs
  simp only [k0_part19_eq_skeleton]; unfold k0_part19_skel
  simp only [Prog.lift, Prog.bind_op, Prog.bind_ret, Prog.pure_eq_ret]
  iintro ⟨H7, Hk⟩
  iapply (ld c) $$ H7; iintro H7
  iapply (ld c) $$ H7; iintro H7
  iapply (ld c) $$ H7; iintro H7
  iapply ret
  iapply Hk $$ %_ [] H7
  ipureintro; exact rfl

theorem part20 {Q : (Σ' (v752 : Vec F S256x1 .f32) (v755 : FVec F S256x1 .f32) (v756 : IVec S256x128 32) (v757 : IVec S256x128 32) (c32_i32_372 : BitVec 32) (v759 : IVec S256x128 32), IVec S256x128 1) → sProp 𝕄} (v660 : BitVec 32):
    iprop(B8 m ρ c ∗ (∀ r, ⌜r = ⟨v752 (In m ρ c), v755 (In m ρ c), v756 (In m ρ c), v757 (In m ρ c), c32_i32_372 (In m ρ c), v759 (In m ρ c), v761 (In m ρ c)⟩⌝ -∗ B8 m ρ c -∗ Q r))
      ⊢ Wp c (atBufs (k0_part20 (F := F)) c v660 (v695 (In m ρ c)) (v696 (In m ρ c)) (v698 (In m ρ c)) (v712 (In m ρ c)) (v716 (In m ρ c))) Q := by
  unfold atBufs
  simp only [k0_part20_eq_skeleton]; unfold k0_part20_skel
  simp only [Prog.lift, Prog.bind_op, Prog.bind_ret, Prog.pure_eq_ret]
  iintro ⟨H8, Hk⟩
  iapply (ld c) $$ H8; iintro H8
  iapply ret
  iapply Hk $$ %_ [] H8
  ipureintro; exact rfl

theorem part21 {Q : (Σ' (v806 : IVec S256x128 1) (c32_i32_386 : BitVec 32), BitVec 1) → sProp 𝕄} :
    iprop((∀ r, ⌜r = ⟨v806 (In m ρ c), c32_i32_386 (In m ρ c), v807 (In m ρ c)⟩⌝ -∗ Q r))
      ⊢ Wp c (atBufs (k0_part21 (F := F)) (v756 (In m ρ c)) (v757 (In m ρ c)) (c32_i32_372 (In m ρ c)) (v759 (In m ρ c)) (v761 (In m ρ c))) Q := by
  unfold atBufs
  simp only [k0_part21_eq_skeleton]; unfold k0_part21_skel
  simp only [Prog.lift, Prog.bind_op, Prog.bind_ret, Prog.pure_eq_ret]
  iintro Hk
  iapply ret
  iapply Hk $$ %_ []
  ipureintro; exact rfl

theorem part22 {Q : (Σ' (v835 : FVec F S128x1024 .bf16), BitVec 32) → sProp 𝕄} :
    iprop(Snd c 2 ∗ (∀ r, ⌜∃ v850, r = ⟨v835 (In m ρ c), v850⟩⌝ -∗ SndF m ρ c ⟨2, by decide⟩ -∗ Q r))
      ⊢ Wp c (atBufs (k0_part22 (F := F)) (v2 (In m ρ c)) (v694 (In m ρ c)) (v752 (In m ρ c)) (v755 (In m ρ c)) (v757 (In m ρ c)) (v806 (In m ρ c)) (c32_i32_386 (In m ρ c)) (v807 (In m ρ c))) Q := by
  unfold atBufs
  simp only [k0_part22_eq_skeleton]; unfold k0_part22_skel
  simp only [Prog.lift, Prog.bind_op, Prog.bind_ret, Prog.pure_eq_ret]
  iintro ⟨Hs, Hk⟩
  iapply (slot_load c 2 (by decide)) $$ Hs; iintro %_ Hs
  iapply (slot_fill m ρ c 2 (by decide) (by rfl)) $$ Hs; iintro Hs
  iapply ret
  iapply Hk $$ %_ [] Hs
  ipureintro; exact ⟨_, rfl⟩

theorem part23 {Q : (Σ' (v873 : BitVec 32), FVec F S24x1024 .bf16) → sProp 𝕄} (v850 : BitVec 32):
    iprop(ctx m ρ K ∗ SndF m ρ c ⟨2, by decide⟩ ∗ (∀ r, ⌜∃ v873, r = ⟨v873, v882 (In m ρ c)⟩⌝ -∗ Snd c 4 -∗ Q r))
      ⊢ Wp c (atBufs (k0_part23 (F := F)) c (v2 (In m ρ c)) (v835 (In m ρ c)) v850) Q := by
  unfold atBufs
  simp only [k0_part23_eq_skeleton]; unfold k0_part23_skel
  simp only [Prog.lift, Prog.bind_op, Prog.bind_ret, Prog.pure_eq_ret]
  iintro ⟨#Hc, Hs, Hk⟩
  iapply (slot_send m ρ K c 2 _ (dev18_eq c)) $$ Hc Hs; iintro Hs
  iapply (slot_load c 3 (by decide)) $$ Hs; iintro %_ Hs
  iapply (slot_fill m ρ c 3 (by decide) (by rfl)) $$ Hs; iintro Hs
  iapply (slot_send m ρ K c 3 _ (dev19_eq c)) $$ Hc Hs; iintro Hs
  iapply ret
  iapply Hk $$ %_ [] Hs
  ipureintro; exact ⟨_, rfl⟩

theorem part24 {Q : (Σ' (v896 : BitVec 32) (v911 : BitVec 32) (v912 : BitVec 32) (v913 : BitVec 1) (v914 : BitVec 1), BitVec 32) → sProp 𝕄} :
    iprop(ctx m ρ K ∗ Snd c 4 ∗ (∀ r, ⌜∃ v896 v911 v912 v913 v914 c0_i32_447, r = ⟨v896, v911, v912, v913, v914, c0_i32_447⟩⌝ -∗ SndF m ρ c ⟨5, by decide⟩ -∗ Q r))
      ⊢ Wp c (atBufs (k0_part24 (F := F)) c (v2 (In m ρ c)) (v835 (In m ρ c)) (v882 (In m ρ c))) Q := by
  unfold atBufs
  simp only [k0_part24_eq_skeleton]; unfold k0_part24_skel
  simp only [Prog.lift, Prog.bind_op, Prog.bind_ret, Prog.pure_eq_ret]
  iintro ⟨#Hc, Hs, Hk⟩
  iapply (slot_load c 4 (by decide)) $$ Hs; iintro %_ Hs
  iapply (slot_fill m ρ c 4 (by decide) (by rfl)) $$ Hs; iintro Hs
  iapply (slot_send m ρ K c 4 _ (dev20_eq c)) $$ Hc Hs; iintro Hs
  iapply (slot_load c 5 (by decide)) $$ Hs; iintro %_ Hs
  iapply (slot_fill m ρ c 5 (by decide) (by rfl)) $$ Hs; iintro Hs
  iapply ret
  iapply Hk $$ %_ [] Hs
  ipureintro; exact ⟨_, _, _, _, _, _, rfl⟩

theorem part25 {Q : (Σ' (v919 : BitVec 32) (v939 : BitVec 32) (v941 : Vec F S256x512 .bf16) (v943 : Vec F S256x4 .bf16) (v944 : FVec F S256x1024 .f32), FVec F S256x1024 .f32) → sProp 𝕄} (v911 : BitVec 32) (v912 : BitVec 32) (v913 : BitVec 1) (v914 : BitVec 1) (c0_i32_447 : BitVec 32):
    iprop(ctx m ρ K ∗ SndF m ρ c ⟨5, by decide⟩ ∗ B5 m ρ c ∗ B6 m ρ c ∗ B7 m ρ c ∗ (∀ r, ⌜∃ v919 v939, r = ⟨v919, v939, v941 (In m ρ c), v943 (In m ρ c), v944 (In m ρ c), v950 (In m ρ c)⟩⌝ -∗ Snd c 6 -∗ B5 m ρ c -∗ B6 m ρ c -∗ B7 m ρ c -∗ Q r))
      ⊢ Wp c (atBufs (k0_part25 (F := F)) c (v2 (In m ρ c)) v911 v912 v913 v914 c0_i32_447) Q := by
  unfold atBufs
  simp only [k0_part25_eq_skeleton]; unfold k0_part25_skel
  simp only [Prog.lift, Prog.bind_op, Prog.bind_ret, Prog.pure_eq_ret]
  iintro ⟨#Hc, Hs, H5, H6, H7, Hk⟩
  iapply (slot_send m ρ K c 5 _ (dev21_eq c)) $$ Hc Hs; iintro Hs
  iapply (ld c) $$ H5; iintro H5
  iapply (ld c) $$ H6; iintro H6
  iapply (ld c) $$ H7; iintro H7
  iapply ret
  iapply Hk $$ %_ [] Hs H5 H6 H7
  ipureintro; exact ⟨_, _, rfl⟩

theorem part26 {Q : (Σ' (v973 : FVec F S256x1024 .bf16) (v974 : IVec S256x256 32) (v975 : IVec S256x256 32) (v977 : IVec S256x256 32) (v991 : IVec S256x256 1), IVec S256x256 32) → sProp 𝕄} :
    iprop(B7 m ρ c ∗ (∀ r, ⌜r = ⟨v973 (In m ρ c), v974 (In m ρ c), v975 (In m ρ c), v977 (In m ρ c), v991 (In m ρ c), v993 (In m ρ c)⟩⌝ -∗ B7 m ρ c -∗ Q r))
      ⊢ Wp c (atBufs (k0_part26 (F := F)) (v941 (In m ρ c)) (v943 (In m ρ c)) (v944 (In m ρ c)) (v950 (In m ρ c))) Q := by
  unfold atBufs
  simp only [k0_part26_eq_skeleton]; unfold k0_part26_skel
  simp only [Prog.lift, Prog.bind_op, Prog.bind_ret, Prog.pure_eq_ret]
  iintro ⟨H7, Hk⟩
  iapply (ld c) $$ H7; iintro H7
  iapply (ld c) $$ H7; iintro H7
  iapply (ld c) $$ H7; iintro H7
  iapply ret
  iapply Hk $$ %_ [] H7
  ipureintro; exact rfl

theorem part27 {Q : (Σ' (v1031 : Vec F S256x1 .f32) (v1034 : FVec F S256x1 .f32) (v1035 : IVec S256x128 32) (v1036 : IVec S256x128 32) (c32_i32_501 : BitVec 32), IVec S256x128 32) → sProp 𝕄} (v939 : BitVec 32):
    iprop(B8 m ρ c ∗ (∀ r, ⌜r = ⟨v1031 (In m ρ c), v1034 (In m ρ c), v1035 (In m ρ c), v1036 (In m ρ c), c32_i32_501 (In m ρ c), v1038 (In m ρ c)⟩⌝ -∗ B8 m ρ c -∗ Q r))
      ⊢ Wp c (atBufs (k0_part27 (F := F)) c v939 (v974 (In m ρ c)) (v975 (In m ρ c)) (v977 (In m ρ c)) (v991 (In m ρ c)) (v993 (In m ρ c))) Q := by
  unfold atBufs
  simp only [k0_part27_eq_skeleton]; unfold k0_part27_skel
  simp only [Prog.lift, Prog.bind_op, Prog.bind_ret, Prog.pure_eq_ret]
  iintro ⟨H8, Hk⟩
  iapply (ld c) $$ H8; iintro H8
  iapply ret
  iapply Hk $$ %_ [] H8
  ipureintro; exact rfl

theorem part28 {Q : (IVec S256x128 1) → sProp 𝕄} :
    iprop((∀ r, ⌜r = v1085 (In m ρ c)⌝ -∗ Q r))
      ⊢ Wp c (atBufs (k0_part28 (F := F)) (v1035 (In m ρ c)) (v1036 (In m ρ c)) (c32_i32_501 (In m ρ c)) (v1038 (In m ρ c))) Q := by
  unfold atBufs
  simp only [k0_part28_eq_skeleton]; unfold k0_part28_skel
  simp only [Prog.lift, Prog.bind_op, Prog.bind_ret, Prog.pure_eq_ret]
  iintro Hk
  iapply ret
  iapply Hk $$ %_ []
  ipureintro; exact rfl

theorem part29 {Q : (Σ' (v1114 : FVec F S128x1024 .bf16) (v1121 : BitVec 32) (v1122 : BitVec 32), BitVec 1) → sProp 𝕄} :
    iprop(Snd c 6 ∗ (∀ r, ⌜∃ v1121 v1122 v1127, r = ⟨v1114 (In m ρ c), v1121, v1122, v1127⟩⌝ -∗ SndF m ρ c ⟨6, by decide⟩ -∗ Q r))
      ⊢ Wp c (atBufs (k0_part29 (F := F)) (v2 (In m ρ c)) (v973 (In m ρ c)) (v1031 (In m ρ c)) (v1034 (In m ρ c)) (v1036 (In m ρ c)) (v1085 (In m ρ c))) Q := by
  unfold atBufs
  simp only [k0_part29_eq_skeleton]; unfold k0_part29_skel
  simp only [Prog.lift, Prog.bind_op, Prog.bind_ret, Prog.pure_eq_ret]
  iintro ⟨Hs, Hk⟩
  iapply (slot_load c 6 (by decide)) $$ Hs; iintro %_ Hs
  iapply (slot_fill m ρ c 6 (by decide) (by rfl)) $$ Hs; iintro Hs
  iapply ret
  iapply Hk $$ %_ [] Hs
  ipureintro; exact ⟨_, _, _, rfl⟩

theorem part30 {Q : (Σ' (v1129 : BitVec 32), BitVec 32) → sProp 𝕄} (v1121 : BitVec 32) (v1122 : BitVec 32) (v1127 : BitVec 1):
    iprop(ctx m ρ K ∗ SndF m ρ c ⟨6, by decide⟩ ∗ (∀ r, ⌜∃ v1129 v1152, r = ⟨v1129, v1152⟩⌝ -∗ SndF m ρ c ⟨7, by decide⟩ -∗ Q r))
      ⊢ Wp c (atBufs (k0_part30 (F := F)) c (v2 (In m ρ c)) (v1114 (In m ρ c)) v1121 v1122 v1127) Q := by
  unfold atBufs
  simp only [k0_part30_eq_skeleton]; unfold k0_part30_skel
  simp only [Prog.lift, Prog.bind_op, Prog.bind_ret, Prog.pure_eq_ret]
  iintro ⟨#Hc, Hs, Hk⟩
  iapply (slot_send m ρ K c 6 _ (dev22_eq c)) $$ Hc Hs; iintro Hs
  iapply (slot_load c 7 (by decide)) $$ Hs; iintro %_ Hs
  iapply (slot_fill m ρ c 7 (by decide) (by rfl)) $$ Hs; iintro Hs
  iapply ret
  iapply Hk $$ %_ [] Hs
  ipureintro; exact ⟨_, _, rfl⟩

theorem part31 {Q : (Σ' (v1175 : BitVec 32) (v1190 : BitVec 32) (v1191 : BitVec 32), BitVec 1) → sProp 𝕄} :
    iprop(ctx m ρ K ∗ SndF m ρ c ⟨7, by decide⟩ ∗ (∀ r, ⌜∃ v1175 v1190 v1191 v1192, r = ⟨v1175, v1190, v1191, v1192⟩⌝ -∗ SndF m ρ c ⟨9, by decide⟩ -∗ Q r))
      ⊢ Wp c (atBufs (k0_part31 (F := F)) c (v2 (In m ρ c)) (v1114 (In m ρ c))) Q := by
  unfold atBufs
  simp only [k0_part31_eq_skeleton]; unfold k0_part31_skel
  simp only [Prog.lift, Prog.bind_op, Prog.bind_ret, Prog.pure_eq_ret]
  iintro ⟨#Hc, Hs, Hk⟩
  iapply (slot_send m ρ K c 7 _ (dev23_eq c)) $$ Hc Hs; iintro Hs
  iapply (slot_load c 8 (by decide)) $$ Hs; iintro %_ Hs
  iapply (slot_fill m ρ c 8 (by decide) (by rfl)) $$ Hs; iintro Hs
  iapply (slot_send m ρ K c 8 _ (dev24_eq c)) $$ Hc Hs; iintro Hs
  iapply (slot_load c 9 (by decide)) $$ Hs; iintro %_ Hs
  iapply (slot_fill m ρ c 9 (by decide) (by rfl)) $$ Hs; iintro Hs
  iapply ret
  iapply Hk $$ %_ [] Hs
  ipureintro; exact ⟨_, _, _, _, rfl⟩

theorem part32 {Q : (Σ' (v1198 : BitVec 32) (v1218 : BitVec 32) (v1220 : Vec F S384x512 .bf16) (v1222 : Vec F S384x4 .bf16) (v1223 : FVec F S384x1024 .f32) (v1226 : FVec F S384x512 .bf16), Vec F S1x512x1024 .bf16) → sProp 𝕄} (v1190 : BitVec 32) (v1191 : BitVec 32) (v1192 : BitVec 1):
    iprop(ctx m ρ K ∗ SndF m ρ c ⟨9, by decide⟩ ∗ B5 m ρ c ∗ B6 m ρ c ∗ B7 m ρ c ∗ (∀ r, ⌜∃ v1198 v1218, r = ⟨v1198, v1218, v1220 (In m ρ c), v1222 (In m ρ c), v1223 (In m ρ c), v1226 (In m ρ c), v1227 (In m ρ c)⟩⌝ -∗ Snd c 10 -∗ B5 m ρ c -∗ B6 m ρ c -∗ B7 m ρ c -∗ Q r))
      ⊢ Wp c (atBufs (k0_part32 (F := F)) c (v2 (In m ρ c)) v1190 v1191 v1192) Q := by
  unfold atBufs
  simp only [k0_part32_eq_skeleton]; unfold k0_part32_skel
  simp only [Prog.lift, Prog.bind_op, Prog.bind_ret, Prog.pure_eq_ret]
  iintro ⟨#Hc, Hs, H5, H6, H7, Hk⟩
  iapply (slot_send m ρ K c 9 _ (dev25_eq c)) $$ Hc Hs; iintro Hs
  iapply (ld c) $$ H5; iintro H5
  iapply (ld c) $$ H6; iintro H6
  iapply (ld c) $$ H7; iintro H7
  iapply ret
  iapply Hk $$ %_ [] Hs H5 H6 H7
  ipureintro; exact ⟨_, _, rfl⟩

theorem part33 {Q : (Σ' (v1252 : FVec F S384x1024 .bf16) (v1253 : IVec S384x384 32) (v1254 : IVec S384x384 32) (c64_i32_610 : BitVec 32) (v1256 : IVec S384x384 32) (v1263 : IVec S384x384 32), IVec S384x384 32) → sProp 𝕄} :
    iprop(B7 m ρ c ∗ (∀ r, ⌜r = ⟨v1252 (In m ρ c), v1253 (In m ρ c), v1254 (In m ρ c), c64_i32_610 (In m ρ c), v1256 (In m ρ c), v1263 (In m ρ c), v1269 (In m ρ c)⟩⌝ -∗ B7 m ρ c -∗ Q r))
      ⊢ Wp c (atBufs (k0_part33 (F := F)) (v1220 (In m ρ c)) (v1222 (In m ρ c)) (v1223 (In m ρ c)) (v1226 (In m ρ c)) (v1227 (In m ρ c))) Q := by
  unfold atBufs
  simp only [k0_part33_eq_skeleton]; unfold k0_part33_skel
  simp only [Prog.lift, Prog.bind_op, Prog.bind_ret, Prog.pure_eq_ret]
  iintro ⟨H7, Hk⟩
  iapply (ld c) $$ H7; iintro H7
  iapply (ld c) $$ H7; iintro H7
  iapply (ld c) $$ H7; iintro H7
  iapply ret
  iapply Hk $$ %_ [] H7
  ipureintro; exact rfl

theorem part34 {Q : (Σ' (v1310 : Vec F S384x1 .f32) (v1313 : FVec F S384x1 .f32) (v1314 : IVec S320x160 32), IVec S320x160 32) → sProp 𝕄} (v1218 : BitVec 32):
    iprop(B8 m ρ c ∗ (∀ r, ⌜r = ⟨v1310 (In m ρ c), v1313 (In m ρ c), v1314 (In m ρ c), v1315 (In m ρ c)⟩⌝ -∗ B8 m ρ c -∗ Q r))
      ⊢ Wp c (atBufs (k0_part34 (F := F)) c v1218 (v1253 (In m ρ c)) (v1254 (In m ρ c)) (c64_i32_610 (In m ρ c)) (v1256 (In m ρ c)) (v1263 (In m ρ c)) (v1269 (In m ρ c))) Q := by
  unfold atBufs
  simp only [k0_part34_eq_skeleton]; unfold k0_part34_skel
  simp only [Prog.lift, Prog.bind_op, Prog.bind_ret, Prog.pure_eq_ret]
  iintro ⟨H8, Hk⟩
  iapply (ld c) $$ H8; iintro H8
  iapply ret
  iapply Hk $$ %_ [] H8
  ipureintro; exact rfl

theorem part35 {Q : (Σ' (v1339 : IVec S320x160 32) (v1341 : IVec S320x160 32) (v1360 : IVec S320x160 1), IVec S320x160 32) → sProp 𝕄} :
    iprop((∀ r, ⌜r = ⟨v1339 (In m ρ c), v1341 (In m ρ c), v1360 (In m ρ c), v1361 (In m ρ c)⟩⌝ -∗ Q r))
      ⊢ Wp c (atBufs (k0_part35 (F := F)) (v1314 (In m ρ c)) (v1315 (In m ρ c))) Q := by
  unfold atBufs
  simp only [k0_part35_eq_skeleton]; unfold k0_part35_skel
  simp only [Prog.lift, Prog.bind_op, Prog.bind_ret, Prog.pure_eq_ret]
  iintro Hk
  iapply ret
  iapply Hk $$ %_ []
  ipureintro; exact rfl

theorem part36 {Q : (Σ' (v1396 : FVec F S160x1024 .bf16) (v1398 : FVec F S64x1024 .f32) (v1405 : BitVec 32), BitVec 32) → sProp 𝕄} :
    iprop(Snd c 10 ∗ (∀ r, ⌜∃ v1405 v1406, r = ⟨v1396 (In m ρ c), v1398 (In m ρ c), v1405, v1406⟩⌝ -∗ SndF m ρ c ⟨10, by decide⟩ -∗ Q r))
      ⊢ Wp c (atBufs (k0_part36 (F := F)) (v2 (In m ρ c)) (v1252 (In m ρ c)) (v1310 (In m ρ c)) (v1313 (In m ρ c)) (v1315 (In m ρ c)) (v1339 (In m ρ c)) (v1341 (In m ρ c)) (v1360 (In m ρ c)) (v1361 (In m ρ c))) Q := by
  unfold atBufs
  simp only [k0_part36_eq_skeleton]; unfold k0_part36_skel
  simp only [Prog.lift, Prog.bind_op, Prog.bind_ret, Prog.pure_eq_ret]
  iintro ⟨Hs, Hk⟩
  iapply (slot_load c 10 (by decide)) $$ Hs; iintro %_ Hs
  iapply (slot_fill m ρ c 10 (by decide) (by rfl)) $$ Hs; iintro Hs
  iapply ret
  iapply Hk $$ %_ [] Hs
  ipureintro; exact ⟨_, _, rfl⟩

theorem part37 {Q : (Σ' (v1413 : BitVec 32), BitVec 32) → sProp 𝕄} (v1405 : BitVec 32) (v1406 : BitVec 32):
    iprop(ctx m ρ K ∗ SndF m ρ c ⟨10, by decide⟩ ∗ (∀ r, ⌜∃ v1413 v1436, r = ⟨v1413, v1436⟩⌝ -∗ SndF m ρ c ⟨11, by decide⟩ -∗ Q r))
      ⊢ Wp c (atBufs (k0_part37 (F := F)) c (v2 (In m ρ c)) (v1396 (In m ρ c)) v1405 v1406) Q := by
  unfold atBufs
  simp only [k0_part37_eq_skeleton]; unfold k0_part37_skel
  simp only [Prog.lift, Prog.bind_op, Prog.bind_ret, Prog.pure_eq_ret]
  iintro ⟨#Hc, Hs, Hk⟩
  iapply (slot_send m ρ K c 10 _ (dev26_eq c)) $$ Hc Hs; iintro Hs
  iapply (slot_load c 11 (by decide)) $$ Hs; iintro %_ Hs
  iapply (slot_fill m ρ c 11 (by decide) (by rfl)) $$ Hs; iintro Hs
  iapply ret
  iapply Hk $$ %_ [] Hs
  ipureintro; exact ⟨_, _, rfl⟩

theorem part38 {Q : (Σ' (v1459 : BitVec 32), BitVec 32) → sProp 𝕄} :
    iprop(ctx m ρ K ∗ SndF m ρ c ⟨11, by decide⟩ ∗ (∀ r, ⌜∃ v1459 v1472, r = ⟨v1459, v1472⟩⌝ -∗ SndF m ρ c ⟨13, by decide⟩ -∗ Q r))
      ⊢ Wp c (atBufs (k0_part38 (F := F)) c (v2 (In m ρ c)) (v1396 (In m ρ c))) Q := by
  unfold atBufs
  simp only [k0_part38_eq_skeleton]; unfold k0_part38_skel
  simp only [Prog.lift, Prog.bind_op, Prog.bind_ret, Prog.pure_eq_ret]
  iintro ⟨#Hc, Hs, Hk⟩
  iapply (slot_send m ρ K c 11 _ (dev27_eq c)) $$ Hc Hs; iintro Hs
  iapply (slot_load c 12 (by decide)) $$ Hs; iintro %_ Hs
  iapply (slot_fill m ρ c 12 (by decide) (by rfl)) $$ Hs; iintro Hs
  iapply (slot_send m ρ K c 12 _ (dev28_eq c)) $$ Hc Hs; iintro Hs
  iapply (slot_load c 13 (by decide)) $$ Hs; iintro %_ Hs
  iapply (slot_fill m ρ c 13 (by decide) (by rfl)) $$ Hs; iintro Hs
  iapply ret
  iapply Hk $$ %_ [] Hs
  ipureintro; exact ⟨_, _, rfl⟩

theorem part39 {Q : (Σ' (v1482 : BitVec 32), BitVec 32) → sProp 𝕄} (v1472 : BitVec 32):
    iprop(ctx m ρ K ∗ SndF m ρ c ⟨13, by decide⟩ ∗ (∀ r, ⌜∃ v1482 v1505, r = ⟨v1482, v1505⟩⌝ -∗ SndF m ρ c ⟨14, by decide⟩ -∗ Q r))
      ⊢ Wp c (atBufs (k0_part39 (F := F)) c (v2 (In m ρ c)) (v1396 (In m ρ c)) v1472) Q := by
  unfold atBufs
  simp only [k0_part39_eq_skeleton]; unfold k0_part39_skel
  simp only [Prog.lift, Prog.bind_op, Prog.bind_ret, Prog.pure_eq_ret]
  iintro ⟨#Hc, Hs, Hk⟩
  iapply (slot_send m ρ K c 13 _ (dev29_eq c)) $$ Hc Hs; iintro Hs
  iapply (slot_load c 14 (by decide)) $$ Hs; iintro %_ Hs
  iapply (slot_fill m ρ c 14 (by decide) (by rfl)) $$ Hs; iintro Hs
  iapply ret
  iapply Hk $$ %_ [] Hs
  ipureintro; exact ⟨_, _, rfl⟩

theorem part40 {Q : (Σ' (v1541 : IVec S64x1 32) (v1544 : IVec S64x1 32) (c4_i32_736 : BitVec 32) (v1546 : IVec S64x1 32), BitVec 32) → sProp 𝕄} (v1505 : BitVec 32):
    iprop(ctx m ρ K ∗ SndF m ρ c ⟨14, by decide⟩ ∗ B2 m ρ c ∗ (∀ r, ⌜r = ⟨v1541 (In m ρ c), v1544 (In m ρ c), c4_i32_736 (In m ρ c), v1546 (In m ρ c), c0_i32_737 (In m ρ c)⟩⌝ -∗ Snd c 15 -∗ B2 m ρ c -∗ Q r))
      ⊢ Wp c (atBufs (k0_part40 (F := F)) c (v2 (In m ρ c)) v1505) Q := by
  unfold atBufs
  simp only [k0_part40_eq_skeleton]; unfold k0_part40_skel
  simp only [Prog.lift, Prog.bind_op, Prog.bind_ret, Prog.pure_eq_ret]
  iintro ⟨#Hc, Hs, H2, Hk⟩
  iapply (slot_send m ρ K c 14 _ (dev30_eq c)) $$ Hc Hs; iintro Hs
  iapply (ld c) $$ H2; iintro H2
  iapply (ld c) $$ H2; iintro H2
  iapply ret
  iapply Hk $$ %_ [] Hs H2
  ipureintro; exact rfl

theorem part41 {Q : (Σ' (v1592 : IVec S64x15 1) (v1593 : IVec S64x15 32), IVec S64x15 32) → sProp 𝕄} :
    iprop((∀ r, ⌜r = ⟨v1592 (In m ρ c), v1593 (In m ρ c), v1594 (In m ρ c)⟩⌝ -∗ Q r))
      ⊢ Wp c (atBufs (k0_part41 (F := F)) (v2 (In m ρ c)) (v1541 (In m ρ c)) (v1544 (In m ρ c)) (c4_i32_736 (In m ρ c)) (v1546 (In m ρ c)) (c0_i32_737 (In m ρ c))) Q := by
  unfold atBufs
  simp only [k0_part41_eq_skeleton]; unfold k0_part41_skel
  simp only [Prog.lift, Prog.bind_op, Prog.bind_ret, Prog.pure_eq_ret]
  iintro Hk
  iapply ret
  iapply Hk $$ %_ []
  ipureintro; exact rfl

theorem part42 {Q : (Σ' (v1638 : FVec F S64x480 .f32), FVec F S64x480 .f32) → sProp 𝕄} :
    iprop((∀ r, ⌜r = ⟨v1638 (In m ρ c), v1639 (In m ρ c)⟩⌝ -∗ Q r))
      ⊢ Wp c (atBufs (k0_part42 (F := F)) (v1592 (In m ρ c)) (v1593 (In m ρ c)) (v1594 (In m ρ c))) Q := by
  unfold atBufs
  simp only [k0_part42_eq_skeleton]; unfold k0_part42_skel
  simp only [Prog.lift, Prog.bind_op, Prog.bind_ret, Prog.pure_eq_ret]
  iintro Hk
  iapply ret
  iapply Hk $$ %_ []
  ipureintro; exact rfl

end Cert.KernelIdeal.Moe

end
-- ==== Proof.Join.lean ====
/-
# The two exchange buffers, piece by piece and whole

Each of the sending and the landing buffer is fifteen slots of 24 rows and, after each slot, 8 rows that belong to none. Here: the
buffer whole is its pieces; the landing buffer with everything landed and the rows between cleared is `landed`, whole; the load of
it and the store of the result.
-/
module

public import proofs.«01_k».proof.Proof.Fill
public import Idealize.ShloMosaic.Lib.Ring
public import Idealize.ShloMosaic.Lib.Pipeline.Value

@[expose] public section

noncomputable section

namespace Cert.KernelIdeal.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Kd → ℕ) (c : Dev nD)

/-- A cast to the same shape changes nothing. -/
theorem pad_cast (w : FVec F S8x1024 .bf16) : shapeCast S8x1024 w shapeCasts_S8x1024_S8x1024 = w := shapeCast_self w _

/-! ## The pieces -/

/-- The rows of slot `j`, and the rows after it. -/
def piece : Fin 15 ⊕ Fin 15 → Finset S480x1024.Idx
  | .inl j => (slotR j).set
  | .inr j => (padR j).set

theorem mem_slot (j : Fin 15) (i : S480x1024.Idx) : i ∈ (slotR j).set ↔ 32 * j.val ≤ (i 0).val ∧ (i 0).val < 32 * j.val + 24 := by
  have h1 : (i 1).val < 1024 := (i 1).isLt
  rw [Rect.mem_set_unit]
  constructor
  · intro h; exact h 0
  · intro h a
    match a with
    | ⟨0, _⟩ => exact h
    | ⟨1, _⟩ => exact ⟨Nat.zero_le _, by show (i 1).val < 0 + 1024; omega⟩
theorem mem_pad (j : Fin 15) (i : S480x1024.Idx) : i ∈ (padR j).set ↔ 32 * j.val + 24 ≤ (i 0).val ∧ (i 0).val < 32 * j.val + 24 + 8 := by
  have h1 : (i 1).val < 1024 := (i 1).isLt
  rw [Rect.mem_set_unit]
  constructor
  · intro h; exact h 0
  · intro h a
    match a with
    | ⟨0, _⟩ => exact h
    | ⟨1, _⟩ => exact ⟨Nat.zero_le _, by show (i 1).val < 0 + 1024; omega⟩

theorem piece_disj (b b' : Fin 15 ⊕ Fin 15) (h : b ≠ b') : Disjoint (piece b) (piece b') := by
  rw [Finset.disjoint_left]
  intro i hi hi'
  rcases b with j | j <;> rcases b' with k | k
  · have h1 := (mem_slot j i).mp hi; have h2 := (mem_slot k i).mp hi'
    exact h (congrArg Sum.inl (Fin.ext (by omega)))
  · have h1 := (mem_slot j i).mp hi; have h2 := (mem_pad k i).mp hi'
    omega
  · have h1 := (mem_pad j i).mp hi; have h2 := (mem_slot k i).mp hi'
    omega
  · have h1 := (mem_pad j i).mp hi; have h2 := (mem_pad k i).mp hi'
    exact h (congrArg Sum.inr (Fin.ext (by omega)))

theorem piece_cover : Finset.univ.biUnion piece = Finset.univ := by
  refine Finset.eq_univ_iff_forall.mpr fun i => Finset.mem_biUnion.mpr ?_
  by_cases h : (i 0).val % 32 < 24
  · exact ⟨.inl ⟨(i 0).val / 32, row_div i⟩, Finset.mem_univ _, (mem_slot _ i).mpr (by show 32 * ((i 0).val / 32) ≤ _ ∧ _ < 32 * ((i 0).val / 32) + 24; omega)⟩
  · exact ⟨.inr ⟨(i 0).val / 32, row_div i⟩, Finset.mem_univ _, (mem_pad _ i).mpr (by show 32 * ((i 0).val / 32) + 24 ≤ _ ∧ _ < 32 * ((i 0).val / 32) + 24 + 8; omega)⟩

/-- The rows of the sending buffer after slot `j`. -/
def gapPts (j : Fin 15) (f : Buf (Elt F) (sM.view.loc (c : Thread nD τ))) : sProp 𝕄 :=
  (sM.access (padR j)).loc (c : Thread nD τ) ↦[(sM.access (padR j)).set]{fullShare} f

theorem s_piece (b : Fin 15 ⊕ Fin 15) (f : Buf (Elt F) (sM.view.loc (c : Thread nD τ))) :
    (sM.view.loc (c : Thread nD τ) ↦[piece b]{fullShare} f : sProp 𝕄) = Sum.elim (fun j => sSlot c j f) (fun j => gapPts c j f) b := by
  rcases b with j | j
  · show _ = sSlot c j f
    unfold sSlot piece
    rw [show (sndM j).view.set = (slotR j).set from View.set_slice_whole _ _]
  · show _ = gapPts c j f
    unfold gapPts piece
    rw [show (sM.access (padR j)).set = (padR j).set from View.set_slice_whole _ _]
theorem r_piece (b : Fin 15 ⊕ Fin 15) (f : Buf (Elt F) (rM.view.loc (c : Thread nD τ))) :
    (rM.view.loc (c : Thread nD τ) ↦[piece b]{fullShare} f : sProp 𝕄) = Sum.elim (fun j => rSlot c j f) (fun j => padPts c j f) b := by
  rcases b with j | j
  · show _ = rSlot c j f
    unfold rSlot piece
    rw [show (rcvM j).view.set = (slotR j).set from View.set_slice_whole _ _]
  · show _ = padPts c j f
    unfold padPts piece
    rw [show (rM.access (padR j)).set = (padR j).set from View.set_slice_whole _ _]

/-- The sending buffer whole is its slots and the rows after them; -/
theorem s_split (f : Buf (Elt F) (sM.view.loc (c : Thread nD τ))) :
    (sM.view.loc (c : Thread nD τ) ↦{fullShare} f : sProp 𝕄)
      = iprop((bigSep Finset.univ fun j => sSlot c j f) ∗ bigSep Finset.univ fun j => gapPts c j f) := by
  rw [Ring.pointsTo_blocks (ℓ := sM.view.loc (c : Thread nD τ)) piece piece_disj piece_cover f, bigSep_congr (fun b _ => s_piece c b f), bigSep_univ_sum]
  rfl
/-- the landing buffer likewise; -/
theorem r_split (f : Buf (Elt F) (rM.view.loc (c : Thread nD τ))) :
    (rM.view.loc (c : Thread nD τ) ↦{fullShare} f : sProp 𝕄)
      = iprop((bigSep Finset.univ fun j => rSlot c j f) ∗ bigSep Finset.univ fun j => padPts c j f) := by
  rw [Ring.pointsTo_blocks (ℓ := rM.view.loc (c : Thread nD τ)) piece piece_disj piece_cover f, bigSep_congr (fun b _ => r_piece c b f), bigSep_univ_sum]
  rfl
/-- and the slots and rows of the sending buffer, at any contents, are the buffer again. -/
theorem s_join (f₀ : Buf (Elt F) (sM.view.loc (c : Thread nD τ))) :
    iprop((bigSep Finset.univ fun j => iprop(∃ f, sSlot c j f)) ∗ bigSep Finset.univ fun j => gapPts c j f₀)
      ⊢ (iprop(∃ f, sM.view.loc (c : Thread nD τ) ↦{fullShare} f) : sProp 𝕄) := by
  refine BIBase.Entails.trans ?_ (Ring.pointsTo_blocks_join_exists (ℓ := sM.view.loc (c : Thread nD τ)) piece piece_disj piece_cover f₀)
  rw [bigSep_univ_sum]
  show _ ⊢ iprop((bigSep Finset.univ fun a : Fin 15 => iprop(∃ f, sM.view.loc (c : Thread nD τ) ↦[piece (.inl a)]{fullShare} f))
    ∗ bigSep Finset.univ fun b : Fin 15 => iprop(∃ f, sM.view.loc (c : Thread nD τ) ↦[piece (.inr b)]{fullShare} f))
  iintro ⟨H1, H2⟩
  isplitl [H1]
  · iapply (each fun (j : Fin 15) _ => show iprop(∃ f, sSlot c j f) ⊢ (iprop(∃ f, sM.view.loc (c : Thread nD τ) ↦[piece (.inl j)]{fullShare} f) : sProp 𝕄) from by
      iintro ⟨%f, H⟩; iexists f
      iapply (Entails.of_eq (show sSlot c j f = _ from (s_piece c (.inl j) f).symm)); iexact H)
    iexact H1
  · iapply (each fun (j : Fin 15) _ => show gapPts c j f₀ ⊢ (iprop(∃ f, sM.view.loc (c : Thread nD τ) ↦[piece (.inr j)]{fullShare} f) : sProp 𝕄) from by
      iintro H; iexists f₀
      iapply (Entails.of_eq (show gapPts c j f₀ = _ from (s_piece c (.inr j) f₀).symm)); iexact H)
    iexact H2

/-! ## Everything received -/

def RcvEnd : sProp 𝕄 :=
  iprop(Ow c 0 ∗ (rM.view.loc (c : Thread nD τ) ↦{fullShare} landed m ρ c) ∗ bigSep Finset.univ fun j => semVal (recvCell c j) 0)

theorem join : iprop(Rcv m ρ c 15 ∗ Pd m ρ c 15) ⊢ RcvEnd m ρ c := by
  unfold Rcv Pd RcvEnd
  rw [from_end, upto_end, bigSep_empty, bigSep_empty, r_split, bigSep_sep']
  iintro ⟨⟨HO, -, H1, H2⟩, -, H3⟩
  isplitl [HO]; · iexact HO
  isplitr [H2]
  · isplitl [H1]
    · iapply (each fun (j : Fin 15) _ => show recvPay m ρ c j ⊢ (rSlot c j (landed m ρ c) : sProp 𝕄) from Entails.refl _); iexact H1
    · iexact H3
  · iexact H2

variable {α : Type}

theorem zero2 : (![0, 0] : Fin 2 → ℕ) = fun _ => 0 := by decide

/-- The load of the landing buffer. -/
theorem landing_load {Q : α → sProp 𝕄} {inb : ∀ a, (![0, 0] : Fin 2 → ℕ) a + S480x1024.size a ≤ S480x1024.size a}
    {hl : rM.view.LoadsAt (Rect.unit (s := S480x1024) ![0, 0] S480x1024.size inb).toLoadRect}
    {k : ((Rect.unit (s := S480x1024) ![0, 0] S480x1024.size inb).toLoadRect.shape.Idx → Elt F .bf16) → Prog (TpuEff nD τ sig (Elt F) Λ₀ .tc) α} :
    RcvEnd m ρ c ⊢ iprop((RcvEnd m ρ c -∗ Wp c (k (landed m ρ c)) Q) -∗ Wp c (.op (.load rM (Rect.unit (s := S480x1024) ![0, 0] S480x1024.size inb).toLoadRect hl) k) Q) := by
  unfold RcvEnd
  iintro ⟨HO, H, Hz⟩ Hk
  iapply (ld c) $$ H
  rw [show rM.view.readAt (Elt F) (Rect.unit (s := S480x1024) ![0, 0] S480x1024.size inb).toLoadRect (landed m ρ c) = landed m ρ c from
    Memref.readAt_unit_zero (Elt F) cc0_scratch5 zero2 _ _]
  iintro H
  iapply Hk
  isplitl [HO]; · iexact HO
  isplitl [H] <;> iassumption

/-- The store of the result. -/
theorem out_store {Q : α → sProp 𝕄} {inb : ∀ a, (![0, 0] : Fin 2 → ℕ) a + S64x1024.size a ≤ S64x1024.size a} {w : Vec F S64x1024 .f32}
    {f : Buf (Elt F) (oM.view.loc (c : Thread nD τ))}
    {hx : (oM.access (Rect.unit (s := S64x1024) ![0, 0] S64x1024.size inb)).Stores Finset.univ}
    {hm : (Finset.univ : Finset (Rect.unit (s := S64x1024) ![0, 0] S64x1024.size inb).shape.Idx) = Finset.univ ∨ ∀ a, (Rect.unit (s := S64x1024) ![0, 0] S64x1024.size inb).stride a = 1}
    {k : PUnit → Prog (TpuEff nD τ sig (Elt F) Λ₀ .tc) α} :
    (oM.view.loc (c : Thread nD τ) ↦{fullShare} f)
      ⊢ iprop(((oM.view.loc (c : Thread nD τ) ↦{fullShare} w) -∗ Wp c (k ⟨⟩) Q) -∗ Wp c (.op (.store oM (Rect.unit (s := S64x1024) ![0, 0] S64x1024.size inb) w Finset.univ hx hm) k) Q) := by
  iintro H Hk
  iapply (wp_store 𝒱₀ (c : Thread nD τ) none Set.univ (m := oM) (r := Rect.unit (s := S64x1024) ![0, 0] S64x1024.size inb) (Mk := Finset.univ) (Finset.subset_univ _)) $$ H
  rw [show (oM.access (Rect.unit (s := S64x1024) ![0, 0] S64x1024.size inb)).write (Elt F) f w Finset.univ = w from
    Memref.write_access_unit_zero_univ (Elt F) cc0_stg4_0 zero2 _ f w]
  iintro H
  iapply Hk
  iexact H

end Cert.KernelIdeal.Moe

end
-- ==== Proof.PartsC.lean ====
/-
# The parts of the body that collect
-/
module

public import proofs.«01_k».proof.Proof.Join

@[expose] public section

noncomputable section

namespace Cert.KernelIdeal.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Kd → ℕ) (c : Dev nD)

theorem part43 {Q : (Σ' (v1667 : FVec F S64x480 .bf16), FVec F S8x1024 .bf16) → sProp 𝕄} :
    iprop(Pd m ρ c 0 ∗ (∀ r, ⌜r = ⟨v1667 (In m ρ c), pad⟩⌝ -∗ Pd m ρ c 3 -∗ Q r))
      ⊢ Wp c (atBufs (k0_part43 (F := F)) (v1638 (In m ρ c)) (v1639 (In m ρ c))) Q := by
  unfold atBufs
  simp only [k0_part43_eq_skeleton]; unfold k0_part43_skel
  simp only [Prog.lift, Prog.bind_op, Prog.bind_ret, Prog.pure_eq_ret]
  iintro ⟨Hp, Hk⟩
  iapply (gap_load m ρ c 0 (by decide)) $$ Hp; iintro %_ Hp
  iapply (gap_clear m ρ c 0 (by decide) (by exact pad_cast _)) $$ Hp; iintro Hp
  iapply (gap_load m ρ c 1 (by decide)) $$ Hp; iintro %_ Hp
  iapply (gap_clear m ρ c 1 (by decide) (by exact pad_cast _)) $$ Hp; iintro Hp
  iapply (gap_load m ρ c 2 (by decide)) $$ Hp; iintro %_ Hp
  iapply (gap_clear m ρ c 2 (by decide) (by exact pad_cast _)) $$ Hp; iintro Hp
  iapply (gap_load m ρ c 3 (by decide)) $$ Hp; iintro %_ Hp
  iapply ret
  iapply Hk $$ %_ [] Hp
  ipureintro; exact rfl

theorem part44 {Q : PUnit → sProp 𝕄} :
    iprop(Pd m ρ c 3 ∗ (Pd m ρ c 13 -∗ Q ⟨⟩))
      ⊢ Wp c (atBufs (k0_part44 (F := F)) pad) Q := by
  unfold atBufs
  simp only [k0_part44_eq_skeleton]; unfold k0_part44_skel
  simp only [Prog.lift, Prog.bind_op, Prog.bind_ret, Prog.pure_eq_ret]
  iintro ⟨Hp, Hk⟩
  iapply (gap_clear m ρ c 3 (by decide) (by exact pad_cast _)) $$ Hp; iintro Hp
  iapply (gap_load m ρ c 4 (by decide)) $$ Hp; iintro %_ Hp
  iapply (gap_clear m ρ c 4 (by decide) (by exact pad_cast _)) $$ Hp; iintro Hp
  iapply (gap_load m ρ c 5 (by decide)) $$ Hp; iintro %_ Hp
  iapply (gap_clear m ρ c 5 (by decide) (by exact pad_cast _)) $$ Hp; iintro Hp
  iapply (gap_load m ρ c 6 (by decide)) $$ Hp; iintro %_ Hp
  iapply (gap_clear m ρ c 6 (by decide) (by exact pad_cast _)) $$ Hp; iintro Hp
  iapply (gap_load m ρ c 7 (by decide)) $$ Hp; iintro %_ Hp
  iapply (gap_clear m ρ c 7 (by decide) (by exact pad_cast _)) $$ Hp; iintro Hp
  iapply (gap_load m ρ c 8 (by decide)) $$ Hp; iintro %_ Hp
  iapply (gap_clear m ρ c 8 (by decide) (by exact pad_cast _)) $$ Hp; iintro Hp
  iapply (gap_load m ρ c 9 (by decide)) $$ Hp; iintro %_ Hp
  iapply (gap_clear m ρ c 9 (by decide) (by exact pad_cast _)) $$ Hp; iintro Hp
  iapply (gap_load m ρ c 10 (by decide)) $$ Hp; iintro %_ Hp
  iapply (gap_clear m ρ c 10 (by decide) (by exact pad_cast _)) $$ Hp; iintro Hp
  iapply (gap_load m ρ c 11 (by decide)) $$ Hp; iintro %_ Hp
  iapply (gap_clear m ρ c 11 (by decide) (by exact pad_cast _)) $$ Hp; iintro Hp
  iapply (gap_load m ρ c 12 (by decide)) $$ Hp; iintro %_ Hp
  iapply (gap_clear m ρ c 12 (by decide) (by exact pad_cast _)) $$ Hp; iintro Hp
  iapply (gap_load m ρ c 13 (by decide)) $$ Hp; iintro %_ Hp
  iapply ret
  iapply Hk $$ Hp

theorem part45 {Q : PUnit → sProp 𝕄} (v617 : BitVec 32) (v640 : BitVec 32) (v850 : BitVec 32) (v873 : BitVec 32):
    iprop(ctx m ρ K ∗ Pd m ρ c 13 ∗ Rcv m ρ c 0 ∗ (Pd m ρ c 15 -∗ Rcv m ρ c 3 -∗ Q ⟨⟩))
      ⊢ Wp c (atBufs (k0_part45 (F := F)) v617 v640 v850 v873 pad) Q := by
  unfold atBufs
  simp only [k0_part45_eq_skeleton]; unfold k0_part45_skel
  simp only [Prog.lift, Prog.bind_op, Prog.bind_ret, Prog.pure_eq_ret]
  iintro ⟨#Hc, Hp, Hr, Hk⟩
  iapply (gap_clear m ρ c 13 (by decide) (by exact pad_cast _)) $$ Hp; iintro Hp
  iapply (gap_load m ρ c 14 (by decide)) $$ Hp; iintro %_ Hp
  iapply (gap_clear m ρ c 14 (by decide) (by exact pad_cast _)) $$ Hp; iintro Hp
  iapply (arrive m ρ K c 0 (by decide)) $$ Hc Hr; iintro Hr
  iapply (arrive m ρ K c 1 (by decide)) $$ Hc Hr; iintro Hr
  iapply (arrive m ρ K c 2 (by decide)) $$ Hc Hr; iintro Hr
  iapply ret
  iapply Hk $$ Hp Hr

theorem part46 {Q : PUnit → sProp 𝕄} (v896 : BitVec 32) (v919 : BitVec 32) (v1129 : BitVec 32) (v1152 : BitVec 32):
    iprop(ctx m ρ K ∗ Rcv m ρ c 3 ∗ (Rcv m ρ c 7 -∗ Q ⟨⟩))
      ⊢ Wp c (atBufs (k0_part46 (F := F)) v896 v919 v1129 v1152) Q := by
  unfold atBufs
  simp only [k0_part46_eq_skeleton]; unfold k0_part46_skel
  simp only [Prog.lift, Prog.bind_op, Prog.bind_ret, Prog.pure_eq_ret]
  iintro ⟨#Hc, Hr, Hk⟩
  iapply (arrive m ρ K c 3 (by decide)) $$ Hc Hr; iintro Hr
  iapply (arrive m ρ K c 4 (by decide)) $$ Hc Hr; iintro Hr
  iapply (arrive m ρ K c 5 (by decide)) $$ Hc Hr; iintro Hr
  iapply (arrive m ρ K c 6 (by decide)) $$ Hc Hr; iintro Hr
  iapply ret
  iapply Hk $$ Hr

theorem part47 {Q : PUnit → sProp 𝕄} (v1175 : BitVec 32) (v1198 : BitVec 32) (v1413 : BitVec 32) (v1436 : BitVec 32):
    iprop(ctx m ρ K ∗ Rcv m ρ c 7 ∗ (Rcv m ρ c 11 -∗ Q ⟨⟩))
      ⊢ Wp c (atBufs (k0_part47 (F := F)) v1175 v1198 v1413 v1436) Q := by
  unfold atBufs
  simp only [k0_part47_eq_skeleton]; unfold k0_part47_skel
  simp only [Prog.lift, Prog.bind_op, Prog.bind_ret, Prog.pure_eq_ret]
  iintro ⟨#Hc, Hr, Hk⟩
  iapply (arrive m ρ K c 7 (by decide)) $$ Hc Hr; iintro Hr
  iapply (arrive m ρ K c 8 (by decide)) $$ Hc Hr; iintro Hr
  iapply (arrive m ρ K c 9 (by decide)) $$ Hc Hr; iintro Hr
  iapply (arrive m ρ K c 10 (by decide)) $$ Hc Hr; iintro Hr
  iapply ret
  iapply Hk $$ Hr

theorem part48 {Q : (FVec F S64x1024 .f32) → sProp 𝕄} (v1459 : BitVec 32) (v1482 : BitVec 32) (v1505 : BitVec 32):
    iprop(ctx m ρ K ∗ Rcv m ρ c 11 ∗ Pd m ρ c 15 ∗ (∀ r, ⌜r = outv (In m ρ c) (landed m ρ c)⌝ -∗ RcvEnd m ρ c -∗ Q r))
      ⊢ Wp c (atBufs (k0_part48 (F := F)) (v1398 (In m ρ c)) v1459 v1482 v1505 (v1667 (In m ρ c))) Q := by
  unfold atBufs
  simp only [k0_part48_eq_skeleton]; unfold k0_part48_skel
  simp only [Prog.lift, Prog.bind_op, Prog.bind_ret, Prog.pure_eq_ret]
  iintro ⟨#Hc, Hr, Hp, Hk⟩
  iapply (arrive m ρ K c 11 (by decide)) $$ Hc Hr; iintro Hr
  iapply (arrive m ρ K c 12 (by decide)) $$ Hc Hr; iintro Hr
  iapply (arrive m ρ K c 13 (by decide)) $$ Hc Hr; iintro Hr
  iapply (arrive m ρ K c 14 (by decide)) $$ Hc Hr; iintro Hr
  ihave Hr := (join m ρ c) $$ [Hr Hp]
  · isplitl [Hr]; · iexact Hr
    iexact Hp
  iapply (landing_load m ρ c) $$ Hr; iintro Hr
  iapply ret
  iapply Hk $$ %_ [] Hr
  ipureintro; exact rfl

theorem part49 {Q : PUnit → sProp 𝕄} :
    iprop(ctx m ρ K ∗ (∃ f : Buf (Elt F) (oM.view.loc (c : Thread nD τ)), oM.view.loc (c : Thread nD τ) ↦{fullShare} f) ∗ Fin' c 0 ∗ ((oM.view.loc (c : Thread nD τ) ↦{fullShare} outv (In m ρ c) (landed m ρ c)) -∗ Fin' c 4 -∗ Q ⟨⟩))
      ⊢ Wp c (atBufs (k0_part49 (F := F)) (outv (In m ρ c) (landed m ρ c))) Q := by
  unfold atBufs
  simp only [k0_part49_eq_skeleton]; unfold k0_part49_skel
  simp only [Prog.lift, Prog.bind_op, Prog.bind_ret, Prog.pure_eq_ret]
  iintro ⟨#Hc, Ho, Hf, Hk⟩
  icases Ho with ⟨%fo, Ho⟩
  iapply (ld c (M := oM)) $$ Ho; iintro Ho
  iapply (out_store c) $$ Ho; iintro Ho
  iapply (gone m ρ K c 0 (by decide)) $$ Hc Hf; iintro Hf
  iapply (gone m ρ K c 1 (by decide)) $$ Hc Hf; iintro Hf
  iapply (gone m ρ K c 2 (by decide)) $$ Hc Hf; iintro Hf
  iapply (gone m ρ K c 3 (by decide)) $$ Hc Hf; iintro Hf
  iapply ret
  iapply Hk $$ Ho Hf

theorem part50 {Q : PUnit → sProp 𝕄} :
    iprop(ctx m ρ K ∗ Fin' c 4 ∗ (Fin' c 9 -∗ Q ⟨⟩))
      ⊢ Wp c (atBufs (k0_part50 (F := F))) Q := by
  unfold atBufs
  simp only [k0_part50_eq_skeleton]; unfold k0_part50_skel
  simp only [Prog.lift, Prog.bind_op, Prog.bind_ret, Prog.pure_eq_ret]
  iintro ⟨#Hc, Hf, Hk⟩
  iapply (gone m ρ K c 4 (by decide)) $$ Hc Hf; iintro Hf
  iapply (gone m ρ K c 5 (by decide)) $$ Hc Hf; iintro Hf
  iapply (gone m ρ K c 6 (by decide)) $$ Hc Hf; iintro Hf
  iapply (gone m ρ K c 7 (by decide)) $$ Hc Hf; iintro Hf
  iapply (gone m ρ K c 8 (by decide)) $$ Hc Hf; iintro Hf
  iapply ret
  iapply Hk $$ Hf

theorem part51 {Q : PUnit → sProp 𝕄} :
    iprop(ctx m ρ K ∗ Fin' c 9 ∗ (Fin' c 14 -∗ Q ⟨⟩))
      ⊢ Wp c (atBufs (k0_part51 (F := F))) Q := by
  unfold atBufs
  simp only [k0_part51_eq_skeleton]; unfold k0_part51_skel
  simp only [Prog.lift, Prog.bind_op, Prog.bind_ret, Prog.pure_eq_ret]
  iintro ⟨#Hc, Hf, Hk⟩
  iapply (gone m ρ K c 9 (by decide)) $$ Hc Hf; iintro Hf
  iapply (gone m ρ K c 10 (by decide)) $$ Hc Hf; iintro Hf
  iapply (gone m ρ K c 11 (by decide)) $$ Hc Hf; iintro Hf
  iapply (gone m ρ K c 12 (by decide)) $$ Hc Hf; iintro Hf
  iapply (gone m ρ K c 13 (by decide)) $$ Hc Hf; iintro Hf
  iapply ret
  iapply Hk $$ Hf

end Cert.KernelIdeal.Moe

end
-- ==== Proof.Root.lean ====
/-
# The body of the kernel on one device

From what the device holds at its start — the right to signal each peer, to send to each peer, the waits of its own cells, its
buffers — the body runs to its end, and leaves the inputs as they were, the result buffer at `outv` and every counter at zero.
-/
module

public import proofs.«01_k».proof.Proof.PartsA
public import proofs.«01_k».proof.Proof.PartsB
public import proofs.«01_k».proof.Proof.PartsC

@[expose] public section

noncomputable section

namespace Cert.KernelIdeal.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Kd → ℕ) (c : Dev nD)

/-- What the first wait and the sendings need. -/
def Pre : sProp 𝕄 :=
  iprop(cred (tallyAt (barCell c) () 15) ∗ atPos ER (barCell c) 0 ∅ 0
    ∗ bigSep Finset.univ fun j => iprop(dutyTok ER (sendCell c j) 0 0 ∗ dutyTok ER (recvCell (sh c j) j) 0 0 ∗ ∃ f, sSlot c j f))

theorem ready : Sig (F := F) c 15 ⊢ iprop(Pre c -∗ Rdy c) := by
  unfold Pre Rdy
  iintro Hs ⟨H1, H2, H3⟩
  isplitl [H1]; · iexact H1
  isplitl [H2]; · iexact H2
  isplitl [Hs] <;> iassumption

/-- What the waits for the landings need, and for the end of the sendings. -/
def RcvIn : sProp 𝕄 := bigSep Finset.univ fun j => iprop(cred (tallyAt (recvCell c j) () N) ∗ atPos ER (recvCell c j) 0 ∅ 0)
def SndIn : sProp 𝕄 := bigSep Finset.univ fun j => atPos ER (sendCell c j) 0 ∅ 0

theorem turn : Snd (F := F) c 15 ⊢ iprop(RcvIn c -∗ (Rcv m ρ c 0 ∗ bigSep Finset.univ fun j => cred (tallyAt (sendCell c j) () N))) := by
  unfold Snd RcvIn Rcv
  rw [owR_end, upto_end, upto_zero, from_zero, bigSep_empty]
  iintro ⟨HO, -, H1⟩ H2
  isplitr [H1]
  · isplitl [HO]; · iexact HO
    isplitl [H2]; · iexact H2
    iempintro
  · iexact H1

theorem turn' : RcvEnd m ρ c ⊢ iprop((bigSep Finset.univ fun j => cred (tallyAt (sendCell c j) () N)) -∗ SndIn c
    -∗ (Fin' c 0 ∗ (rM.view.loc (c : Thread nD τ) ↦{fullShare} landed m ρ c) ∗ bigSep Finset.univ fun j => semVal (recvCell c j) 0)) := by
  unfold RcvEnd SndIn Fin'
  rw [upto_zero, from_zero, bigSep_empty, bigSep_sep']
  iintro ⟨HO, H1, H2⟩ H3 H4
  isplitr [H1 H2]
  · isplitl [HO]; · iexact HO
    isplitl [H3 H4]
    · isplitl [H3] <;> iassumption
    · iempintro
  · isplitl [H1] <;> iassumption

/-- What the body leaves. -/
def Done : sProp 𝕄 :=
  iprop(Fin' c 15 ∗ (rM.view.loc (c : Thread nD τ) ↦{fullShare} landed m ρ c) ∗ (bigSep Finset.univ fun j => semVal (recvCell c j) 0) ∗ semVal (barCell c) 0
    ∗ B0 m ρ c ∗ B1 m ρ c ∗ B2 m ρ c ∗ B3 m ρ c ∗ (oM.view.loc (c : Thread nD τ) ↦{fullShare} outv (In m ρ c) (landed m ρ c))
    ∗ B5 m ρ c ∗ B6 m ρ c ∗ B7 m ρ c ∗ B8 m ρ c)

set_option maxRecDepth 8000 in
theorem body_run {Q : PUnit → sProp 𝕄} :
    iprop(ctx m ρ K ∗ Sig c 0 ∗ Pre c
        ∗ (∃ f : Buf (Elt F) (xxM.view.loc (c : Thread nD τ)), xxM.view.loc (c : Thread nD τ) ↦{fullShare} f)
        ∗ A6 m ρ c 0 ∗ A7 m ρ c 0 ∗ (∃ f : Buf (Elt F) (kM.view.loc (c : Thread nD τ)), kM.view.loc (c : Thread nD τ) ↦{fullShare} f)
        ∗ B0 m ρ c ∗ B1 m ρ c ∗ B2 m ρ c ∗ B3 m ρ c
        ∗ (∃ f : Buf (Elt F) (oM.view.loc (c : Thread nD τ)), oM.view.loc (c : Thread nD τ) ↦{fullShare} f)
        ∗ Pd m ρ c 0 ∗ RcvIn c ∗ SndIn c ∗ (Done m ρ c -∗ Q ⟨⟩))
      ⊢ Wp c (atBufs (cc0_body (F := F))) Q := by
  unfold atBufs
  rw [cc0_body_eq_skeleton]; unfold cc0_body_skel
  iintro ⟨#Hc, Hs, Hq, H5, H6, H7, H8, H0, H1, H2, H3, Ho, Hp, Hri, Hsi, Hk⟩
  iapply (seq c)
  iapply (part1 m ρ K c)
  isplitr; · iexact Hc
  isplitl [Hs]; · iexact Hs
  iintro %r %hr Hs
  obtain ⟨v30, c16_i32_18, v31, rfl⟩ := hr
  try dsimp only
  iapply (seq c)
  iapply (part2 m ρ K c _ _ _)
  isplitr; · iexact Hc
  isplitl [Hs]; · iexact Hs
  iintro %r %hr Hs
  obtain ⟨v59, v64, v65, rfl⟩ := hr
  try dsimp only
  iapply (seq c)
  iapply (part3 m ρ K c _ _ _)
  isplitr; · iexact Hc
  isplitl [Hs]; · iexact Hs
  iintro %r %hr Hs
  obtain ⟨v95, c16_i32_63, v96, rfl⟩ := hr
  try dsimp only
  iapply (seq c)
  iapply (part4 m ρ K c _ _ _)
  isplitr; · iexact Hc
  isplitl [Hs]; · iexact Hs
  iintro %r %hr Hs
  obtain ⟨v124, v129, v130, rfl⟩ := hr
  try dsimp only
  iapply (seq c)
  iapply (part5 m ρ K c _ _ _)
  isplitr; · iexact Hc
  isplitl [Hs]; · iexact Hs
  iintro %r %hr Hs
  obtain ⟨v160, c16_i32_108, v161, rfl⟩ := hr
  try dsimp only
  iapply (seq c)
  iapply (part6 m ρ K c _ _ _)
  isplitr; · iexact Hc
  isplitl [Hs]; · iexact Hs
  iintro %r %hr Hs
  obtain ⟨v189, v194, v195, rfl⟩ := hr
  try dsimp only
  iapply (seq c)
  iapply (part7 m ρ K c _ _ _)
  isplitr; · iexact Hc
  isplitl [Hs]; · iexact Hs
  isplitl [H0]; · iexact H0
  isplitl [H5]; · iexact H5
  isplitl [H1]; · iexact H1
  isplitl [H2]; · iexact H2
  iintro %r %hr Hs H0 H5 H1 H2
  subst hr
  try dsimp only
  ihave Hs := (ready c) $$ Hs Hq
  iapply (seq c)
  iapply (part8 m ρ c)
  iintro %r %hr
  subst hr
  try dsimp only
  iapply (seq c)
  iapply (part9 m ρ c)
  isplitl [H6]; · iexact H6
  isplitl [H3]; · iexact H3
  isplitl [H7]; · iexact H7
  iintro %r %hr H6 H3 H7
  obtain ⟨v319, rfl⟩ := hr
  try dsimp only
  iapply (seq c)
  iapply (part10 m ρ c _)
  isplitl [H7]; · iexact H7
  isplitl [H6]; · iexact H6
  isplitl [H3]; · iexact H3
  iintro %r %hr H7 H6 H3
  subst hr
  try dsimp only
  iapply (seq c)
  iapply (part11 m ρ c)
  isplitl [H6]; · iexact H6
  isplitl [H3]; · iexact H3
  isplitl [H7]; · iexact H7
  iintro %r %hr H6 H3 H7
  subst hr
  try dsimp only
  iapply (seq c)
  iapply (part12 m ρ c)
  isplitl [H6]; · iexact H6
  isplitl [H3]; · iexact H3
  isplitl [H7]; · iexact H7
  isplitl [H8]; · iexact H8
  isplitl [H5]; · iexact H5
  iintro %r %hr H6 H3 H7 H8 H5
  obtain ⟨v427, rfl⟩ := hr
  try dsimp only
  iapply (seq c)
  iapply (part13 m ρ c _)
  isplitl [H6]; · iexact H6
  isplitl [H7]; · iexact H7
  iintro %r %hr H6 H7
  subst hr
  try dsimp only
  iapply (seq c)
  iapply (part14 m ρ c)
  iintro %r %hr
  subst hr
  try dsimp only
  iapply (seq c)
  iapply (part15 m ρ c _)
  isplitl [H8]; · iexact H8
  iintro %r %hr H8
  subst hr
  try dsimp only
  iapply (seq c)
  iapply (part16 m ρ K c)
  isplitr; · iexact Hc
  isplitl [Hs]; · iexact Hs
  iintro %r %hr Hs Hz
  subst hr
  try dsimp only
  iapply (seq c)
  iapply (part17 m ρ K c)
  isplitr; · iexact Hc
  isplitl [Hs]; · iexact Hs
  iintro %r %hr Hs
  obtain ⟨v617, v632, v633, v638, rfl⟩ := hr
  try dsimp only
  iapply (seq c)
  iapply (part18 m ρ K c _ _ _)
  isplitr; · iexact Hc
  isplitl [Hs]; · iexact Hs
  isplitl [H5]; · iexact H5
  isplitl [H6]; · iexact H6
  isplitl [H7]; · iexact H7
  iintro %r %hr Hs H5 H6 H7
  obtain ⟨v640, v660, rfl⟩ := hr
  try dsimp only
  iapply (seq c)
  iapply (part19 m ρ c)
  isplitl [H7]; · iexact H7
  iintro %r %hr H7
  subst hr
  try dsimp only
  iapply (seq c)
  iapply (part20 m ρ c _)
  isplitl [H8]; · iexact H8
  iintro %r %hr H8
  subst hr
  try dsimp only
  iapply (seq c)
  iapply (part21 m ρ c)
  iintro %r %hr
  subst hr
  try dsimp only
  iapply (seq c)
  iapply (part22 m ρ c)
  isplitl [Hs]; · iexact Hs
  iintro %r %hr Hs
  obtain ⟨v850, rfl⟩ := hr
  try dsimp only
  iapply (seq c)
  iapply (part23 m ρ K c _)
  isplitr; · iexact Hc
  isplitl [Hs]; · iexact Hs
  iintro %r %hr Hs
  obtain ⟨v873, rfl⟩ := hr
  try dsimp only
  iapply (seq c)
  iapply (part24 m ρ K c)
  isplitr; · iexact Hc
  isplitl [Hs]; · iexact Hs
  iintro %r %hr Hs
  obtain ⟨v896, v911, v912, v913, v914, c0_i32_447, rfl⟩ := hr
  try dsimp only
  iapply (seq c)
  iapply (part25 m ρ K c _ _ _ _ _)
  isplitr; · iexact Hc
  isplitl [Hs]; · iexact Hs
  isplitl [H5]; · iexact H5
  isplitl [H6]; · iexact H6
  isplitl [H7]; · iexact H7
  iintro %r %hr Hs H5 H6 H7
  obtain ⟨v919, v939, rfl⟩ := hr
  try dsimp only
  iapply (seq c)
  iapply (part26 m ρ c)
  isplitl [H7]; · iexact H7
  iintro %r %hr H7
  subst hr
  try dsimp only
  iapply (seq c)
  iapply (part27 m ρ c _)
  isplitl [H8]; · iexact H8
  iintro %r %hr H8
  subst hr
  try dsimp only
  iapply (seq c)
  iapply (part28 m ρ c)
  iintro %r %hr
  subst hr
  try dsimp only
  iapply (seq c)
  iapply (part29 m ρ c)
  isplitl [Hs]; · iexact Hs
  iintro %r %hr Hs
  obtain ⟨v1121, v1122, v1127, rfl⟩ := hr
  try dsimp only
  iapply (seq c)
  iapply (part30 m ρ K c _ _ _)
  isplitr; · iexact Hc
  isplitl [Hs]; · iexact Hs
  iintro %r %hr Hs
  obtain ⟨v1129, v1152, rfl⟩ := hr
  try dsimp only
  iapply (seq c)
  iapply (part31 m ρ K c)
  isplitr; · iexact Hc
  isplitl [Hs]; · iexact Hs
  iintro %r %hr Hs
  obtain ⟨v1175, v1190, v1191, v1192, rfl⟩ := hr
  try dsimp only
  iapply (seq c)
  iapply (part32 m ρ K c _ _ _)
  isplitr; · iexact Hc
  isplitl [Hs]; · iexact Hs
  isplitl [H5]; · iexact H5
  isplitl [H6]; · iexact H6
  isplitl [H7]; · iexact H7
  iintro %r %hr Hs H5 H6 H7
  obtain ⟨v1198, v1218, rfl⟩ := hr
  try dsimp only
  iapply (seq c)
  iapply (part33 m ρ c)
  isplitl [H7]; · iexact H7
  iintro %r %hr H7
  subst hr
  try dsimp only
  iapply (seq c)
  iapply (part34 m ρ c _)
  isplitl [H8]; · iexact H8
  iintro %r %hr H8
  subst hr
  try dsimp only
  iapply (seq c)
  iapply (part35 m ρ c)
  iintro %r %hr
  subst hr
  try dsimp only
  iapply (seq c)
  iapply (part36 m ρ c)
  isplitl [Hs]; · iexact Hs
  iintro %r %hr Hs
  obtain ⟨v1405, v1406, rfl⟩ := hr
  try dsimp only
  iapply (seq c)
  iapply (part37 m ρ K c _ _)
  isplitr; · iexact Hc
  isplitl [Hs]; · iexact Hs
  iintro %r %hr Hs
  obtain ⟨v1413, v1436, rfl⟩ := hr
  try dsimp only
  iapply (seq c)
  iapply (part38 m ρ K c)
  isplitr; · iexact Hc
  isplitl [Hs]; · iexact Hs
  iintro %r %hr Hs
  obtain ⟨v1459, v1472, rfl⟩ := hr
  try dsimp only
  iapply (seq c)
  iapply (part39 m ρ K c _)
  isplitr; · iexact Hc
  isplitl [Hs]; · iexact Hs
  iintro %r %hr Hs
  obtain ⟨v1482, v1505, rfl⟩ := hr
  try dsimp only
  iapply (seq c)
  iapply (part40 m ρ K c _)
  isplitr; · iexact Hc
  isplitl [Hs]; · iexact Hs
  isplitl [H2]; · iexact H2
  iintro %r %hr Hs H2
  subst hr
  try dsimp only
  ihave Ht := (turn m ρ c) $$ Hs Hri
  icases Ht with ⟨Hr, Hcs⟩
  iapply (seq c)
  iapply (part41 m ρ c)
  iintro %r %hr
  subst hr
  try dsimp only
  iapply (seq c)
  iapply (part42 m ρ c)
  iintro %r %hr
  subst hr
  try dsimp only
  iapply (seq c)
  iapply (part43 m ρ c)
  isplitl [Hp]; · iexact Hp
  iintro %r %hr Hp
  subst hr
  try dsimp only
  iapply (seq c)
  iapply (part44 m ρ c)
  isplitl [Hp]; · iexact Hp
  iintro Hp
  iapply (seq c)
  iapply (part45 m ρ K c _ _ _ _)
  isplitr; · iexact Hc
  isplitl [Hp]; · iexact Hp
  isplitl [Hr]; · iexact Hr
  iintro Hp Hr
  iapply (seq c)
  iapply (part46 m ρ K c _ _ _ _)
  isplitr; · iexact Hc
  isplitl [Hr]; · iexact Hr
  iintro Hr
  iapply (seq c)
  iapply (part47 m ρ K c _ _ _ _)
  isplitr; · iexact Hc
  isplitl [Hr]; · iexact Hr
  iintro Hr
  iapply (seq c)
  iapply (part48 m ρ K c _ _ _)
  isplitr; · iexact Hc
  isplitl [Hr]; · iexact Hr
  isplitl [Hp]; · iexact Hp
  iintro %r %hr Hr
  subst hr
  try dsimp only
  ihave Ht := (turn' m ρ c) $$ Hr Hcs Hsi
  icases Ht with ⟨Hf, Hl, Hv⟩
  iapply (seq c)
  iapply (part49 m ρ K c)
  isplitr; · iexact Hc
  isplitl [Ho]; · iexact Ho
  isplitl [Hf]; · iexact Hf
  iintro Ho Hf
  iapply (seq c)
  iapply (part50 m ρ K c)
  isplitr; · iexact Hc
  isplitl [Hf]; · iexact Hf
  iintro Hf
  iapply (seq c)
  iapply (part51 m ρ K c)
  isplitr; · iexact Hc
  isplitl [Hf]; · iexact Hf
  iintro Hf
  simp only [Prog.lift, Prog.bind_op, Prog.bind_ret, Prog.pure_eq_ret]
  iapply (gone m ρ K c 14 (by decide)) $$ Hc Hf; iintro Hf
  iapply ret
  iapply Hk
  unfold Done
  isplitl [Hf]; · iexact Hf
  isplitl [Hl]; · iexact Hl
  isplitl [Hv]; · iexact Hv
  isplitl [Hz]; · iexact Hz
  isplitl [H0]; · iexact H0
  isplitl [H1]; · iexact H1
  isplitl [H2]; · iexact H2
  isplitl [H3]; · iexact H3
  isplitl [Ho]; · iexact Ho
  isplitl [H5]; · iexact H5
  isplitl [H6]; · iexact H6
  isplitl [H7] <;> iassumption

end Cert.KernelIdeal.Moe

end
-- ==== Proof.Launch.lean ====
/-
# The launch

The sixteen devices' bodies put together: what each device starts from — its share of the exchange's tokens, its credits, its
buffers — is made out of the launch's resources, and what each body leaves is what the launch asks for at the end. So every run of
the program ends with the inputs as they were, each device's result at `outv`, and every counter at zero.
-/
module

public import proofs.«01_k».proof.Proof.Root
public import proofs.«01_k».proof.Proof.Gen.KernelIdeal.Points
public import Idealize.ShloMosaic.Lib.Pipeline.CollectiveSegs

@[expose] public section

noncomputable section

namespace Cert.KernelIdeal.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Separating conjunctions over the cells and over the devices -/

theorem over_kinds (Φ : Kd → sProp 𝕄) :
    bigSep Finset.univ Φ = iprop(Φ none ∗ (bigSep Finset.univ fun j => Φ (some (false, j))) ∗ bigSep Finset.univ fun j => Φ (some (true, j))) := by
  rw [bigSep_univ_at Φ none, show (Finset.univ.erase none : Finset Kd) = (Finset.univ : Finset (Bool × Fin 15)).map Function.Embedding.some from by
      ext k; cases k <;> simp, bigSep_map, bigSep_univ_prod, bigSep_univ_eq_bigSepL [false, true] (by decide) (by decide)]
  rfl

theorem over_slots (Φ : Option (Fin 15) → sProp 𝕄) : bigSep Finset.univ Φ = iprop(Φ none ∗ bigSep Finset.univ fun j => Φ (some j)) := by
  rw [bigSep_univ_at Φ none, show (Finset.univ.erase none : Finset (Option (Fin 15))) = (Finset.univ : Finset (Fin 15)).map Function.Embedding.some from by
      ext k; cases k <;> simp, bigSep_map]
  rfl

/-- Dealing one thing for each offset to the device at that offset, or taking it from there, is the same in all. -/
theorem around (Φ : Dev nD → Fin 15 → sProp 𝕄) :
    (bigSep Finset.univ fun c => bigSep Finset.univ fun j => Φ c j) = bigSep Finset.univ fun c => bigSep Finset.univ fun j => Φ (sh c j) j := by
  rw [bigSep_univ_comm, bigSep_univ_comm (fun c j => Φ (sh c j) j)]
  exact bigSep_congr fun j _ => bigSep_univ_equiv (shE j) (fun c => Φ c j)
theorem backwards (Φ : Fin 15 → sProp 𝕄) : bigSep Finset.univ Φ = bigSep Finset.univ fun j : Fin 15 => Φ j.rev :=
  bigSep_univ_equiv Fin.revPerm Φ
theorem around_rev (Φ : Dev nD → Fin 15 → sProp 𝕄) :
    (bigSep Finset.univ fun c => bigSep Finset.univ fun j => Φ c j) = bigSep Finset.univ fun c => bigSep Finset.univ fun j : Fin 15 => Φ (sh c j) j.rev := by
  rw [show (bigSep Finset.univ fun c => bigSep Finset.univ fun j => Φ c j) = bigSep Finset.univ fun c => bigSep Finset.univ fun j : Fin 15 => Φ c j.rev from
    bigSep_congr fun c _ => backwards (Φ c)]
  exact around fun c j => Φ c j.rev

/-! ## The data of the one grid point -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The two semaphores the program declares and never uses. -/
abbrev idleSem (b : Bool) : DmaSem sig := match b with | false => ⟨5, by decide⟩ | true => ⟨21, by decide⟩
abbrev idleCell (c : Dev nD) (b : Bool) : GSem nD τ sig := ((c : Thread nD τ), .dma (idleSem b))
def Idle (c : Dev nD) : sProp 𝕄 := iprop(semVal (idleCell c false) 0 ∗ semVal (idleCell c true) 0)

/-- The tokens of the payments device `c` makes, and where it stands at its own cells. -/
def payToks (c : Dev nD) : sProp 𝕄 :=
  iprop((bigSep Finset.univ fun j => dutyTok ER (barCell (sh c j)) 0 j.rev) ∗ (bigSep Finset.univ fun j => dutyTok ER (sendCell c j) 0 0)
    ∗ bigSep Finset.univ fun j => dutyTok ER (recvCell (sh c j) j) 0 0)
def linear (c : Dev nD) : sProp 𝕄 :=
  iprop((bigSep Finset.univ fun k : Kd => atPos ER (cell c k) 0 ∅ 0) ∗ payToks c ∗ Idle c)

/-- What device `c` starts from. -/
def start (c : Dev nD) : sProp 𝕄 :=
  iprop((∃ K, records m ρ K ∗ linear c) ∗ cred (tallyAt (barCell c) () 15) ∗ (bigSep Finset.univ fun j => cred (tallyAt (recvCell c j) () N)) ∗ levAts L lv)

/-- The six scratch buffers, at any contents. -/
def Scr (c : Dev nD) : sProp 𝕄 :=
  iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f))

/-- Every cell of the exchange at zero. -/
def Zero (c : Dev nD) : sProp 𝕄 :=
  iprop((bigSep Finset.univ fun j => semVal (sendCell c j) 0) ∗ (bigSep Finset.univ fun j => semVal (recvCell c j) 0) ∗ Idle c)

def Φ₀ (c : Dev nD) : sProp 𝕄 := iprop(start m ρ c ∗ Scr c)
def Φ₁ (c : Dev nD) : sProp 𝕄 := iprop(Scr (F := F) c ∗ Zero c ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (In m ρ c).x
    | ⟨1, _⟩ => (In m ρ c).rw
    | ⟨2, _⟩ => (In m ρ c).idx
    | ⟨3, _⟩ => (In m ρ c).ew
    | ⟨4, _⟩ => outv (In m ρ c) (landed m ρ c)
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPost (c : Dev nD) : sProp 𝕄 :=
  iprop(Φ₁ (F := F) c ∗ (dats m ρ 0 c).owesAt () t₀.succ
    ∗ stg c cc0_stg0_0 ((In m ρ c).x) ∗ stg c cc0_stg1_0 ((In m ρ c).rw) ∗ stg c cc0_stg2_0 ((In m ρ c).idx) ∗ stg c cc0_stg3_0 ((In m ρ c).ew)
    ∗ stg c cc0_stg4_0 (outv (In m ρ c) (landed m ρ c)))

def bodyPre (c : Dev nD) : sProp 𝕄 :=
  iprop(Φ₀ m ρ c ∗ (dats m ρ 0 c).owesAt () t₀.castSucc
    ∗ (∃ d, stg c cc0_stg0_0 ((dats m ρ 0 c).before (0 : Fin 5) t₀ d))
    ∗ (∃ d, stg c cc0_stg1_0 ((dats m ρ 0 c).before (1 : Fin 5) t₀ d))
    ∗ (∃ d, stg c cc0_stg2_0 ((dats m ρ 0 c).before (2 : Fin 5) t₀ d))
    ∗ (∃ d, stg c cc0_stg3_0 ((dats m ρ 0 c).before (3 : Fin 5) t₀ d))
    ∗ (∃ d, stg c cc0_stg4_0 ((dats m ρ 0 c).before (4 : Fin 5) t₀ d)))

section Body
variable (c : Dev nD)

theorem in0 : iprop(∃ d, stg c cc0_stg0_0 ((dats m ρ 0 c).before (0 : Fin 5) t₀ d)) ⊢ B0 m ρ c := by
  iintro ⟨%d, %f, %hf, H⟩
  have : f = (In m ρ c).x := by rw [hf]; unfold Dat.before; rw [if_pos (fetch0_0 t₀)]; rfl
  subst this; iexact H
theorem in1 : iprop(∃ d, stg c cc0_stg1_0 ((dats m ρ 0 c).before (1 : Fin 5) t₀ d)) ⊢ B1 m ρ c := by
  iintro ⟨%d, %f, %hf, H⟩
  have : f = (In m ρ c).rw := by rw [hf]; unfold Dat.before; rw [if_pos (fetch0_1 t₀)]; rfl
  subst this; iexact H
theorem in2 : iprop(∃ d, stg c cc0_stg2_0 ((dats m ρ 0 c).before (2 : Fin 5) t₀ d)) ⊢ B2 m ρ c := by
  iintro ⟨%d, %f, %hf, H⟩
  have : f = (In m ρ c).idx := by rw [hf]; unfold Dat.before; rw [if_pos (fetch0_2 t₀)]; rfl
  subst this; iexact H
theorem in3 : iprop(∃ d, stg c cc0_stg3_0 ((dats m ρ 0 c).before (3 : Fin 5) t₀ d)) ⊢ B3 m ρ c := by
  iintro ⟨%d, %f, %hf, H⟩
  have : f = (In m ρ c).ew := by rw [hf]; unfold Dat.before; rw [if_pos (fetch0_3 t₀)]; rfl
  subst this; iexact H

theorem full (b : Ref sig .tc) (X : b.ty.Contents (Elt F)) : (((c : Thread nD τ).loc b) ↦{fullShare} X : sProp 𝕄) ⊢ stg c b X := by
  iintro H; iexists X; isplitr
  · ipureintro; rfl
  · iexact H

/-- The tokens and slots in the form the body takes them. -/
theorem deal (fS : Buf (Elt F) (sM.view.loc (c : Thread nD τ))) (fR : Buf (Elt F) (rM.view.loc (c : Thread nD τ))) :
    iprop(Ow c (O₀ c) ∗ linear c ∗ cred (tallyAt (barCell c) () 15) ∗ (bigSep Finset.univ fun j => cred (tallyAt (recvCell c j) () N))
        ∗ (sM.view.loc (c : Thread nD τ) ↦{fullShare} fS) ∗ (rM.view.loc (c : Thread nD τ) ↦{fullShare} fR))
      ⊢ iprop(Sig c 0 ∗ Pre c ∗ Pd m ρ c 0 ∗ RcvIn c ∗ SndIn c ∗ Idle c ∗ bigSep Finset.univ fun j => gapPts c j fS) := by
  unfold linear payToks
  rw [s_split, r_split, over_kinds]
  iintro ⟨HO, ⟨⟨HaB, HaS, HaR⟩, ⟨HtB, HtS, HtR⟩, HI⟩, HcB, HcR, ⟨HsS, HsG⟩, HrS, HrG⟩
  unfold Sig Pre Pd RcvIn SndIn O₀
  rw [from_zero, upto_zero, bigSep_empty, bigSep_sep', bigSep_sep', bigSep_sep', bigSep_sep']
  isplitl [HO HtB HrS]
  · isplitl [HO]; · iexact HO
    isplitl [HtB]; · iexact HtB
    rw [← backwards (fun j => iprop(∃ f, rSlot c j f))]
    iapply (each fun (j : Fin 15) _ => show rSlot c j fR ⊢ (iprop(∃ f, rSlot c j f) : sProp 𝕄) from by iintro H; iexists fR; iexact H)
    iexact HrS
  isplitl [HcB HaB HtS HtR HsS]
  · isplitl [HcB]; · iexact HcB
    isplitl [HaB]; · iexact HaB
    isplitl [HtS]; · iexact HtS
    isplitl [HtR]; · iexact HtR
    iapply (each fun (j : Fin 15) _ => show sSlot c j fS ⊢ (iprop(∃ f, sSlot c j f) : sProp 𝕄) from by iintro H; iexists fS; iexact H)
    iexact HsS
  isplitl [HrG]
  · isplitl
    · iapply (each fun (j : Fin 15) _ => show padPts c j fR ⊢ (iprop(∃ f, padPts c j f) : sProp 𝕄) from by iintro H; iexists fR; iexact H)
      iexact HrG
    · iempintro
  isplitl [HcR HaR]
  · isplitl [HcR]; · iexact HcR
    iexact HaR
  isplitl [HaS]; · iexact HaS
  isplitl [HI]; · iexact HI
  iexact HsG

theorem leave (fS : Buf (Elt F) (sM.view.loc (c : Thread nD τ))) :
    iprop(Done m ρ c ∗ Idle c ∗ bigSep Finset.univ fun j => gapPts c j fS) ⊢ bodyPost m ρ c := by
  unfold Done bodyPost Φ₁ Zero Scr Dat.owesAt Pipeline.owesWithin Fin' Ow
  rw [show (dats m ρ 0 c).owed t₀.succ = 0 from rfl, upto_end, bigSep_sep' Finset.univ (fun j => sendPay c j) (fun j => semVal (sendCell c j) 0)]
  iintro ⟨⟨⟨⟨%W, HO⟩, -, HpS, HzS⟩, HR, HzR, HzB, H0, H1, H2, H3, H4, H5, H6, H7, H8⟩, HI, HG⟩
  ihave HS := (show iprop((bigSep Finset.univ fun j => sendPay c j) ∗ bigSep Finset.univ fun j => gapPts c j fS)
      ⊢ (iprop(∃ f, sM.view.loc (c : Thread nD τ) ↦{fullShare} f) : sProp 𝕄) from s_join c fS) $$ [HpS HG]
  · isplitl [HpS] <;> iassumption
  isplitl [HS HR HzS HzR HzB HI H5 H6 H7 H8]
  · isplitl [HS HR H5 H6 H7 H8]
    · isplitl [H5]; · iexists _; iexact H5
      isplitl [H6]; · iexists _; iexact H6
      isplitl [H7]; · iexists _; iexact H7
      isplitl [H8]; · iexists _; iexact H8
      isplitl [HS]; · iexact HS
      iexists _; iexact HR
    isplitr [HzB]
    · isplitl [HzS]; · iexact HzS
      isplitl [HzR] <;> iassumption
    · iexact HzB
  isplitl [HO]
  · iexists W
    isplitr; · ipureintro; exact fun _ _ => Or.inl trivial
    iexact HO
  isplitl [H0]; · iapply (full c cc0_stg0_0 _); iexact H0
  isplitl [H1]; · iapply (full c cc0_stg1_0 _); iexact H1
  isplitl [H2]; · iapply (full c cc0_stg2_0 _); iexact H2
  isplitl [H3]; · iapply (full c cc0_stg3_0 _); iexact H3
  iapply (full c cc0_stg4_0 _); iexact H4

theorem body_sound : bodyPre m ρ c ⊢ Wp c (atBufs (cc0_body (F := F))) (fun _ => bodyPost m ρ c) := by
  unfold bodyPre Φ₀ start Scr Dat.owesAt Pipeline.owesWithin
  rw [show (dats m ρ 0 c).owed t₀.castSucc = O₀ c from rfl]
  iintro ⟨⟨⟨⟨%K, #HK, Hl⟩, HcB, HcR, #Hlv⟩, ⟨%f5, H5⟩, ⟨%f6, H6⟩, ⟨%f7, H7⟩, ⟨%f8, H8⟩, ⟨%fS, HS⟩, ⟨%fR, HR⟩⟩, ⟨%W, -, HO⟩, H0, H1, H2, H3, ⟨%d, %f4, -, H4⟩⟩
  ihave HD := (deal m ρ c fS fR) $$ [HO Hl HcB HcR HS HR]
  · isplitl [HO]; · unfold Ow; iexists W; iexact HO
    isplitl [Hl]; · iexact Hl
    isplitl [HcB]; · iexact HcB
    isplitl [HcR]; · iexact HcR
    isplitl [HS] <;> iassumption
  icases HD with ⟨Hsig, Hpre, Hpd, Hri, Hsi, HI, HG⟩
  ihave H0 := (in0 m ρ c) $$ H0
  ihave H1 := (in1 m ρ c) $$ H1
  ihave H2 := (in2 m ρ c) $$ H2
  ihave H3 := (in3 m ρ c) $$ H3
  iapply (body_run m ρ K c)
  isplitr
  · unfold ctx; isplitr; · iexact HK
    iexact Hlv
  isplitl [Hsig]; · iexact Hsig
  isplitl [Hpre]; · iexact Hpre
  isplitl [H5]; · iexists f5; iexact H5
  isplitl [H6]
  · iapply (show (wwM.view.loc (c : Thread nD τ) ↦{fullShare} f6 : sProp 𝕄) ⊢ A6 m ρ c 0 from
      (at_start c (M := wwM) (w2 (In m ρ c)) f6).trans (at_mono c fun i h => absurd h (Nat.not_lt_zero _)))
    iexact H6
  isplitl [H7]
  · iapply (show (bM.view.loc (c : Thread nD τ) ↦{fullShare} f7 : sProp 𝕄) ⊢ A7 m ρ c 0 from
      (at_start c (M := bM) (ewb (In m ρ c)) f7).trans (at_mono c fun i h => absurd h (Nat.not_lt_zero _)))
    iexact H7
  isplitl [H8]; · iexists f8; iexact H8
  isplitl [H0]; · iexact H0
  isplitl [H1]; · iexact H1
  isplitl [H2]; · iexact H2
  isplitl [H3]; · iexact H3
  isplitl [H4]; · iexists f4; iexact H4
  isplitl [Hpd]; · iexact Hpd
  isplitl [Hri]; · iexact Hri
  isplitl [Hsi]; · iexact Hsi
  iintro HD
  iapply (leave m ρ c fS)
  isplitl [HD]; · iexact HD
  isplitl [HI] <;> iassumption

end Body

set_option maxRecDepth 100000 in
theorem body_obligation (c : Dev nD) : BodyObligation (dats (F := F) m ρ 0 c) (defs₀ (F := F)) 𝒱₀ () Set.univ := fun t => by
  rw [fin_N t, bigSep_W0, bigSep_W0]
  simp only [owns_whole_eq]
  exact body_sound m ρ c

/-! ## The launch -/

/-- The kernel's own semaphores: for each of the two kinds the unused one and fifteen used ones. -/
abbrev osem (k : Bool × Option (Fin 15)) : SemLoc sig := match k with
  | (b, none) => .dma (idleSem b)
  | (b, some j) => csem (some (b, j))

theorem ownSemFacts : Pipeline.OwnSemFacts cfg0.spec osem := by decide +kernel

theorem share_eq (c : Dev nD) (w : Fin cfg0.W) : (dats m ρ 0 c).share w = fullShare := by unfold Dat.share; split <;> rfl

theorem cell_injective : Function.Injective (fun ck : Dev nD × Kd => cell ck.1 ck.2) := by
  rintro ⟨c, k⟩ ⟨c', k'⟩ h
  have h1 : c = c' := congrArg (fun g : GSem nD τ sig => g.1.1) h
  have h2 : k = k' := csem_inj (congrArg Prod.snd h)
  rw [h1, h2]
def allCells : Finset (GSem nD τ sig) := Finset.univ.map ⟨fun ck : Dev nD × Kd => cell ck.1 ck.2, cell_injective⟩

/-- The payments at device `c`'s own cells: the fifteen to its barrier, one to each other cell. -/
abbrev tokOf (cj : Dev nD × Option Bool × Fin 15) : GSem nD τ sig × ℕ × Fin 15 := match cj with
  | (c, none, d) => (barCell c, 0, d)
  | (c, some b, j) => (cell c (some (b, j)), 0, 0)
theorem tokOf_injective : Function.Injective tokOf := by
  rintro ⟨c, k, j⟩ ⟨c', k', j'⟩ h
  have h1 : c = c' := by
    have := congrArg (fun x : GSem nD τ sig × ℕ × Fin 15 => x.1.1.1) h
    cases k <;> cases k' <;> exact this
  have h2 : ((k, j) : Option Bool × Fin 15) = (k', j') := by
    have e := congrArg (fun x : GSem nD τ sig × ℕ × Fin 15 => (kindOf x.1.2, x.2.2)) h
    rcases k with _ | b <;> rcases k' with _ | b'
    · have := (Prod.mk.inj e).2
      exact congrArg (Prod.mk none) this
    · have := (Prod.mk.inj e).1
      dsimp only [cell, tokOf] at this
      rw [kindOf_bar, kindOf_csem] at this; cases this
    · have := (Prod.mk.inj e).1
      dsimp only [cell, tokOf] at this
      rw [kindOf_bar, kindOf_csem] at this; cases this
    · have := (Prod.mk.inj e).1
      dsimp only [cell, tokOf] at this
      rw [kindOf_csem, kindOf_csem] at this; cases this; rfl
  rw [h1, h2]
def allToks : Finset (GSem nD τ sig × ℕ × Fin 15) := Finset.univ.map ⟨tokOf, tokOf_injective⟩

def u₀ : UU := (initOf (Pipeline.cells cfgs cellOf_inj) (Pipeline.launchToks cfgs cellOf_inj), initOf allCells allToks)

def toks (c : Dev nD) : sProp 𝕄 :=
  iprop((bigSep Finset.univ fun d => dutyTok ER (barCell c) 0 d) ∗ (bigSep Finset.univ fun j => dutyTok ER (sendCell c j) 0 0)
    ∗ bigSep Finset.univ fun j => dutyTok ER (recvCell c j) 0 0)

def G (c : Dev nD) : sProp 𝕄 :=
  iprop((bigSep Finset.univ fun k : Kd => roundState ER (xRd m ρ) (cell c k) 0)
    ∗ (bigSep Finset.univ fun k : Kd => iprop(atPos ER (cell c k) 0 ∅ 0 ∗ reached ER (cell c k) 0)) ∗ toks c)
def G' (c : Dev nD) : sProp 𝕄 := iprop(∃ K, records m ρ K ∗ linear c)

theorem over_opt (Φ : Option Bool → sProp 𝕄) : bigSep Finset.univ Φ = iprop(Φ none ∗ Φ (some false) ∗ Φ (some true)) :=
  bigSep_univ_eq_bigSepL [none, some false, some true] (by decide) (by decide) Φ

theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Kd => Φ (cell c k) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_prod, over_opt]; rfl
  iintro HX
  imod (Rounds.fund ER (xRd m ρ) allCells allToks) $$ HX with ⟨Hst, Hr, Hat, Htok⟩
  imodintro
  ihave Hst' := (Entails.of_eq (hX fun g => roundState ER (xRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = iprop((semVal (idleCell c false) 0 ∗ bigSep Finset.univ fun j => semVal (sendCell c j) 0)
        ∗ semVal (idleCell c true) 0 ∗ bigSep Finset.univ fun j => semVal (recvCell c j) 0) := by
  unfold Pipeline.ownSems0
  rw [bigSep_univ_prod, bigSep_univ_eq_bigSepL [false, true] (by decide) (by decide)]
  show iprop((bigSep Finset.univ fun o : Option (Fin 15) => semVal ((c.tc : Thread nD τ), osem (false, o)) 0)
    ∗ bigSep Finset.univ fun o : Option (Fin 15) => semVal ((c.tc : Thread nD τ), osem (true, o)) 0) = _
  rw [over_slots, over_slots]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : Kd => semVal (cell c k) 0) ∗ Idle c) : sProp 𝕄) := by
  rw [ownSems0_eq, unscopedSems0_eq, over_kinds]
  unfold Idle
  iintro ⟨⟨⟨H1, H2⟩, H3, H4⟩, H5⟩
  isplitr [H1 H3]
  · isplitl [H5]; · iexact H5
    isplitl [H2]; · iexact H2
    iexact H4
  · isplitl [H1] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (xRd m ρ) κ (cell c k)))
          ∗ (bigSep Finset.univ fun k => iprop(atPos ER (cell c k) 0 ∅ 0 ∗ reached ER (cell c k) 0)) ∗ toks c ∗ Idle c) := by
  unfold G
  iintro ⟨Hos, Hus, Hst, Hat, Htok⟩
  ihave Hv := (sems0_eq (F := F) c) $$ [Hos Hus]
  · isplitl [Hos] <;> iassumption
  icases Hv with ⟨Hv, HI⟩
  imod (show iprop((bigSep Finset.univ fun k : Kd => semVal (cell c k) 0) ∗ bigSep Finset.univ fun k : Kd => roundState ER (xRd m ρ) (cell c k) 0)
      ⊢ (|={Set.univ}=> bigSep Finset.univ fun k => iprop(∃ κ : ℕ, cellInv ER (xRd m ρ) κ (cell c k)) : sProp 𝕄) from by
        rw [← bigSep_sep']
        exact (bigSep_mono fun k _ => (Rounds.body_intro ER (xRd m ρ) (cell c k)).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

theorem linear_intro (K : Dev nD × Kd → ℕ) (c : Dev nD) : iprop(records m ρ K ∗ linear c) ⊢ G' m ρ c := by
  unfold G'; iintro H; iexists K; iexact H

theorem toks_around : (bigSep Finset.univ fun c : Dev nD => (toks c : sProp 𝕄)) ⊢ bigSep Finset.univ fun c : Dev nD => payToks c := by
  unfold toks payToks
  rw [bigSep_sep', bigSep_sep', bigSep_sep', bigSep_sep',
    around_rev (fun (c : Dev nD) d => (dutyTok ER (barCell c) 0 d : sProp 𝕄)),
    around (fun (c : Dev nD) j => (dutyTok ER (recvCell c j) 0 0 : sProp 𝕄))]

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (xRd m ρ) κ (cell c k)))
          ∗ (bigSep Finset.univ fun k => iprop(atPos ER (cell c k) 0 ∅ 0 ∗ reached ER (cell c k) 0)) ∗ toks c ∗ Idle c) : sProp 𝕄)
      ⊢ bigSep Finset.univ (G' m ρ) := by
  rw [bigSep_sep', bigSep_sep', bigSep_sep', ← bigSep_univ_prod (fun ck : Dev nD × Kd => iprop(∃ κ : ℕ, cellInv ER (xRd m ρ) κ (cell ck.1 ck.2))),
    bigSep_congr (s := Finset.univ) (fun (c : Dev nD) _ => bigSep_sep' Finset.univ (fun k : Kd => (atPos ER (cell c k) 0 ∅ 0 : sProp 𝕄)) (fun k => reached ER (cell c k) 0)),
    bigSep_sep', ← bigSep_univ_prod (fun ck : Dev nD × Kd => (reached ER (cell ck.1 ck.2) 0 : sProp 𝕄))]
  iintro ⟨HI, ⟨Hat, #HR⟩, Htok, Hid⟩
  ihave HK := (BI.bigSep_exists_pi Finset.univ (fun (ck : Dev nD × Kd) (κ : ℕ) => (cellInv ER (xRd m ρ) κ (cell ck.1 ck.2) : sProp 𝕄))) $$ HI
  icases HK with ⟨%K, #HI⟩
  ihave Htk := (toks_around (F := F)) $$ Htok
  iapply (bigSep_with_persistent (R := records m ρ K) fun c _ => linear_intro m ρ K c)
  isplitr
  · unfold records; isplitl; · iexact HI
    iexact HR
  · unfold linear
    rw [bigSep_sep', bigSep_sep']
    isplitl [Hat]; · iexact Hat
    isplitl [Htk] <;> iassumption

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The credits -/

theorem creds (c : Dev nD) :
    (Pipeline.launchCred O₀ c : sProp 𝕄) ⊢ iprop(cred (tallyAt (barCell c) () 15) ∗ bigSep Finset.univ fun j => cred (tallyAt (recvCell c j) () N)) := by
  have e : (O₀ : Dev nD → CellTallies nD τ sig Unit)
      = fun d => (fun d => ∑ j ∈ Finset.univ, (fun (j : Fin 15) d => tallyAt (barCell (sh d j)) () 1) j d) d
          + (fun d => ∑ j ∈ Finset.univ, (fun (j : Fin 15) d => tallyAt (recvCell (sh d j) j) () N) j d) d := by
    funext d; unfold O₀ owB owR; rw [from_zero]
  have eb : (tallyAt (barCell c) () 15 : CellTallies nD τ sig Unit) = ∑ j ∈ (Finset.univ : Finset (Fin 15)), tallyAt (barCell c) () 1 := by
    funext g; refine Finsupp.ext fun u => ?_
    rw [Finset.sum_apply, Finsupp.finset_sum_apply, Finset.sum_congr rfl fun _ _ => tallyAt_apply .., tallyAt_apply, Finset.sum_const, Finset.card_univ, Fintype.card_fin]
    split <;> rfl
  rw [e, Pipeline.launchCred_add, Pipeline.launchCred_sum, Pipeline.launchCred_sum, eb, Pipeline.cred_finsetSum]
  exact BI.sep_mono
    (bigSep_mono fun j _ => Pipeline.launchCred_tallyAt (.reg barS) (fun d => sh d j) (fun d => sh d j.rev) (fun c => sh_rev' c j) (fun d => sh_rev d j) () 1 c)
    (bigSep_mono fun j _ => Pipeline.launchCred_tallyAt (.dma (rSems j).sem) (fun d => sh d j) (fun d => sh d j.rev) (fun c => sh_rev' c j) (fun d => sh_rev d j) () N c)

/-! ### What the launch asks for -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ Scr
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ Scr Zero Idle
  iintro ⟨Hr, ⟨H2, H4, H1, H3⟩, HzB⟩
  isplitl [HzB]; · iexact HzB
  isplitr [Hr]
  · isplitl [H1 H2]
    · isplitl [H1] <;> iassumption
    · isplitl [H3] <;> iassumption
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Every run of the program on the sixteen devices ends, at the arrays computed and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arrays read are as they were. -/
theorem finalA_in (c : Dev nD) (w : Fin cfg0.W) (h : (cfg0.win w).isOut = false) : finalA m ρ c w = (s₀ m ρ).mem ((cfg0.win w).arr.view.loc (c : Thread nD τ)) :=
  (dats (F := F) m ρ 0 c).arrAt_in w h _

end Cert.KernelIdeal.Moe

end
-- ==== Proof.Words.lean ====
module

public import Idealize.ShloMosaic.Lib.Pointwise
public import Idealize.ShloMosaic.Lib.ValueIdx
public import Idealize.ShloMosaic.PureOps.Ideal.Laws

/-! # Words and bits as the kernel spells them

jax writes a floor division or a remainder of index words as a dozen scalar operations, and a mask as a
chain of comparisons read back as a float. Each lemma here names what such a chain says. -/

@[expose] public section

namespace Cert.Moe
open Idealize.ShloMosaic
open scoped BigOperators

/-- jax's floor division of one word by another, as the kernel writes it. -/
def fdiv (a c : BitVec 32) : BitVec 32 :=
  Scalar.select
    (IntOp.andi
      (IntOp.cmpi .ne
        (IntOp.subi (BitVec.setWidth 32 (IntOp.cmpi .sgt a 0#32)) (BitVec.setWidth 32 (IntOp.cmpi .slt a 0#32)))
        (Scalar.subi (Scalar.extui (Scalar.cmpi .sgt c 0#32)) (Scalar.extui (Scalar.cmpi .slt c 0#32))))
      (IntOp.cmpi .ne (IntOp.remsi ArithUnit.vector a c) 0#32))
    (IntOp.subi (IntOp.divsi ArithUnit.vector a c) 1#32)
    (IntOp.divsi ArithUnit.vector a c)

/-- The divisor of jax's remainder: the constant, never 0. -/
def fden (c : BitVec 32) : BitVec 32 := Scalar.select (Scalar.cmpi .eq c 0#32) 1#32 c

/-- jax's remainder of one word by another, as the kernel writes it. -/
def fmod (a c : BitVec 32) : BitVec 32 :=
  Scalar.select
    (IntOp.andi
      (IntOp.xori (IntOp.cmpi .slt (IntOp.remsi ArithUnit.vector a (fden c)) 0#32) (Scalar.cmpi .slt (fden c) 0#32))
      (IntOp.cmpi .ne (IntOp.remsi ArithUnit.vector a (fden c)) 0#32))
    (IntOp.addi (IntOp.remsi ArithUnit.vector a (fden c)) (fden c))
    (IntOp.remsi ArithUnit.vector a (fden c))

theorem fdiv_all : ∀ n : Fin 512, fdiv (BitVec.ofNat 32 n) 4#32 = BitVec.ofNat 32 (n / 4)
    ∧ fdiv (BitVec.ofNat 32 n) 32#32 = BitVec.ofNat 32 (n / 32)
    ∧ fdiv (BitVec.ofNat 32 n) 64#32 = BitVec.ofNat 32 (n / 64)
    ∧ fmod (BitVec.ofNat 32 n) 32#32 = BitVec.ofNat 32 (n % 32) := by
  decide +kernel

theorem fdiv4 (n : ℕ) (h : n < 512) : fdiv (BitVec.ofNat 32 n) 4#32 = BitVec.ofNat 32 (n / 4) :=
  (fdiv_all ⟨n, h⟩).1
theorem fdiv32 (n : ℕ) (h : n < 512) : fdiv (BitVec.ofNat 32 n) 32#32 = BitVec.ofNat 32 (n / 32) :=
  (fdiv_all ⟨n, h⟩).2.1
theorem fdiv64 (n : ℕ) (h : n < 512) : fdiv (BitVec.ofNat 32 n) 64#32 = BitVec.ofNat 32 (n / 64) :=
  (fdiv_all ⟨n, h⟩).2.2.1
theorem fmod32 (n : ℕ) (h : n < 512) : fmod (BitVec.ofNat 32 n) 32#32 = BitVec.ofNat 32 (n % 32) :=
  (fdiv_all ⟨n, h⟩).2.2.2

theorem half_pos : (0 : EReal) < Ideal.ofBits FTy.f32 1056964608#32 := by
  simp [Ideal.ofBits, Ideal.ieee]
  rw [← EReal.coe_mul, EReal.coe_pos]
  norm_num

theorem half_lt_one : Ideal.ofBits FTy.f32 1056964608#32 < (1 : EReal) := by
  simp [Ideal.ofBits, Ideal.ieee]
  rw [← EReal.coe_mul, ← EReal.coe_one, EReal.coe_lt_coe_iff]
  norm_num

/-- A 0/1 float is above one half exactly when it is 1. -/
theorem half_lt_ite (p : Prop) [Decidable p] :
    (Ideal.ofBits FTy.f32 1056964608#32 < (if p then (1 : EReal) else 0)) ↔ p := by
  by_cases h : p
  · simp only [h, if_true, iff_true]; exact half_lt_one
  · simp only [h, if_false, iff_false]; exact not_lt.mpr half_pos.le

theorem negInf : Ideal.ofBits FTy.f32 4286578688#32 = (⊥ : EReal) := by
  simp [Ideal.ofBits, Ideal.ieee]

/-- A small number read back as a float is that number. -/
theorem sitofp_ofNat (n : ℕ) (h : n < 2 ^ 31) :
    FloatOps.sitofp (F := Ideal) FTy.f32 (BitVec.ofNat 32 n) = ((n : ℝ) : EReal) := by
  show (((BitVec.ofNat 32 n).toInt : ℝ) : EReal) = _
  rw [BitVec.toInt_ofNat']
  have : ((n : ℤ)).bmod (2 ^ 32) = n := by
    rw [Int.bmod_eq_of_le] <;> omega
  rw [this, Int.cast_natCast]

/-- The bit of a proposition. -/
theorem sitofp_bit (b : BitVec 1) :
    FloatOps.sitofp (F := Ideal) FTy.f32 (BitVec.setWidth 32 b) = if b = 1#1 then (1 : EReal) else 0 := by
  have hb : b = 0#1 ∨ b = 1#1 := by
    rcases b with ⟨⟨v, hv⟩⟩; interval_cases v <;> simp
  show (((BitVec.setWidth 32 b).toInt : ℝ) : EReal) = _
  rcases hb with rfl | rfl
  · simp
  · simp

theorem andi_one (a b : BitVec 1) : IntOp.andi a b = 1#1 ↔ a = 1#1 ∧ b = 1#1 := by
  revert a b; decide
theorem ori_one (a b : BitVec 1) : IntOp.ori a b = 1#1 ↔ a = 1#1 ∨ b = 1#1 := by
  revert a b; decide
theorem ofBool_one (p : Prop) [Decidable p] : BitVec.ofBool (decide p) = 1#1 ↔ p := by
  by_cases h : p <;> simp [h]
theorem ofNat_inj (a b : ℕ) (ha : a < 2 ^ 32) (hb : b < 2 ^ 32) :
    BitVec.ofNat 32 a = BitVec.ofNat 32 b ↔ a = b := by
  constructor
  · intro h
    have := congrArg BitVec.toNat h
    simp only [BitVec.toNat_ofNat] at this
    rwa [Nat.mod_eq_of_lt ha, Nat.mod_eq_of_lt hb] at this
  · rintro rfl; rfl
theorem cmpi_eq_one (a b : BitVec 32) : IntOp.cmpi .eq a b = 1#1 ↔ a = b := by
  show BitVec.ofBool (a == b) = 1#1 ↔ _
  by_cases h : a = b
  · simp [h]
  · have : (a == b) = false := by simpa using h
    simp [h, this]
theorem cmpi_sle_one (a b : ℕ) (ha : a < 2 ^ 31) (hb : b < 2 ^ 31) :
    IntOp.cmpi .sle (BitVec.ofNat 32 a) (BitVec.ofNat 32 b) = 1#1 ↔ a ≤ b := by
  show BitVec.ofBool ((BitVec.ofNat 32 a).sle (BitVec.ofNat 32 b)) = 1#1 ↔ _
  have e : ∀ n : ℕ, n < 2 ^ 31 → (BitVec.ofNat 32 n).toInt = n := by
    intro n h
    rw [BitVec.toInt_ofNat', Int.bmod_eq_of_le] <;> omega
  rw [BitVec.sle_eq_decide, e a ha, e b hb, ofBool_one]
  omega
theorem cmpi_slt_one (a b : ℕ) (ha : a < 2 ^ 31) (hb : b < 2 ^ 31) :
    IntOp.cmpi .slt (BitVec.ofNat 32 a) (BitVec.ofNat 32 b) = 1#1 ↔ a < b := by
  show BitVec.ofBool ((BitVec.ofNat 32 a).slt (BitVec.ofNat 32 b)) = 1#1 ↔ _
  have e : ∀ n : ℕ, n < 2 ^ 31 → (BitVec.ofNat 32 n).toInt = n := by
    intro n h
    rw [BitVec.toInt_ofNat', Int.bmod_eq_of_le] <;> omega
  rw [BitVec.slt_eq_decide, e a ha, e b hb, ofBool_one]
  omega
theorem select_bit {α : Type} (b : BitVec 1) (x y : α) : Scalar.select b x y = if b = 1#1 then x else y := by
  rfl
theorem ite_iff {α : Type} {p q : Prop} [Decidable p] [Decidable q] (h : p ↔ q) (x y : α) :
    (if p then x else y) = if q then x else y := by
  by_cases hp : p
  · rw [if_pos hp, if_pos (h.mp hp)]
  · rw [if_neg hp, if_neg (fun hq => hp (h.mpr hq))]

end Cert.Moe
end
-- ==== Proof.Math.lean ====
module

public import proofs.«01_k».proof.Proof.Words

/-! # The mathematics of the dispatch, apart from any program

The data of the problem, the score, the weight and the part of the result each device adds; that a block of
rows packed by rank and unpacked by the same rank is the block again; and that the devices' parts sum to the
plainly written answer. -/

@[expose] public section

noncomputable section

namespace Cert.Moe
open Idealize.ShloMosaic
open scoped BigOperators

/-- The problem's inputs, whole: tokens, router, the two chosen experts of each token, expert matrices. -/
structure Data where
  x : Fin 1024 → Fin 512 → EReal
  rw : Fin 512 → Fin 64 → EReal
  e0 : Fin 1024 → Fin 64
  e1 : Fin 1024 → Fin 64
  W : Fin 64 → Fin 512 → Fin 1024 → EReal

namespace Data
variable (D : Data)

def score (t : Fin 1024) (e : Fin 64) : EReal := ∑ k, D.x t k * D.rw k e
def top (t : Fin 1024) : EReal :=
  Finset.fold max (Ideal.ofBits FTy.f32 4286578688#32) (fun e => D.score t e) Finset.univ
def prob (t : Fin 1024) (e : Fin 64) : EReal :=
  Ideal.div (Ideal.exp (D.score t e - D.top t)) (∑ e', Ideal.exp (D.score t e' - D.top t))
def gs (t : Fin 1024) : EReal := D.prob t (D.e0 t) + D.prob t (D.e1 t)
/-- The weight a token gives an expert: zero unless chosen. -/
def wt (t : Fin 1024) (e : Fin 64) : EReal :=
  if D.e0 t = e ∨ D.e1 t = e then Ideal.div (D.prob t e) (D.gs t) else 0
/-- Whether a token chose an expert of device `c`. -/
def hit (c : Fin 16) (t : Fin 1024) : Prop := (D.e0 t).val / 4 = c.val ∨ (D.e1 t).val / 4 = c.val
instance (c : Fin 16) (t : Fin 1024) : Decidable (D.hit c t) := by unfold hit; infer_instance

def ex (c : Fin 16) (j : Fin 4) : Fin 64 := ⟨4 * c.val + j.val, by omega⟩
def row (b : Fin 16) (i : Fin 64) : Fin 1024 := ⟨64 * b.val + i.val, by omega⟩

/-- One expert's term of a token's result. -/
def term (t : Fin 1024) (e : Fin 64) (o : Fin 1024) : EReal := ∑ k, (D.x t k * D.wt t e) * D.W e k o
/-- What device `c` adds to a token's result. -/
def part (c : Fin 16) (t : Fin 1024) (o : Fin 1024) : EReal :=
  D.term t (ex c 0) o + D.term t (ex c 1) o + D.term t (ex c 2) o + D.term t (ex c 3) o

/-- How many rows of block `b` up to row `i` device `c` serves. -/
def cnt (c b : Fin 16) (i : Fin 64) : ℕ := (Finset.univ.filter fun i' : Fin 64 => i' ≤ i ∧ D.hit c (row b i')).card
/-- How many rows of block `b` device `c` serves. -/
def tot (c b : Fin 16) : ℕ := (Finset.univ.filter fun i' : Fin 64 => D.hit c (row b i')).card

/-- Row `q` of the packed block device `c` makes of block `b`. -/
def packed (c b : Fin 16) (q : ℕ) (o : Fin 1024) : EReal :=
  ∑ i : Fin 64, (if D.cnt c b i = q + 1 ∧ D.hit c (row b i) then (1 : EReal) else 0) * D.part c (row b i) o

/-- What the claim asks of the inputs. -/
structure Good : Prop where
  x_fin : ∀ t k, D.x t k ≠ ⊥ ∧ D.x t k ≠ ⊤
  rw_fin : ∀ k e, D.rw k e ≠ ⊥ ∧ D.rw k e ≠ ⊤
  distinct : ∀ t, D.e0 t ≠ D.e1 t
  fits : ∀ c b, c ≠ b → D.tot c b ≤ 24

theorem term_zero {t e} (h : ¬(D.e0 t = e ∨ D.e1 t = e)) (o : Fin 1024) : D.term t e o = 0 := by
  unfold term wt
  simp [h]

theorem part_zero {c : Fin 16} {t : Fin 1024} (h : ¬ D.hit c t) (o : Fin 1024) : D.part c t o = 0 := by
  have e (j : Fin 4) : D.term t (ex c j) o = 0 := by
    apply D.term_zero
    unfold hit at h
    rintro (h' | h') <;> apply h <;> [left; right] <;> rw [h'] <;> show (4 * c.val + j.val) / 4 = c.val <;> omega
  unfold part
  simp [e]

theorem cnt_inj {c b : Fin 16} {i i' : Fin 64} (h : D.hit c (row b i)) (h' : D.hit c (row b i'))
    (e : D.cnt c b i = D.cnt c b i') : i = i' := by
  have key : ∀ i i' : Fin 64, D.hit c (row b i') → i < i' → D.cnt c b i < D.cnt c b i' := by
    intro i i' h' lt
    apply Finset.card_lt_card
    refine Finset.ssubset_iff_subset_ne.mpr ⟨?_, ?_⟩
    · intro z hz
      simp only [Finset.mem_filter, Finset.mem_univ, true_and] at hz ⊢
      exact ⟨hz.1.trans lt.le, hz.2⟩
    · intro he
      have : i' ∈ Finset.univ.filter fun z : Fin 64 => z ≤ i ∧ D.hit c (row b z) := by
        rw [he]; simp [h']
      simp at this
      exact absurd this.1 (not_le.mpr lt)
  rcases lt_trichotomy i i' with l | l | l
  · exact absurd e (key _ _ h' l).ne
  · exact l
  · exact absurd e (key _ _ h l).ne'

theorem cnt_pos {c b : Fin 16} {i : Fin 64} (h : D.hit c (row b i)) : 0 < D.cnt c b i :=
  Finset.card_pos.mpr ⟨i, by simp [h]⟩

theorem cnt_le_tot (c b : Fin 16) (i : Fin 64) : D.cnt c b i ≤ D.tot c b :=
  Finset.card_le_card fun z hz => by
    simp only [Finset.mem_filter, Finset.mem_univ, true_and] at hz ⊢
    exact hz.2

theorem cnt_le (c b : Fin 16) (i : Fin 64) : D.cnt c b i ≤ 64 := by
  refine le_trans (Finset.card_le_univ _) ?_
  simp

/-- The row packed at a served row's rank is that row. -/
theorem packed_at {c b : Fin 16} {i : Fin 64} (h : D.hit c (row b i)) (o : Fin 1024) :
    D.packed c b (D.cnt c b i - 1) o = D.part c (row b i) o := by
  unfold packed
  have hp := D.cnt_pos h
  rw [Finset.sum_eq_single i]
  · rw [if_pos ⟨by omega, h⟩, one_mul]
  · intro z _ hz
    rw [if_neg, zero_mul]
    rintro ⟨e, hz'⟩
    exact hz (D.cnt_inj hz' h (by omega))
  · intro hh; exact absurd (Finset.mem_univ i) hh

/-- Packing a block by rank and unpacking it by rank is the block. -/
theorem round {n : ℕ} {c b : Fin 16} (i : Fin 64) (o : Fin 1024) (q : Fin n → ℕ)
    (hq : ∀ k, k < 24 → ∃! s, q s = k) (ht : D.tot c b ≤ 24) :
    (∑ s : Fin n, (if D.cnt c b i = q s + 1 ∧ D.hit c (row b i) ∧ q s < 24 then (1 : EReal) else 0)
      * D.packed c b (q s) o) = D.part c (row b i) o := by
  by_cases h : D.hit c (row b i)
  · have hp := D.cnt_pos h
    have hl := D.cnt_le_tot c b i
    obtain ⟨s, hs, hu⟩ := hq (D.cnt c b i - 1) (by omega)
    rw [Finset.sum_eq_single s]
    · rw [if_pos ⟨by omega, h, by omega⟩, one_mul, hs, D.packed_at h]
    · intro z _ hz
      rw [if_neg, zero_mul]
      rintro ⟨e, _, _⟩
      exact hz (hu z (by show q z = _; omega))
    · intro hh; exact absurd (Finset.mem_univ s) hh
  · rw [D.part_zero h]
    apply Finset.sum_eq_zero
    intro s _
    rw [if_neg (fun hh => h hh.2.1), zero_mul]

/-! ## The weights are nonnegative reals -/

variable {D}

theorem exists_real {a : EReal} (h : a ≠ ⊥ ∧ a ≠ ⊤) : ∃ r : ℝ, a = (r : EReal) :=
  ⟨a.toReal, (EReal.coe_toReal h.2 h.1).symm⟩

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem score_real (g : D.Good) (t : Fin 1024) (e : Fin 64) : ∃ r : ℝ, D.score t e = (r : EReal) := by
  choose f hf using fun k => exists_real (g.x_fin t k)
  choose f' hf' using fun k => exists_real (g.rw_fin k e)
  refine ⟨∑ k, f k * f' k, ?_⟩
  unfold score
  rw [← coe_sum]
  exact Finset.sum_congr rfl fun k _ => by rw [hf, hf', EReal.coe_mul]

theorem top_real (g : D.Good) (t : Fin 1024) : ∃ r : ℝ, D.top t = (r : EReal) := by
  apply exists_real
  unfold top
  rw [negInf]
  constructor
  · apply ne_of_gt
    rw [Finset.lt_fold_max]
    right
    obtain ⟨r, hr⟩ := score_real g t 0
    exact ⟨0, Finset.mem_univ _, by rw [hr]; exact EReal.bot_lt_coe r⟩
  · apply ne_of_lt
    rw [Finset.fold_max_lt]
    refine ⟨bot_lt_top, fun e _ => ?_⟩
    obtain ⟨r, hr⟩ := score_real g t e
    rw [hr]; exact EReal.coe_lt_top r

theorem prob_real (g : D.Good) (t : Fin 1024) (e : Fin 64) : ∃ r : ℝ, 0 < r ∧ D.prob t e = (r : EReal) := by
  obtain ⟨m, hm⟩ := top_real g t
  choose s hs using score_real g t
  have hexp (e : Fin 64) : Ideal.exp (D.score t e - D.top t) = ((Real.exp (s e - m) : ℝ) : EReal) := by
    rw [hm, hs, ← EReal.coe_sub]; rfl
  have hpos : 0 < ∑ e, Real.exp (s e - m) :=
    Finset.sum_pos (fun _ _ => Real.exp_pos _) ⟨0, Finset.mem_univ _⟩
  refine ⟨Real.exp (s e - m) * (∑ e, Real.exp (s e - m))⁻¹, by positivity, ?_⟩
  unfold prob
  simp only [hexp]
  rw [coe_sum]
  unfold Ideal.div
  rw [if_neg (by rw [← EReal.coe_zero, EReal.coe_eq_coe_iff]; exact hpos.ne'), EReal.coe_mul, EReal.coe_inv]

theorem div_real (g : D.Good) (t : Fin 1024) (e : Fin 64) :
    ∃ r : ℝ, 0 ≤ r ∧ Ideal.div (D.prob t e) (D.gs t) = (r : EReal) := by
  obtain ⟨a, ha, ha'⟩ := prob_real g t e
  obtain ⟨b, hb, hb'⟩ := prob_real g t (D.e0 t)
  obtain ⟨c, hc, hc'⟩ := prob_real g t (D.e1 t)
  refine ⟨a * (b + c)⁻¹, by positivity, ?_⟩
  unfold gs
  rw [ha', hb', hc', ← EReal.coe_add]
  unfold Ideal.div
  rw [if_neg (by rw [← EReal.coe_zero, EReal.coe_eq_coe_iff]; exact (by positivity : (0:ℝ) < b + c).ne'), EReal.coe_mul, EReal.coe_inv]

theorem mul_sum_real {ι : Type} (s : Finset ι) (r : ℝ) (hr : 0 ≤ r) (f : ι → EReal) :
    ∑ i ∈ s, (r : EReal) * f i = (r : EReal) * ∑ i ∈ s, f i := by
  classical
  induction s using Finset.induction_on with
  | empty => simp
  | insert a s ha ih =>
    rw [Finset.sum_insert ha, Finset.sum_insert ha, ih,
      EReal.left_distrib_of_nonneg_of_ne_top (by exact_mod_cast hr) (EReal.coe_ne_top r)]

variable (D) in
/-- The plainly written answer. -/
def answer (t : Fin 1024) (o : Fin 1024) : EReal :=
  Ideal.div (D.prob t (D.e0 t)) (D.gs t) * (∑ k, D.x t k * D.W (D.e0 t) k o)
    + Ideal.div (D.prob t (D.e1 t)) (D.gs t) * (∑ k, D.x t k * D.W (D.e1 t) k o)

theorem term_hit (g : D.Good) {t : Fin 1024} {e : Fin 64} (h : D.e0 t = e ∨ D.e1 t = e) (o : Fin 1024) :
    D.term t e o = Ideal.div (D.prob t e) (D.gs t) * (∑ k, D.x t k * D.W e k o) := by
  obtain ⟨r, hr, hr'⟩ := div_real g t e
  unfold term wt
  rw [if_pos h, hr', ← mul_sum_real _ _ hr]
  exact Finset.sum_congr rfl fun k _ => by rw [mul_comm (D.x t k), mul_assoc]

theorem sum_term (g : D.Good) (t o : Fin 1024) : ∑ e, D.term t e o = D.answer t o := by
  have : ∑ e, D.term t e o = ∑ e ∈ ({D.e0 t, D.e1 t} : Finset (Fin 64)), D.term t e o := by
    symm
    apply Finset.sum_subset (Finset.subset_univ _)
    intro e _ he
    simp only [Finset.mem_insert, Finset.mem_singleton, not_or] at he
    exact D.term_zero (by rintro (h | h) <;> [exact he.1 h.symm; exact he.2 h.symm]) o
  rw [this, Finset.sum_pair (g.distinct t), term_hit g (Or.inl rfl), term_hit g (Or.inr rfl)]
  rfl

theorem sum_part (g : D.Good) (t o : Fin 1024) : ∑ c, D.part c t o = D.answer t o := by
  rw [← sum_term g, ← (finProdFinEquiv (m := 16) (n := 4)).sum_comp, Fintype.sum_prod_type]
  refine Finset.sum_congr rfl fun c _ => ?_
  rw [Fin.sum_univ_four]
  unfold part
  have e (j : Fin 4) : finProdFinEquiv (c, j) = ex c j := by
    apply Fin.ext; show j.val + 4 * c.val = 4 * c.val + j.val; omega
  simp only [e]

end Data

/-- A sum over a window's rows that only one block of 64 feeds is the sum over that block. -/
theorem sum_block {n : ℕ} (b : ℕ) (hb : 64 * (b + 1) ≤ n) (f : Fin n → EReal)
    (h : ∀ r : Fin n, r.val / 64 ≠ b → f r = 0) :
    ∑ r, f r = ∑ i : Fin 64, f ⟨64 * b + i.val, by omega⟩ := by
  symm
  apply Fintype.sum_of_injective (fun i : Fin 64 => (⟨64 * b + i.val, by omega⟩ : Fin n))
  · intro i j hij
    have := congrArg Fin.val hij
    apply Fin.ext
    simpa using this
  · intro r hr
    apply h
    intro hh
    apply hr
    exact ⟨⟨r.val % 64, Nat.mod_lt _ (by omega)⟩, Fin.ext (by show 64 * b + r.val % 64 = r.val; omega)⟩
  · intro i; rfl

/-- The count of a finite set of rows, summed as floats. -/
theorem sum_count {n : ℕ} (p : Fin n → Prop) [DecidablePred p] :
    (∑ i, if p i then (1 : EReal) else 0) = (((Finset.univ.filter p).card : ℝ) : EReal) := by
  have : ∀ i, (if p i then (1 : EReal) else 0) = (((if p i then 1 else 0 : ℝ) : ℝ) : EReal) := by
    intro i; split <;> simp
  simp only [this]
  rw [Data.coe_sum, Finset.sum_boole]

/-- A count less one is the float `q` exactly when the count is `q + 1`. -/
theorem rank_eq (a q : ℕ) : (((a : ℝ) : EReal) - 1 = ((q : ℝ) : EReal)) ↔ a = q + 1 := by
  rw [← EReal.coe_one, ← EReal.coe_sub, EReal.coe_eq_coe_iff, sub_eq_iff_eq_add]
  exact_mod_cast Iff.rfl

end Cert.Moe
end
-- ==== Proof.Pre.lean ====
module

public import proofs.«01_k».proof.Pre_served_KernelIdeal
public import proofs.«01_k».proof.Pre_served_ReferenceIdeal
public import proofs.«01_k».proof.Proof.Math
public import proofs.«01_k».proof.Proof.Words
public import Idealize.ShloMosaic.Lib.ReduceAll

/-! # What the precondition says

The printed predicate is a conjunction of five `all`s. At an index they say: the tokens and the router are
finite, the expert numbers are in range, a token's two choices differ, and no device serves more than 24 rows of
another device's block. -/

@[expose] public section

noncomputable section

namespace Cert.Pre_served_ReferenceIdeal

/-- The side conditions of the predicate, each of them decided. -/
theorem facts : Facts := by
  constructor <;> decide

end Cert.Pre_served_ReferenceIdeal

namespace Cert.Pre_served_KernelIdeal

open Idealize.ShloMosaic Cert.Moe
open scoped BigOperators

/-- The side conditions of the predicate, each of them decided. -/
theorem facts : Facts := by
  constructor <;> decide

variable [Facts]
open Facts

/-- Which entries are finite. -/
def finBits {s : Shape} (a : FVec Ideal s .bf16) (h : S_.BroadcastsInDim s (![] : Fin 0 → Fin s.rank)) : IVec s 1 :=
  cmpf .olt (Host.absf (extf .f32 a bitsLt_bf16_f32)) (broadcastInDim s ![] h (constant S_ .f32 0x7F800000#32))
/-- Which expert numbers are in range. -/
def validBits (a : IVec S1024x2 32) : IVec S1024x2 1 :=
  andi (cmpi .sge a (broadcastInDim S1024x2 ![] bcast_S_S1024x2 (constantI S_ 32 0#32)))
    (cmpi .slt a (broadcastInDim S1024x2 ![] bcast_S_S1024x2 (constantI S_ 32 64#32)))
/-- The first choices. -/
def col0 (a : IVec S1024x2 32) : IVec S1024x1 32 := extractStridedSlice S1024x1 ![0, 0] a slices_S1024x2_S1024x1_0_0
/-- The second choices. -/
def col1 (a : IVec S1024x2 32) : IVec S1024x1 32 := extractStridedSlice S1024x1 ![0, 1] a slices_S1024x2_S1024x1_0_1
/-- The first expert of each device. -/
def firstE : IVec S1024x16 32 :=
  muli (iotaInDim S1024x16 32 1) (broadcastInDim S1024x16 ![] bcast_S_S1024x16 (constantI S_ 32 4#32))
/-- Whether a choice is one of the device's experts. -/
def within (e : IVec S1024x1 32) : IVec S1024x16 1 :=
  andi (cmpi .sge (broadcastInDim S1024x16 ![0, 1] bcast_S1024x1_S1024x16_0_1 e) firstE)
    (cmpi .slt (broadcastInDim S1024x16 ![0, 1] bcast_S1024x1_S1024x16_0_1 e)
      (addi firstE (broadcastInDim S1024x16 ![] bcast_S_S1024x16 (constantI S_ 32 4#32))))
/-- How many rows of each block a device serves. -/
def counts (g : IVec S1024x16 1) : FVec Ideal S16x16 .f32 :=
  Host.reduceAdd (shapeCast S16x64x16 (uitofp .f32 g) shapeCasts_S1024x16_S16x64x16) (constant S_ .f32 0x00000000#32)
    reducesTo_S16x64x16_S16x16_d1 h_S_
/-- Which counts fit, or are a device's own. -/
def fitBits (n : FVec Ideal S16x16 .f32) : IVec S16x16 1 :=
  ori (cmpf .ole n (broadcastInDim S16x16 ![] bcast_S_S16x16 (constant S_ .f32 0x41C00000#32)))
    (cmpi .eq (iotaInDim S16x16 32 0) (iotaInDim S16x16 32 1))

/-- The predicate is the five conditions together. -/
theorem fn_eq (a0 : FVec Ideal S1024x512 .bf16) (a1 : FVec Ideal S512x64 .bf16) (a2 : IVec S1024x2 32) (a3 : FVec Ideal S4x512x1024 .bf16) :
    fn a0 a1 a2 a3 =
      andi (andi (andi (andi (Host.reduce IntOp.andi (finBits a0 bcast_S_S1024x512) (constantI S_ 1 1#1) reducesTo_S1024x512_S_d0_1 h_S_)
          (Host.reduce IntOp.andi (finBits a1 bcast_S_S512x64) (constantI S_ 1 1#1) reducesTo_S512x64_S_d0_1 h_S_))
        (Host.reduce IntOp.andi (validBits a2) (constantI S_ 1 1#1) reducesTo_S1024x2_S_d0_1 h_S_))
        (Host.reduce IntOp.andi (cmpi .ne (col0 a2) (col1 a2)) (constantI S_ 1 1#1) reducesTo_S1024x1_S_d0_1 h_S_))
        (Host.reduce IntOp.andi (fitBits (counts (ori (within (col0 a2)) (within (col1 a2))))) (constantI S_ 1 1#1) reducesTo_S16x16_S_d0_1 h_S_) := rfl

/-- A number whose absolute value is below the infinity is finite. -/
theorem fin_of_abs (v : EReal) (h : BitVec.ofBool (decide (FloatOps.absf (F := Ideal) (φ := FTy.f32) v < Ideal.ofBits FTy.f32 2139095040#32)) = 1#1) :
    v ≠ ⊥ ∧ v ≠ ⊤ := by
  have e : Ideal.ofBits FTy.f32 2139095040#32 = (⊤ : EReal) := by simp [Ideal.ofBits, Ideal.ieee]
  rw [ofBool_one, e] at h
  change max v (-v) < ⊤ at h
  rw [max_lt_iff] at h
  refine ⟨?_, h.1.ne⟩
  rintro rfl
  exact absurd h.2 (by simp)

/-- A word of an expert number in range. -/
theorem word_of_valid (w : BitVec 32) (h : IntOp.andi (IntOp.cmpi .sge w 0#32) (IntOp.cmpi .slt w 64#32) = 1#1) :
    w = BitVec.ofNat 32 (w.toNat % 64) := by
  rw [andi_one] at h
  have h1 : BitVec.sle 0#32 w = true := by
    have := h.1
    change BitVec.ofBool (BitVec.sle 0#32 w) = 1#1 at this
    revert this; cases BitVec.sle 0#32 w <;> decide
  have h2 : BitVec.slt w 64#32 = true := by
    have := h.2
    change BitVec.ofBool (BitVec.slt w 64#32) = 1#1 at this
    revert this; cases BitVec.slt w 64#32 <;> decide
  rw [BitVec.sle_iff_toInt_le] at h1
  rw [BitVec.slt_iff_toInt_lt] at h2
  have a : (0#32).toInt = 0 := by decide
  have b : (64#32).toInt = 64 := by decide
  rw [a] at h1
  rw [b] at h2
  rw [BitVec.toInt_eq_toNat_cond] at h1 h2
  apply BitVec.eq_of_toNat_eq
  rw [BitVec.toNat_ofNat]
  have := w.isLt
  split at h1 <;> omega

/-- The comparison of an expert number with a device's range. -/
theorem within_word : ∀ (e : Fin 64) (c : Fin 16),
    IntOp.andi (IntOp.cmpi .sge (BitVec.ofNat 32 e.val) (IntOp.muli (BitVec.ofNat 32 c.val) 4#32))
      (IntOp.cmpi .slt (BitVec.ofNat 32 e.val) (IntOp.addi (IntOp.muli (BitVec.ofNat 32 c.val) 4#32) 4#32)) = 1#1
      ↔ e.val / 4 = c.val := by
  decide +kernel

/-- A bit as a float. -/
theorem uitofp_bit (b : BitVec 1) : FloatOps.uitofp (F := Ideal) FTy.f32 b = if b = 1#1 then (1 : EReal) else 0 := by
  have hb : b = 0#1 ∨ b = 1#1 := by
    rcases b with ⟨⟨v, hv⟩⟩; interval_cases v <;> simp
  show ((b.toNat : ℝ) : EReal) = _
  rcases hb with rfl | rfl
  · simp
  · simp

theorem cap_word : Ideal.ofBits FTy.f32 1103101952#32 = (((24 : ℕ) : ℝ) : EReal) := by
  simp [Ideal.ofBits, Ideal.ieee]
  rw [← EReal.coe_mul]
  norm_num

variable {a0 : FVec Ideal S1024x512 .bf16} {a1 : FVec Ideal S512x64 .bf16} {a2 : IVec S1024x2 32} {a3 : FVec Ideal S4x512x1024 .bf16}

/-- The problem's data read off whole arrays. -/
def data (a0 : FVec Ideal S1024x512 .bf16) (a1 : FVec Ideal S512x64 .bf16) (a2 : IVec S1024x2 32)
    (w : FVec Ideal ⟨3, ![64, 512, 1024]⟩ .bf16) : Data where
  x t k := a0 (ix2 t k)
  rw k e := a1 (ix2 k e)
  e0 t := ⟨(a2 (ix2 t (0 : Fin 2))).toNat % 64, by omega⟩
  e1 t := ⟨(a2 (ix2 t (1 : Fin 2))).toNat % 64, by omega⟩
  W e k o := w (ix3 e k o)

/-- The five conditions, each at an index. -/
theorem fn_at (h : fn a0 a1 a2 a3 = fun _ => 1#1) :
    (∀ i, finBits a0 bcast_S_S1024x512 i = 1#1) ∧ (∀ i, finBits a1 bcast_S_S512x64 i = 1#1) ∧ (∀ i, validBits a2 i = 1#1)
      ∧ (∀ i, cmpi .ne (col0 a2) (col1 a2) i = 1#1)
      ∧ (∀ i, fitBits (counts (ori (within (col0 a2)) (within (col1 a2)))) i = 1#1) := by
  rw [fn_eq] at h
  haveI : Subsingleton S_.Idx := ⟨fun a b => funext fun i => i.elim0⟩
  have k := congrFun h (fun i => i.elim0)
  obtain ⟨k, k5⟩ := (andi_one _ _).1 k
  obtain ⟨k, k4⟩ := (andi_one _ _).1 k
  obtain ⟨k, k3⟩ := (andi_one _ _).1 k
  obtain ⟨k1, k2⟩ := (andi_one _ _).1 k
  exact ⟨Host.reduce_andi_all _ _ _ _ _ k1, Host.reduce_andi_all _ _ _ _ _ k2, Host.reduce_andi_all _ _ _ _ _ k3,
    Host.reduce_andi_all _ _ _ _ _ k4, Host.reduce_andi_all _ _ _ _ _ k5⟩

theorem choice_at (h : fn a0 a1 a2 a3 = fun _ => 1#1) (t : Fin 1024) (q : Fin 2) :
    a2 (ix2 t q) = BitVec.ofNat 32 ((a2 (ix2 t q)).toNat % 64) := by
  have k := (fn_at h).2.2.1 (ix2 t q)
  unfold validBits at k
  refine word_of_valid _ (Eq.trans ?_ k)
  pointwise []

theorem within_at (col : IVec S1024x1 32) (t : Fin 1024) (c : Fin 16) (e : Fin 64)
    (he : col (ix2 t 0) = BitVec.ofNat 32 e.val) : within col (ix2 t c) = 1#1 ↔ e.val / 4 = c.val := by
  refine Iff.trans (Eq.to_iff (congrArg (· = 1#1) ?_)) (within_word e c)
  pointwise [within, firstE]
  rw [he]

theorem good (h : fn a0 a1 a2 a3 = fun _ => 1#1) (w : FVec Ideal ⟨3, ![64, 512, 1024]⟩ .bf16) : (data a0 a1 a2 w).Good := by
  have c0 (t : Fin 1024) : col0 a2 (ix2 t 0) = BitVec.ofNat 32 ((data a0 a1 a2 w).e0 t).val := by
    refine Eq.trans ?_ (choice_at h t 0)
    pointwise [col0]
  have c1 (t : Fin 1024) : col1 a2 (ix2 t 0) = BitVec.ofNat 32 ((data a0 a1 a2 w).e1 t).val := by
    refine Eq.trans ?_ (choice_at h t 1)
    pointwise [col1]
  refine ⟨fun t k => fin_of_abs _ (Eq.trans ?_ ((fn_at h).1 (ix2 t k))), fun k e => fin_of_abs _ (Eq.trans ?_ ((fn_at h).2.1 (ix2 k e))), fun t e => ?_, fun c b n => ?_⟩
  · pointwise [finBits]
    rfl
  · pointwise [finBits]
    rfl
  · have k := (fn_at h).2.2.2.1 (ix2 t 0)
    have k' : IntOp.cmpi .ne (col0 a2 (ix2 t 0)) (col1 a2 (ix2 t 0)) = 1#1 := k
    rw [c0, c1, e] at k'
    change BitVec.ofBool (_ != _) = 1#1 at k'
    simp at k'
  · have k := (fn_at h).2.2.2.2 (ix2 b c)
    have cnt : counts (ori (within (col0 a2)) (within (col1 a2))) (ix2 b c) = (((data a0 a1 a2 w).tot c b : ℝ) : EReal) := by
      pointwise [counts]
      unfold Data.tot
      rw [← sum_count]
      refine Finset.sum_congr rfl fun i _ => ?_
      rw [uitofp_bit]
      refine ite_iff ?_ _ _
      have r : (⟨b.val * 64 + i.val, by omega⟩ : Fin 1024) = Data.row b i := Fin.ext (show b.val * 64 + i.val = 64 * b.val + i.val by omega)
      rw [r]
      show IntOp.ori (within (col0 a2) (ix2 _ c)) (within (col1 a2) (ix2 _ c)) = 1#1 ↔ _
      rw [ori_one, within_at _ _ _ _ (c0 _), within_at _ _ _ _ (c1 _)]
      rfl
    have k' : IntOp.ori (BitVec.ofBool (decide (counts (ori (within (col0 a2)) (within (col1 a2))) (ix2 b c) ≤ Ideal.ofBits FTy.f32 1103101952#32)))
        (IntOp.cmpi .eq (BitVec.ofNat 32 b.val) (BitVec.ofNat 32 c.val)) = 1#1 := by
      refine Eq.trans ?_ k
      pointwise [fitBits]
    rw [ori_one, ofBool_one, cmpi_eq_one, cnt, cap_word] at k'
    rcases k' with k' | k'
    · exact_mod_cast k'
    · refine absurd (Fin.ext ?_) n
      exact ((ofNat_inj _ _ (by omega) (by omega)).1 k').symm

end Cert.Pre_served_KernelIdeal
end
-- ==== Proof.KVal.lean ====
module

public import proofs.«01_k».proof.Proof.Values
public import proofs.«01_k».proof.Proof.Math

/-! # What one device's first phase computes, at an index

The softmax, the weights, the 0/1 column and the four doubled buffers, read at an index, in terms of the
problem's data. -/

@[expose] public section

noncomputable section

namespace Cert.KernelIdeal.Calc

open Cert.KernelIdeal Cert.KernelIdeal.Gen Cert.KernelIdeal.Moe Cert.Moe
open Idealize.ShloMosaic Idealize.SL.Sem
open scoped BigOperators

/-- Device `c`'s input blocks hold the problem's data. -/
structure Reads (D : Data) (c : Fin 16) (I : Inp Ideal) : Prop where
  dev : I.dev = c
  x : ∀ t k, I.x (ix2 t k) = D.x t k
  rw : ∀ k e, I.rw (ix2 k e) = D.rw k e
  e0 : ∀ t, I.idx (ix2 t (0 : Fin 2)) = BitVec.ofNat 32 (D.e0 t).val
  e1 : ∀ t, I.idx (ix2 t (1 : Fin 2)) = BitVec.ofNat 32 (D.e1 t).val
  W : ∀ j k o, I.ew (ix3 j k o) = D.W (Data.ex c j) k o

/-- An index of a two-axis window, in the coordinates of the buffer it is cut from. -/
theorem win2 {n m s0 s1 : ℕ} {o : Fin 2 → ℕ} {b0 b1 : ℕ} (h : o = ![b0, b1])
    (inb : ∀ a, o a + (![s0, s1] : Fin 2 → ℕ) a ≤ (⟨2, ![n, m]⟩ : Shape).size a) (r : Fin s0) (k : Fin s1)
    (h0 : b0 + r.val < n) (h1 : b1 + k.val < m) :
    (Rect.unit (s := ⟨2, ![n, m]⟩) o ![s0, s1] inb).emb (ix2 r k) = ix2 ⟨b0 + r.val, h0⟩ ⟨b1 + k.val, h1⟩ := by
  subst h
  funext a
  apply Fin.ext
  fin_cases a
  · show b0 + 1 * r.val = _; simp
  · show b1 + 1 * k.val = _; simp

/-- The same of three axes, the first a single slice. -/
theorem win3 {n m l s1 s2 : ℕ} {b : ℕ}
    (inb : ∀ a, (![b, 0, 0] : Fin 3 → ℕ) a + (![1, s1, s2] : Fin 3 → ℕ) a ≤ (⟨3, ![n, m, l]⟩ : Shape).size a)
    (r : Fin s1) (k : Fin s2) (h0 : b < n) (h1 : r.val < m) (h2 : k.val < l) :
    (Rect.unit (s := ⟨3, ![n, m, l]⟩) ![b, 0, 0] ![1, s1, s2] inb).emb (ix3 0 r k) = ix3 ⟨b, h0⟩ ⟨r.val, h1⟩ ⟨k.val, h2⟩ := by
  funext a
  apply Fin.ext
  fin_cases a
  · show b + 1 * 0 = _; simp
  · show 0 + 1 * r.val = _; simp
  · show 0 + 1 * k.val = _; simp

variable {D : Data} {c : Fin 16} {I : Inp Ideal}

theorem v199_at (h : Reads D c I) (t : Fin 1024) (k : Fin 512) : v199 I (ix2 t k) = D.x t k := by
  refine Eq.trans (congrArg I.x (win2 rfl _ t k (by omega) (by omega))) ?_
  simp only [zero_add, Fin.eta]; exact h.x t k

theorem v208_at (h : Reads D c I) (k : Fin 512) (e : Fin 64) : v208 I (ix2 k e) = D.rw k e := by
  refine Eq.trans (congrArg I.rw (win2 rfl _ k e (by omega) (by omega))) ?_
  simp only [zero_add, Fin.eta]; exact h.rw k e

theorem v220_at (h : Reads D c I) (t : Fin 1024) : v220 I (ix2 t 0) = BitVec.ofNat 32 (D.e0 t).val := by
  refine Eq.trans (congrArg I.idx (win2 rfl _ t 0 (by omega) (by decide))) ?_
  simp only [zero_add, Fin.eta]; exact h.e0 t

theorem v222_at (h : Reads D c I) (t : Fin 1024) : v222 I (ix2 t 0) = BitVec.ofNat 32 (D.e1 t).val := by
  refine Eq.trans (congrArg I.idx (win2 rfl _ t 0 (by omega) (by decide))) ?_
  simp only [zero_add, Fin.eta]; exact h.e1 t

theorem v221_at (h : Reads D c I) (t : Fin 1024) : v221 I (ix2 t 0) = BitVec.ofNat 32 (D.e0 t).val := by
  unfold v221; pointwise [k0_pay5]; exact v220_at h t

theorem v223_at (h : Reads D c I) (t : Fin 1024) : v223 I (ix2 t 0) = BitVec.ofNat 32 (D.e1 t).val := by
  unfold v223; pointwise [k0_pay6]; exact v222_at h t

theorem v219_at (h : Reads D c I) (t : Fin 1024) (e : Fin 64) : v219 I (ix2 t e) = D.prob t e := by
  unfold v219
  pointwise [k0_pay4, k0_pay1]
  simp only [v199_at h, v208_at h]
  rfl

theorem sum_pick (e : Fin 64) (f : Fin 64 → EReal) :
    ∑ x : Fin 64, Scalar.select (IntOp.cmpi .eq (BitVec.ofNat 32 x.val) (BitVec.ofNat 32 e.val)) (f x) 0 = f e := by
  rw [Finset.sum_eq_single e]
  · rw [select_bit, if_pos ((cmpi_eq_one _ _).mpr rfl)]
  · intro x _ hx
    rw [select_bit, if_neg]
    rw [cmpi_eq_one, ofNat_inj _ _ (by omega) (by omega)]
    exact fun hh => hx (Fin.ext hh)
  · intro hh; exact absurd (Finset.mem_univ e) hh

theorem v237_at (h : Reads D c I) (t : Fin 1024) : v237 I (ix2 t 0) = D.gs t := by
  unfold v237 v230 v232
  pointwise [k0_pay9, k0_pay7, k0_pay8, k0_pay5, k0_pay6]
  have e (x : Fin 64) : k0_pay4 (v199 I) (v208 I) (ix2 t x) = D.prob t x := v219_at h t x
  simp only [v220_at h, v222_at h, v219_at h, e, sum_pick]
  rfl

theorem k0_off1_eq : ∀ d : Dev nD, k0_off1 d = ![64 * ((d.val + 1) % 16), 0] := by decide +kernel
theorem k0_off2_eq : ∀ d : Dev nD, k0_off2 d = ![64 * ((d.val + 1) % 16), 0] := by decide +kernel
theorem k0_off3_eq : ∀ d : Dev nD, k0_off3 d = ![64 * ((d.val + 1) % 16), 0] := by decide +kernel
theorem k0_off4_eq : ∀ d : Dev nD, k0_off4 d 3#32 = ![64 * ((d.val + 3) % 16), 0] ∧ k0_off4 d 7#32 = ![64 * ((d.val + 7) % 16), 0] := by decide +kernel
theorem k0_off5_eq : ∀ d : Dev nD, k0_off5 d 3#32 = ![64 * ((d.val + 3) % 16), 0] ∧ k0_off5 d 7#32 = ![64 * ((d.val + 7) % 16), 0] := by decide +kernel
theorem k0_off6_eq : ∀ d : Dev nD, k0_off6 d 3#32 = ![64 * ((d.val + 3) % 16), 0] ∧ k0_off6 d 7#32 = ![64 * ((d.val + 7) % 16), 0] := by decide +kernel
theorem k0_off7_eq : ∀ d : Dev nD, k0_off7 d = ![64 * ((d.val + 11) % 16), 0] := by decide +kernel
theorem k0_off8_eq : ∀ d : Dev nD, k0_off8 d = ![64 * ((d.val + 11) % 16), 0] := by decide +kernel
theorem k0_off9_eq : ∀ d : Dev nD, k0_off9 d = ![64 * ((d.val + 11) % 16), 0] := by decide +kernel
theorem k0_off10_eq : ∀ d : Dev nD, k0_off10 d = ![64 * d.val, 0] := by decide +kernel
theorem k0_off11_eq : ∀ d : Dev nD, k0_off11 d = ![64 * d.val, 1] := by decide +kernel
theorem v2_eq (I : Inp Ideal) : v2 I = BitVec.ofNat 32 I.dev.val := by
  show (fun d : Dev nD => Scalar.remsi (Scalar.divsi (Dev.word d) 1#32) 16#32) I.dev = _
  generalize I.dev = d
  revert d
  decide +kernel

theorem fdiv_def (a c : BitVec 32) : Scalar.select
    (IntOp.andi
      (IntOp.cmpi .ne
        (IntOp.subi (BitVec.setWidth 32 (IntOp.cmpi .sgt a 0#32)) (BitVec.setWidth 32 (IntOp.cmpi .slt a 0#32)))
        (Scalar.subi (Scalar.extui (Scalar.cmpi .sgt c 0#32)) (Scalar.extui (Scalar.cmpi .slt c 0#32))))
      (IntOp.cmpi .ne (IntOp.remsi ArithUnit.vector a c) 0#32))
    (IntOp.subi (IntOp.divsi ArithUnit.vector a c) 1#32)
    (IntOp.divsi ArithUnit.vector a c) = fdiv a c := rfl

theorem v292_at (h : Reads D c I) (t : Fin 1024) : v292 I (ix2 t 0) = if D.hit c t then 1 else 0 := by
  unfold v292 v263 c4_i32_157 v265 v272 v278
  pointwise [k0_pay10, k0_pay11, k0_pay12, k0_pay13, k0_pay14]
  simp only [v221_at h, v223_at h, v2_eq, h.dev, fdiv_def]
  rw [sitofp_bit, fdiv4 _ (by omega), fdiv4 _ (by omega)]
  refine ite_iff ?_ _ _
  rw [ori_one, cmpi_eq_one, cmpi_eq_one, ofNat_inj _ _ (by omega) (lt_trans c.2 (by decide)),
    ofNat_inj _ _ (by omega) (lt_trans c.2 (by decide))]
  rfl

theorem exw (c : Fin 16) (j : Fin 4) : Scalar.addi (Scalar.muli (BitVec.ofNat 32 c.val) 4#32) (BitVec.ofNat 32 j.val)
    = BitVec.ofNat 32 (Data.ex c j).val := by
  revert c j; decide +kernel

theorem wt_form (D : Data) (t : Fin 1024) (e : Fin 64) :
    Scalar.select (IntOp.ori (IntOp.cmpi .eq (BitVec.ofNat 32 (D.e0 t).val) (BitVec.ofNat 32 e.val))
      (IntOp.cmpi .eq (BitVec.ofNat 32 (D.e1 t).val) (BitVec.ofNat 32 e.val)))
      (Ideal.div (∑ x : Fin 64, Scalar.select (IntOp.cmpi .eq (BitVec.ofNat 32 x.val) (BitVec.ofNat 32 e.val)) (D.prob t x) 0) (D.gs t)) 0
    = D.wt t e := by
  rw [sum_pick, select_bit]
  unfold Data.wt
  refine ite_iff ?_ _ _
  rw [ori_one, cmpi_eq_one, cmpi_eq_one, ofNat_inj _ _ (by omega) (by omega), ofNat_inj _ _ (by omega) (by omega),
    ← Fin.ext_iff, ← Fin.ext_iff]

theorem w0_at (h : Reads D c I) (t : Fin 1024) :
    k0_pay15 (v2 I) (v219 I) (v221 I) (v223 I) (v224 I) (v237 I) (ix2 t 0) = D.wt t (Data.ex c 0) := by
  pointwise [k0_pay15, v224]
  simp only [v221_at h, v223_at h, v219_at h, v237_at h, v2_eq, h.dev]
  rw [show Scalar.addi (Scalar.muli (BitVec.ofNat 32 c.val) 4#32) 0#32 = BitVec.ofNat 32 (Data.ex c 0).val from exw c 0]
  exact wt_form D t _

theorem w1_at (h : Reads D c I) (t : Fin 1024) :
    k0_pay20 (v2 I) (v219 I) (v221 I) (v223 I) (v224 I) (v237 I) (ix2 t 0) = D.wt t (Data.ex c 1) := by
  pointwise [k0_pay20, v224]
  simp only [v221_at h, v223_at h, v219_at h, v237_at h, v2_eq, h.dev]
  rw [show Scalar.addi (Scalar.muli (BitVec.ofNat 32 c.val) 4#32) 1#32 = BitVec.ofNat 32 (Data.ex c 1).val from exw c 1]
  exact wt_form D t _

theorem w2_at (h : Reads D c I) (t : Fin 1024) :
    k0_pay25 (v221 I) (v223 I) (v237 I) (v352 I) (v356 I) (ix2 t 0) = D.wt t (Data.ex c 2) := by
  unfold v356 v352 v351
  pointwise [k0_pay25, k0_pay24, v224]
  simp only [v221_at h, v223_at h, v219_at h, v237_at h, v2_eq, h.dev]
  rw [show Scalar.addi (Scalar.muli (BitVec.ofNat 32 c.val) 4#32) 2#32 = BitVec.ofNat 32 (Data.ex c 2).val from exw c 2]
  exact wt_form D t _

theorem w3_at (h : Reads D c I) (t : Fin 1024) : v396 I (ix2 t 0) = D.wt t (Data.ex c 3) := by
  unfold v396
  pointwise [k0_pay29, v224]
  simp only [v221_at h, v223_at h, v219_at h, v237_at h, v2_eq, h.dev]
  rw [show Scalar.addi (Scalar.muli (BitVec.ofNat 32 c.val) 4#32) 3#32 = BitVec.ofNat 32 (Data.ex c 3).val from exw c 3]
  exact wt_form D t _

/-! ## The doubled buffers -/

/-- A row of a doubled buffer, as the token it holds. -/
def tok (R : ℕ) : Fin 1024 := ⟨R % 1024, Nat.mod_lt _ (by decide)⟩

theorem tok_lo {R : ℕ} (h : R < 1024) : tok R = ⟨R, h⟩ := Fin.ext (Nat.mod_eq_of_lt h)
theorem tok_hi {R : ℕ} (h : ¬R < 1024) (h' : R - 1024 < 1024) : tok R = ⟨R - 1024, h'⟩ :=
  Fin.ext (by show R % 1024 = R - 1024; omega)

theorem x2_at (h : Reads D c I) (R : Fin 1344) (k : Fin 512) : x2 I (ix2 R k) = D.x (tok R.val) k := by
  unfold x2
  by_cases hR : R.val < 1024
  · refine (dif_pos hR).trans ?_
    pointwise [k0_pay2, k0_pay1]
    rw [tok_lo hR]; exact v199_at h _ _
  · refine (dif_neg hR).trans ?_
    pointwise [k0_pay3, k0_pay1]
    rw [tok_hi hR (by omega)]; exact v199_at h _ _

theorem m2_at (h : Reads D c I) (R : Fin 1344) : mask2 I (ix2 R 0) = if D.hit c (tok R.val) then (1 : EReal) else 0 := by
  unfold mask2
  by_cases hR : R.val < 1024
  · refine (dif_pos hR).trans ?_
    pointwise [k0_pay33]
    rw [tok_lo hR]; exact v292_at h _
  · refine (dif_neg hR).trans ?_
    pointwise [k0_pay34]
    rw [tok_hi hR (by omega)]; exact v292_at h _

theorem wcol_at (h : Reads D c I) (R : Fin 1344) (j : Fin 4) : w2 I (ix2 R j) = D.wt (tok R.val) (Data.ex c j) := by
  unfold w2
  by_cases hR : R.val < 1024
  · refine (dif_pos hR).trans ?_
    rw [tok_lo hR]
    fin_cases j
    · show k0_pay16 _ _ _ _ _ _ _ = _
      pointwise [k0_pay16]; exact w0_at h _
    · show k0_pay21 _ _ _ _ _ _ _ = _
      pointwise [k0_pay21]; exact w1_at h _
    · show k0_pay26 _ _ _ _ _ _ = _
      pointwise [k0_pay26]; exact w2_at h _
    · show k0_pay30 (v396 I) (ix2 ⟨R.val, hR⟩ (0 : Fin 1)) = _
      pointwise [k0_pay30]; exact w3_at h _
  · refine (dif_neg hR).trans ?_
    rw [tok_hi hR (by omega)]
    fin_cases j
    · show k0_pay17 _ _ _ _ _ _ _ = _
      pointwise [k0_pay17]; exact w0_at h _
    · show k0_pay22 _ _ _ _ _ _ _ = _
      pointwise [k0_pay22]; exact w1_at h _
    · show k0_pay27 _ _ _ _ _ _ = _
      pointwise [k0_pay27]; exact w2_at h _
    · show k0_pay31 (v396 I) (ix2 ⟨R.val - 1024, _⟩ (0 : Fin 1)) = _
      pointwise [k0_pay31]; exact w3_at h _

theorem ewb_at (h : Reads D c I) (j : Fin 4) (k : Fin 512) (o : Fin 1024) :
    ewb I (ix3 j k o) = D.W (Data.ex c j) k o := by
  unfold ewb
  fin_cases j
  · show k0_pay19 (v318 I) (ix3 (0 : Fin 1) k o) = _
    unfold v318 v317
    pointwise [k0_pay19, k0_pay18]
    refine Eq.trans (congrArg I.ew (win3 _ k o (by omega) (by omega) (by omega))) ?_
    exact h.W 0 k o
  · show k0_pay23 (v346 I) (ix3 (0 : Fin 1) k o) = _
    unfold v346
    pointwise [k0_pay23]
    refine Eq.trans (congrArg I.ew (win3 _ k o (by omega) (by omega) (by omega))) ?_
    exact h.W 1 k o
  · show k0_pay28 (v375 I) (ix3 (0 : Fin 1) k o) = _
    unfold v375
    pointwise [k0_pay28]
    refine Eq.trans (congrArg I.ew (win3 _ k o (by omega) (by omega) (by omega))) ?_
    exact h.W 2 k o
  · show k0_pay32 (v404 I) (ix3 (0 : Fin 1) k o) = _
    unfold v404
    pointwise [k0_pay32]
    refine Eq.trans (congrArg I.ew (win3 _ k o (by omega) (by omega) (by omega))) ?_
    exact h.W 3 k o

end Cert.KernelIdeal.Calc
end
-- ==== Proof.Windows.lean ====
module

public import proofs.«01_k».proof.Proof.KVal

/-! # The windows, and what a device computes over each

The four windows of consecutive rows of the doubled buffers, and the device's part of each of their rows. -/

@[expose] public section

noncomputable section

namespace Cert.KernelIdeal.Calc

open Cert.KernelIdeal Cert.KernelIdeal.Gen Cert.KernelIdeal.Moe Cert.Moe
open Idealize.ShloMosaic Idealize.SL.Sem
open scoped BigOperators

variable {D : Data} {c : Fin 16} {I : Inp Ideal}

/-- The token in row `r` of the window that starts at block `c + k`. -/
def wtok (c : Fin 16) (k r : ℕ) : Fin 1024 := tok (64 * ((c.val + k) % 16) + r)

theorem v429_at (h : Reads D c I) (r : Fin 128) (k : Fin 512) : v429 I (ix2 r k) = D.x (wtok c 1 r.val) k := by
  refine Eq.trans (congrArg (x2 I) (win2 (k0_off1_eq I.dev) _ r k (by omega) (by omega))) ?_
  rw [x2_at h]; simp only [h.dev, zero_add]; rfl

theorem v431_at (h : Reads D c I) (r : Fin 128) (j : Fin 4) : v431 I (ix2 r j) = D.wt (wtok c 1 r.val) (Data.ex c j) := by
  refine Eq.trans (congrArg (w2 I) (win2 (k0_off2_eq I.dev) _ r j (by omega) (by omega))) ?_
  rw [wcol_at h]; simp only [h.dev, zero_add]; rfl

theorem v519_at (h : Reads D c I) (r : Fin 128) :
    v519 I (ix2 r 0) = if D.hit c (wtok c 1 r.val) then (1 : EReal) else 0 := by
  refine Eq.trans (congrArg (mask2 I) (win2 (k0_off3_eq I.dev) _ r 0 (by omega) (by decide))) ?_
  refine (m2_at h _).trans ?_
  simp only [h.dev]; rfl

theorem v662_at (h : Reads D c I) (r : Fin 256) (k : Fin 512) : v662 I (ix2 r k) = D.x (wtok c 3 r.val) k := by
  refine Eq.trans (congrArg (x2 I) (win2 (k0_off4_eq I.dev).1 _ r k (by omega) (by omega))) ?_
  rw [x2_at h]; simp only [h.dev, zero_add]; rfl

theorem v664_at (h : Reads D c I) (r : Fin 256) (j : Fin 4) : v664 I (ix2 r j) = D.wt (wtok c 3 r.val) (Data.ex c j) := by
  refine Eq.trans (congrArg (w2 I) (win2 (k0_off5_eq I.dev).1 _ r j (by omega) (by omega))) ?_
  rw [wcol_at h]; simp only [h.dev, zero_add]; rfl

theorem v752_at (h : Reads D c I) (r : Fin 256) :
    v752 I (ix2 r 0) = if D.hit c (wtok c 3 r.val) then (1 : EReal) else 0 := by
  refine Eq.trans (congrArg (mask2 I) (win2 (k0_off6_eq I.dev).1 _ r 0 (by omega) (by decide))) ?_
  refine (m2_at h _).trans ?_
  simp only [h.dev]; rfl

theorem v941_at (h : Reads D c I) (r : Fin 256) (k : Fin 512) : v941 I (ix2 r k) = D.x (wtok c 7 r.val) k := by
  refine Eq.trans (congrArg (x2 I) (win2 (k0_off4_eq I.dev).2 _ r k (by omega) (by omega))) ?_
  rw [x2_at h]; simp only [h.dev, zero_add]; rfl

theorem v943_at (h : Reads D c I) (r : Fin 256) (j : Fin 4) : v943 I (ix2 r j) = D.wt (wtok c 7 r.val) (Data.ex c j) := by
  refine Eq.trans (congrArg (w2 I) (win2 (k0_off5_eq I.dev).2 _ r j (by omega) (by omega))) ?_
  rw [wcol_at h]; simp only [h.dev, zero_add]; rfl

theorem v1031_at (h : Reads D c I) (r : Fin 256) :
    v1031 I (ix2 r 0) = if D.hit c (wtok c 7 r.val) then (1 : EReal) else 0 := by
  refine Eq.trans (congrArg (mask2 I) (win2 (k0_off6_eq I.dev).2 _ r 0 (by omega) (by decide))) ?_
  refine (m2_at h _).trans ?_
  simp only [h.dev]; rfl

theorem v1220_at (h : Reads D c I) (r : Fin 384) (k : Fin 512) : v1220 I (ix2 r k) = D.x (wtok c 11 r.val) k := by
  refine Eq.trans (congrArg (x2 I) (win2 (k0_off7_eq I.dev) _ r k (by omega) (by omega))) ?_
  rw [x2_at h]; simp only [h.dev, zero_add]; rfl

theorem v1222_at (h : Reads D c I) (r : Fin 384) (j : Fin 4) : v1222 I (ix2 r j) = D.wt (wtok c 11 r.val) (Data.ex c j) := by
  refine Eq.trans (congrArg (w2 I) (win2 (k0_off8_eq I.dev) _ r j (by omega) (by omega))) ?_
  rw [wcol_at h]; simp only [h.dev, zero_add]; rfl

theorem v1310_at (h : Reads D c I) (r : Fin 384) :
    v1310 I (ix2 r 0) = if D.hit c (wtok c 11 r.val) then (1 : EReal) else 0 := by
  refine Eq.trans (congrArg (mask2 I) (win2 (k0_off9_eq I.dev) _ r 0 (by omega) (by decide))) ?_
  refine (m2_at h _).trans ?_
  simp only [h.dev]; rfl

theorem v436_at (h : Reads D c I) (k : Fin 512) (o : Fin 1024) : v436 I (ix3 0 k o) = D.W (Data.ex c 0) k o := by
  refine Eq.trans (congrArg (ewb I) (win3 (b := 0) _ k o (by decide) (by omega) (by omega))) ?_
  exact ewb_at h 0 k o

theorem v443_at (h : Reads D c I) (k : Fin 512) (o : Fin 1024) : v443 I (ix3 0 k o) = D.W (Data.ex c 1) k o := by
  refine Eq.trans (congrArg (ewb I) (win3 (b := 1) _ k o (by decide) (by omega) (by omega))) ?_
  exact ewb_at h 1 k o

theorem v450_at (h : Reads D c I) (k : Fin 512) (o : Fin 1024) : v450 I (ix3 0 k o) = D.W (Data.ex c 2) k o := by
  refine Eq.trans (congrArg (ewb I) (win3 (b := 2) _ k o (by decide) (by omega) (by omega))) ?_
  exact ewb_at h 2 k o

theorem v457_at (h : Reads D c I) (k : Fin 512) (o : Fin 1024) : v457 I (ix3 0 k o) = D.W (Data.ex c 3) k o := by
  refine Eq.trans (congrArg (ewb I) (win3 (b := 3) _ k o (by decide) (by omega) (by omega))) ?_
  exact ewb_at h 3 k o

theorem v669_at (h : Reads D c I) (k : Fin 512) (o : Fin 1024) : v669 I (ix3 0 k o) = D.W (Data.ex c 0) k o := by
  refine Eq.trans (congrArg (ewb I) (win3 (b := 0) _ k o (by decide) (by omega) (by omega))) ?_
  exact ewb_at h 0 k o

theorem v676_at (h : Reads D c I) (k : Fin 512) (o : Fin 1024) : v676 I (ix3 0 k o) = D.W (Data.ex c 1) k o := by
  refine Eq.trans (congrArg (ewb I) (win3 (b := 1) _ k o (by decide) (by omega) (by omega))) ?_
  exact ewb_at h 1 k o

theorem v683_at (h : Reads D c I) (k : Fin 512) (o : Fin 1024) : v683 I (ix3 0 k o) = D.W (Data.ex c 2) k o := by
  refine Eq.trans (congrArg (ewb I) (win3 (b := 2) _ k o (by decide) (by omega) (by omega))) ?_
  exact ewb_at h 2 k o

theorem v690_at (h : Reads D c I) (k : Fin 512) (o : Fin 1024) : v690 I (ix3 0 k o) = D.W (Data.ex c 3) k o := by
  refine Eq.trans (congrArg (ewb I) (win3 (b := 3) _ k o (by decide) (by omega) (by omega))) ?_
  exact ewb_at h 3 k o

theorem v948_at (h : Reads D c I) (k : Fin 512) (o : Fin 1024) : v948 I (ix3 0 k o) = D.W (Data.ex c 0) k o := by
  refine Eq.trans (congrArg (ewb I) (win3 (b := 0) _ k o (by decide) (by omega) (by omega))) ?_
  exact ewb_at h 0 k o

theorem v955_at (h : Reads D c I) (k : Fin 512) (o : Fin 1024) : v955 I (ix3 0 k o) = D.W (Data.ex c 1) k o := by
  refine Eq.trans (congrArg (ewb I) (win3 (b := 1) _ k o (by decide) (by omega) (by omega))) ?_
  exact ewb_at h 1 k o

theorem v962_at (h : Reads D c I) (k : Fin 512) (o : Fin 1024) : v962 I (ix3 0 k o) = D.W (Data.ex c 2) k o := by
  refine Eq.trans (congrArg (ewb I) (win3 (b := 2) _ k o (by decide) (by omega) (by omega))) ?_
  exact ewb_at h 2 k o

theorem v969_at (h : Reads D c I) (k : Fin 512) (o : Fin 1024) : v969 I (ix3 0 k o) = D.W (Data.ex c 3) k o := by
  refine Eq.trans (congrArg (ewb I) (win3 (b := 3) _ k o (by decide) (by omega) (by omega))) ?_
  exact ewb_at h 3 k o

theorem v1227_at (h : Reads D c I) (k : Fin 512) (o : Fin 1024) : v1227 I (ix3 0 k o) = D.W (Data.ex c 0) k o := by
  refine Eq.trans (congrArg (ewb I) (win3 (b := 0) _ k o (by decide) (by omega) (by omega))) ?_
  exact ewb_at h 0 k o

theorem v1234_at (h : Reads D c I) (k : Fin 512) (o : Fin 1024) : v1234 I (ix3 0 k o) = D.W (Data.ex c 1) k o := by
  refine Eq.trans (congrArg (ewb I) (win3 (b := 1) _ k o (by decide) (by omega) (by omega))) ?_
  exact ewb_at h 1 k o

theorem v1241_at (h : Reads D c I) (k : Fin 512) (o : Fin 1024) : v1241 I (ix3 0 k o) = D.W (Data.ex c 2) k o := by
  refine Eq.trans (congrArg (ewb I) (win3 (b := 2) _ k o (by decide) (by omega) (by omega))) ?_
  exact ewb_at h 2 k o

theorem v1248_at (h : Reads D c I) (k : Fin 512) (o : Fin 1024) : v1248 I (ix3 0 k o) = D.W (Data.ex c 3) k o := by
  refine Eq.trans (congrArg (ewb I) (win3 (b := 3) _ k o (by decide) (by omega) (by omega))) ?_
  exact ewb_at h 3 k o

theorem v461_at (h : Reads D c I) (r : Fin 128) (o : Fin 1024) : v461 I (ix2 r o) = D.part c (wtok c 1 r.val) o := by
  unfold v461
  pointwise [k0_pay35]
  simp only [v429_at h, v431_at h, v436_at h, v443_at h, v450_at h, v457_at h, zero_add]
  rfl

theorem v694_at (h : Reads D c I) (r : Fin 256) (o : Fin 1024) : v694 I (ix2 r o) = D.part c (wtok c 3 r.val) o := by
  unfold v694 v672 v674
  pointwise [k0_pay50, k0_pay48, k0_pay49]
  simp only [v662_at h, v664_at h, v669_at h, v676_at h, v683_at h, v690_at h, zero_add]
  rfl

theorem v973_at (h : Reads D c I) (r : Fin 256) (o : Fin 1024) : v973 I (ix2 r o) = D.part c (wtok c 7 r.val) o := by
  unfold v973 v944 v950
  pointwise [k0_pay66, k0_pay64, k0_pay65]
  simp only [v941_at h, v943_at h, v948_at h, v955_at h, v962_at h, v969_at h, zero_add]
  rfl

theorem v1252_at (h : Reads D c I) (r : Fin 384) (o : Fin 1024) : v1252 I (ix2 r o) = D.part c (wtok c 11 r.val) o := by
  unfold v1252 v1223 v1226
  pointwise [k0_pay80, k0_pay78, k0_pay79]
  simp only [v1220_at h, v1222_at h, v1227_at h, v1234_at h, v1241_at h, v1248_at h, zero_add]
  rfl

end Cert.KernelIdeal.Calc
end
-- ==== Proof.Sent.lean ====
module

public import proofs.«01_k».proof.Proof.Windows
public import proofs.«01_k».proof.Proof.Protocol

/-! # What a device sends

The rank of each row among the rows its device serves of its block, and the packed blocks: one statement for
all fifteen, whichever of the four windows a block lies in. -/

@[expose] public section

noncomputable section

namespace Cert.KernelIdeal.Calc

open Cert.KernelIdeal Cert.KernelIdeal.Gen Cert.KernelIdeal.Moe Cert.Moe
open Idealize.ShloMosaic Idealize.SL.Sem
open scoped BigOperators

variable {D : Data} {c : Fin 16} {I : Inp Ideal}

theorem fden_def (c : BitVec 32) : Scalar.select (Scalar.cmpi .eq c 0#32) 1#32 c = fden c := rfl

theorem fmod_def (a c : BitVec 32) :  Scalar.select
    (IntOp.andi
      (IntOp.xori (IntOp.cmpi .slt (IntOp.remsi ArithUnit.vector a (fden c)) 0#32) (Scalar.cmpi .slt (fden c) 0#32))
      (IntOp.cmpi .ne (IntOp.remsi ArithUnit.vector a (fden c)) 0#32))
    (IntOp.addi (IntOp.remsi ArithUnit.vector a (fden c)) (fden c))
    (IntOp.remsi ArithUnit.vector a (fden c)) = fmod a c := rfl

/-- The block at place `b` of the window that starts at block `c + k`. -/
def blk (c : Fin 16) (k b : ℕ) : Fin 16 := ⟨(c.val + k + b) % 16, Nat.mod_lt _ (by decide)⟩

theorem wtok_eq (c : Fin 16) (k b : ℕ) (i : Fin 64) : wtok c k (64 * b + i.val) = Data.row (blk c k b) i := by
  apply Fin.ext
  show (64 * ((c.val + k) % 16) + (64 * b + i.val)) % 1024 = 64 * ((c.val + k + b) % 16) + i.val
  omega

/-- The rank of a window's row: how many rows of its block up to it are served, less one. -/
theorem rank_form {n : ℕ} (D : Data) (c : Fin 16) (k : ℕ) (hn : n ≤ 384) (m : Fin n → EReal)
    (hm : ∀ x, m x = if D.hit c (wtok c k x.val) then (1 : EReal) else 0)
    (b : ℕ) (hb : 64 * (b + 1) ≤ n) (i : Fin 64) (r : Fin n) (hr : r.val = 64 * b + i.val) :
    (∑ x : Fin n, Scalar.select
      (IntOp.andi (IntOp.cmpi .eq (BitVec.ofNat 32 (r.val / 64)) (BitVec.ofNat 32 (x.val / 64)))
        (IntOp.cmpi .sle (BitVec.ofNat 32 x.val) (BitVec.ofNat 32 r.val))) (m x) 0)
      = ((D.cnt c (blk c k b) i : ℝ) : EReal) := by
  have e (x : Fin n) : Scalar.select
      (IntOp.andi (IntOp.cmpi .eq (BitVec.ofNat 32 (r.val / 64)) (BitVec.ofNat 32 (x.val / 64)))
        (IntOp.cmpi .sle (BitVec.ofNat 32 x.val) (BitVec.ofNat 32 r.val))) (m x) 0
      = if x.val / 64 = b ∧ x.val ≤ r.val ∧ D.hit c (wtok c k x.val) then (1 : EReal) else 0 := by
    rw [select_bit, hm, ← ite_and]
    refine ite_iff ?_ _ _
    rw [andi_one, cmpi_eq_one, ofNat_inj _ _ (by omega) (by omega), cmpi_sle_one _ _ (by omega) (by omega), and_assoc]
    have : r.val / 64 = b := by omega
    rw [this, eq_comm (a := b)]
  simp only [e]
  rw [sum_block b hb _ (fun x hx => if_neg fun hh => hx hh.1)]
  unfold Data.cnt
  rw [← sum_count]
  refine Finset.sum_congr rfl fun x _ => ite_iff ?_ _ _
  show (64 * b + x.val) / 64 = b ∧ 64 * b + x.val ≤ r.val ∧ D.hit c (wtok c k (64 * b + x.val)) ↔ _
  rw [wtok_eq, hr, Fin.le_def]
  constructor
  · rintro ⟨_, h1, h2⟩; exact ⟨by omega, h2⟩
  · rintro ⟨h1, h2⟩; exact ⟨by omega, by omega, h2⟩

/-- Row `s` of the packed blocks of a window. -/
theorem pack_form {n : ℕ} (D : Data) (c : Fin 16) (k : ℕ) (hn : n ≤ 384) (o : Fin 1024) (m p a : Fin n → EReal)
    (hm : ∀ x, m x = if D.hit c (wtok c k x.val) then (1 : EReal) else 0)
    (hp : ∀ (b : ℕ) (_ : 64 * (b + 1) ≤ n) (i : Fin 64) (r : Fin n), r.val = 64 * b + i.val →
      p r = ((D.cnt c (blk c k b) i : ℝ) : EReal) - 1)
    (ha : ∀ x, a x = D.part c (wtok c k x.val) o) (s : ℕ) (hs : 64 * (s / 32 + 1) ≤ n) :
    (∑ x : Fin n, FloatOps.sitofp (F := Ideal) FTy.f32
          (BitVec.setWidth 32
            (IntOp.andi
              (IntOp.andi (IntOp.cmpi CmpIPredicate.eq (BitVec.ofNat 32 (s / 32)) (BitVec.ofNat 32 (x.val / 64)))
                (BitVec.ofBool (decide (p x = FloatOps.sitofp (F := Ideal) FTy.f32 (BitVec.ofNat 32 (s % 32))))))
              (BitVec.ofBool (decide (Ideal.ofBits FTy.f32 1056964608#32 < m x))))) * a x)
      = D.packed c (blk c k (s / 32)) (s % 32) o := by
  simp only [sitofp_bit, andi_one, cmpi_eq_one, ofBool_one, sitofp_ofNat _ (show s % 32 < 2 ^ 31 by omega), hm, half_lt_ite]
  rw [sum_block (s / 32) hs]
  · unfold Data.packed
    refine Finset.sum_congr rfl fun i _ => ?_
    rw [ha, hp (s / 32) hs i ⟨64 * (s / 32) + i.val, by omega⟩ rfl]
    show _ * D.part c (wtok c k (64 * (s / 32) + i.val)) o = _
    rw [wtok_eq]
    congr 1
    refine ite_iff ?_ _ _
    rw [rank_eq]
    constructor
    · rintro ⟨⟨_, h1⟩, h2⟩; exact ⟨h1, h2⟩
    · rintro ⟨h1, h2⟩
      exact ⟨⟨congrArg _ (by show s / 32 = (64 * (s / 32) + i.val) / 64; omega), h1⟩, h2⟩
  · intro r hr
    rw [if_neg, zero_mul]
    rintro ⟨⟨h1, _⟩, _⟩
    rw [ofNat_inj _ _ (by omega) (by omega)] at h1
    exact hr h1.symm

theorem v522_at (h : Reads D c I) (b : ℕ) (hb : 64 * (b + 1) ≤ 128) (i : Fin 64) (r : Fin 128) (hr : r.val = 64 * b + i.val) :
    v522 I (ix2 r 0) = ((D.cnt c (blk c 1 b) i : ℝ) : EReal) - 1 := by
  unfold v522
  pointwise [k0_pay40, v515, k0_pay39, cst_267, v514, k0_pay38, v468, k0_pay37, v465, k0_pay36, v462, v463, c0_i32_254, c64_i32_252]
  simp (disch := omega) only [fdiv_def, fdiv64]
  rw [rank_form D c 1 (by decide) (fun x => v519 I (ix2 x 0)) (v519_at h) b hb i r hr]

theorem v602_at (h : Reads D c I) (s : Fin 64) (o : Fin 1024) :
    v602 I (ix2 s o) = D.packed c (blk c 1 (s.val / 32)) (s.val % 32) o := by
  unfold v602
  pointwise [k0_pay44, v548, v550, v557, k0_pay41, k0_pay42, k0_pay43, v559, v560, v558, c64_i32_277, v524, v523]
  simp (disch := omega) only [fden_def, fmod_def, fdiv_def, fdiv64, fdiv32, fmod32]
  exact pack_form D c 1 (by decide) o (fun x => v519 I (ix2 x 0)) (fun x => v522 I (ix2 x 0)) (fun x => v461 I (ix2 x o))
    (v519_at h) (fun b hb i r hr => v522_at h b hb i r hr) (fun x => v461_at h x o) s.val (by omega)

theorem v755_at (h : Reads D c I) (b : ℕ) (hb : 64 * (b + 1) ≤ 256) (i : Fin 64) (r : Fin 256) (hr : r.val = 64 * b + i.val) :
    v755 I (ix2 r 0) = ((D.cnt c (blk c 3 b) i : ℝ) : EReal) - 1 := by
  unfold v755
  pointwise [k0_pay54, v695, v696, v698, v712, v716, k0_pay51, k0_pay52, k0_pay53]
  simp (disch := omega) only [fdiv_def, fdiv64]
  rw [rank_form D c 3 (by decide) (fun x => v752 I (ix2 x 0)) (v752_at h) b hb i r hr]

theorem v835_at (h : Reads D c I) (s : Fin 128) (o : Fin 1024) :
    v835 I (ix2 s o) = D.packed c (blk c 3 (s.val / 32)) (s.val % 32) o := by
  unfold v835
  pointwise [k0_pay58, v756, v757, v759, v761, v806, k0_pay55, k0_pay56, k0_pay57, c32_i32_372, c32_i32_386, v807]
  simp (disch := omega) only [fden_def, fmod_def, fdiv_def, fdiv64, fdiv32, fmod32]
  exact pack_form D c 3 (by decide) o (fun x => v752 I (ix2 x 0)) (fun x => v755 I (ix2 x 0)) (fun x => v694 I (ix2 x o))
    (v752_at h) (fun b hb i r hr => v755_at h b hb i r hr) (fun x => v694_at h x o) s.val (by omega)

theorem v1034_at (h : Reads D c I) (b : ℕ) (hb : 64 * (b + 1) ≤ 256) (i : Fin 64) (r : Fin 256) (hr : r.val = 64 * b + i.val) :
    v1034 I (ix2 r 0) = ((D.cnt c (blk c 7 b) i : ℝ) : EReal) - 1 := by
  unfold v1034
  pointwise [k0_pay70, v974, v975, v977, v991, v993, k0_pay67, k0_pay68, k0_pay69]
  simp (disch := omega) only [fdiv_def, fdiv64]
  rw [rank_form D c 7 (by decide) (fun x => v1031 I (ix2 x 0)) (v1031_at h) b hb i r hr]

theorem v1114_at (h : Reads D c I) (s : Fin 128) (o : Fin 1024) :
    v1114 I (ix2 s o) = D.packed c (blk c 7 (s.val / 32)) (s.val % 32) o := by
  unfold v1114
  pointwise [k0_pay73, v1036, v1035, v1038, v1085, k0_pay71, k0_pay72, c32_i32_501]
  simp (disch := omega) only [fden_def, fmod_def, fdiv_def, fdiv64, fdiv32, fmod32]
  exact pack_form D c 7 (by decide) o (fun x => v1031 I (ix2 x 0)) (fun x => v1034 I (ix2 x 0)) (fun x => v973 I (ix2 x o))
    (v1031_at h) (fun b hb i r hr => v1034_at h b hb i r hr) (fun x => v973_at h x o) s.val (by omega)

theorem v1313_at (h : Reads D c I) (b : ℕ) (hb : 64 * (b + 1) ≤ 384) (i : Fin 64) (r : Fin 384) (hr : r.val = 64 * b + i.val) :
    v1313 I (ix2 r 0) = ((D.cnt c (blk c 11 b) i : ℝ) : EReal) - 1 := by
  unfold v1313
  pointwise [k0_pay84, v1253, v1254, v1256, v1263, v1269, c64_i32_610, k0_pay81, k0_pay82, k0_pay83]
  simp (disch := omega) only [fdiv_def, fdiv64]
  rw [rank_form D c 11 (by decide) (fun x => v1310 I (ix2 x 0)) (v1310_at h) b hb i r hr]

theorem v1396_at (h : Reads D c I) (s : Fin 160) (o : Fin 1024) :
    v1396 I (ix2 s o) = D.packed c (blk c 11 (s.val / 32)) (s.val % 32) o := by
  unfold v1396
  pointwise [k0_pay89, v1315, v1339, v1314, v1341, v1360, v1361, k0_pay85, k0_pay86, k0_pay87, k0_pay88]
  simp (disch := omega) only [fden_def, fmod_def, fdiv_def, fdiv64, fdiv32, fmod32]
  exact pack_form (n := 320) D c 11 (by decide) o (fun x => v1310 I (ix2 ⟨x.val, by omega⟩ 0)) (fun x => v1313 I (ix2 ⟨x.val, by omega⟩ 0))
    (fun x => v1252 I (ix2 ⟨x.val, by omega⟩ o))
    (fun x => v1310_at h _) (fun b hb i r hr => v1313_at h b (by omega) i _ hr) (fun x => v1252_at h _ o) s.val (by omega)

theorem v1398_at (h : Reads D c I) (i : Fin 64) (o : Fin 1024) :
    v1398 I (ix2 i o) = D.part c (Data.row c i) o := by
  unfold v1398
  pointwise [k0_pay90]
  refine (v1252_at h _ o).trans ?_
  show D.part c (wtok c 11 (64 * 5 + i.val)) o = _
  rw [wtok_eq]
  have e : blk c 11 5 = c := by
    apply Fin.ext
    show (c.val + 11 + 5) % 16 = c.val
    omega
  rw [e]

/-- Row `q` of a packed block, found at row `32 b + q` of its window's packed rows. -/
theorem slot_form (D : Data) (c : Fin 16) (k b : ℕ) (j : Fin 15) (hj : j.val + 1 = k + b) (q : Fin 24) (o : Fin 1024)
    (s : ℕ) (hs : s = 32 * b + q.val) : D.packed c (blk c k (s / 32)) (s % 32) o = D.packed c (sh c j) q.val o := by
  have e1 : s / 32 = b := by omega
  have e2 : s % 32 = q.val := by omega
  have e3 : blk c k b = sh c j := by
    apply Fin.ext
    show (c.val + k + b) % 16 = (c.val + j.val + 1) % 16
    omega
  rw [e1, e2, e3]

/-- What goes to the peer `j + 1` places on is that peer's block, packed. -/
theorem send_at (h : Reads D c I) (j : Fin 15) (q : Fin 24) (o : Fin 1024) :
    send I j (ix2 q o) = D.packed c (sh c j) q.val o := by
  match j with
  | 0 =>
    refine Eq.trans ?_ ((v602_at h ⟨32 * 0 + q.val, by omega⟩ o).trans (slot_form D c 1 0 0 rfl q o _ rfl))
    show (k0_pay46 (v603 I) : FVec Ideal S24x1024 .bf16) (ix2 q o) = _
    unfold v603
    pointwise [k0_pay46, k0_pay45]
    all_goals rfl
  | 1 =>
    refine Eq.trans ?_ ((v602_at h ⟨32 * 1 + q.val, by omega⟩ o).trans (slot_form D c 1 1 1 rfl q o _ rfl))
    show (k0_pay47 (v602 I) : FVec Ideal S24x1024 .bf16) (ix2 q o) = _
    pointwise [k0_pay47]
    all_goals rfl
  | 2 =>
    refine Eq.trans ?_ ((v835_at h ⟨32 * 0 + q.val, by omega⟩ o).trans (slot_form D c 3 0 2 rfl q o _ rfl))
    show (k0_pay59 (v694 I) (v752 I) (v755 I) (v757 I) (v806 I) (c32_i32_386 I) (v807 I) : FVec Ideal S24x1024 .bf16) (ix2 q o) = _
    pointwise [k0_pay59]
    all_goals rfl
  | 3 =>
    refine Eq.trans ?_ ((v835_at h ⟨32 * 1 + q.val, by omega⟩ o).trans (slot_form D c 3 1 3 rfl q o _ rfl))
    show (k0_pay60 (v835 I) : FVec Ideal S24x1024 .bf16) (ix2 q o) = _
    pointwise [k0_pay60]
    all_goals rfl
  | 4 =>
    refine Eq.trans ?_ ((v835_at h ⟨32 * 2 + q.val, by omega⟩ o).trans (slot_form D c 3 2 4 rfl q o _ rfl))
    show (k0_pay62 (v882 I) : FVec Ideal S24x1024 .bf16) (ix2 q o) = _
    unfold v882
    pointwise [k0_pay62, k0_pay61]
    all_goals rfl
  | 5 =>
    refine Eq.trans ?_ ((v835_at h ⟨32 * 3 + q.val, by omega⟩ o).trans (slot_form D c 3 3 5 rfl q o _ rfl))
    show (k0_pay63 (v835 I) : FVec Ideal S24x1024 .bf16) (ix2 q o) = _
    pointwise [k0_pay63]
    all_goals rfl
  | 6 =>
    refine Eq.trans ?_ ((v1114_at h ⟨32 * 0 + q.val, by omega⟩ o).trans (slot_form D c 7 0 6 rfl q o _ rfl))
    show (k0_pay74 (v973 I) (v1031 I) (v1034 I) (v1036 I) (v1085 I) : FVec Ideal S24x1024 .bf16) (ix2 q o) = _
    pointwise [k0_pay74]
    all_goals rfl
  | 7 =>
    refine Eq.trans ?_ ((v1114_at h ⟨32 * 1 + q.val, by omega⟩ o).trans (slot_form D c 7 1 7 rfl q o _ rfl))
    show (k0_pay75 (v1114 I) : FVec Ideal S24x1024 .bf16) (ix2 q o) = _
    pointwise [k0_pay75]
    all_goals rfl
  | 8 =>
    refine Eq.trans ?_ ((v1114_at h ⟨32 * 2 + q.val, by omega⟩ o).trans (slot_form D c 7 2 8 rfl q o _ rfl))
    show (k0_pay76 (v1114 I) : FVec Ideal S24x1024 .bf16) (ix2 q o) = _
    pointwise [k0_pay76]
    all_goals rfl
  | 9 =>
    refine Eq.trans ?_ ((v1114_at h ⟨32 * 3 + q.val, by omega⟩ o).trans (slot_form D c 7 3 9 rfl q o _ rfl))
    show (k0_pay77 (v1114 I) : FVec Ideal S24x1024 .bf16) (ix2 q o) = _
    pointwise [k0_pay77]
    all_goals rfl
  | 10 =>
    refine Eq.trans ?_ ((v1396_at h ⟨32 * 0 + q.val, by omega⟩ o).trans (slot_form D c 11 0 10 rfl q o _ rfl))
    show (k0_pay91 (v1252 I) (v1310 I) (v1313 I) (v1315 I) (v1339 I) (v1341 I) (v1360 I) (v1361 I) : FVec Ideal S24x1024 .bf16) (ix2 q o) = _
    pointwise [k0_pay91]
    all_goals rfl
  | 11 =>
    refine Eq.trans ?_ ((v1396_at h ⟨32 * 1 + q.val, by omega⟩ o).trans (slot_form D c 11 1 11 rfl q o _ rfl))
    show (k0_pay92 (v1396 I) : FVec Ideal S24x1024 .bf16) (ix2 q o) = _
    pointwise [k0_pay92]
    all_goals rfl
  | 12 =>
    refine Eq.trans ?_ ((v1396_at h ⟨32 * 2 + q.val, by omega⟩ o).trans (slot_form D c 11 2 12 rfl q o _ rfl))
    show (k0_pay93 (v1396 I) : FVec Ideal S24x1024 .bf16) (ix2 q o) = _
    pointwise [k0_pay93]
    all_goals rfl
  | 13 =>
    refine Eq.trans ?_ ((v1396_at h ⟨32 * 3 + q.val, by omega⟩ o).trans (slot_form D c 11 3 13 rfl q o _ rfl))
    show (k0_pay94 (v1396 I) : FVec Ideal S24x1024 .bf16) (ix2 q o) = _
    pointwise [k0_pay94]
    all_goals rfl
  | 14 =>
    refine Eq.trans ?_ ((v1396_at h ⟨32 * 4 + q.val, by omega⟩ o).trans (slot_form D c 11 4 14 rfl q o _ rfl))
    show (k0_pay95 (v1396 I) : FVec Ideal S24x1024 .bf16) (ix2 q o) = _
    pointwise [k0_pay95]
    all_goals rfl

end Cert.KernelIdeal.Calc
end
-- ==== Proof.Back.lean ====
module

public import proofs.«01_k».proof.Proof.Sent

/-! # What a device makes of the blocks it receives

The same rank, reckoned by the receiver, takes each packed row back to its place; with every block landed the
device's result is the plainly written answer for its rows. -/

@[expose] public section

noncomputable section

namespace Cert.KernelIdeal.Calc

open Cert.KernelIdeal Cert.KernelIdeal.Gen Cert.KernelIdeal.Moe Cert.Moe
open Idealize.ShloMosaic Idealize.SL.Sem
open scoped BigOperators

variable {D : Data} {c : Fin 16} {I : Inp Ideal}

/-- The device that fills slot `a` of device `c`'s landing buffer. -/
def src (c : Fin 16) (a : Fin 15) : Fin 16 := sh c a.rev

theorem src_word : ∀ (c : Fin 16) (a : Fin 15),
    fmod (IntOp.subi (BitVec.ofNat 32 c.val) (IntOp.addi (BitVec.ofNat 32 a.val) 1#32)) 16#32
      = BitVec.ofNat 32 (src c a).val := by decide +kernel

theorem src_ne : ∀ (c : Fin 16) (a : Fin 15), src c a ≠ c := by decide +kernel

theorem src_rev : ∀ (c : Fin 16) (a : Fin 15), src c a.rev = c + a.succ := by decide +kernel

theorem v1516_at (h : Reads D c I) (i : Fin 64) : v1516 I (ix2 i 0) = BitVec.ofNat 32 (D.e0 (Data.row c i)).val := by
  refine Eq.trans (congrArg I.idx (win2 (k0_off10_eq I.dev) _ i 0 (by have : I.dev.val < 16 := I.dev.isLt; omega) (by decide))) ?_
  simp only [h.dev]; exact h.e0 (Data.row c i)

theorem v1543_at (h : Reads D c I) (i : Fin 64) : v1543 I (ix2 i 0) = BitVec.ofNat 32 (D.e1 (Data.row c i)).val := by
  refine Eq.trans (congrArg I.idx (win2 (k0_off11_eq I.dev) _ i 0 (by have : I.dev.val < 16 := I.dev.isLt; omega) (by decide))) ?_
  simp only [h.dev]; exact h.e1 (Data.row c i)

theorem pay99_at (c : Fin 16) (a : Fin 15) : k0_pay99 (BitVec.ofNat 32 c.val) (ix2 0 a) = BitVec.ofNat 32 (src c a).val := by
  pointwise [k0_pay99]
  simp only [fden_def, fmod_def]
  exact src_word c a

theorem came_bit (h : Reads D c I) (i : Fin 64) (a : Fin 15) :
    IntOp.ori (v1592 I (ix2 i a)) (IntOp.cmpi CmpIPredicate.eq (v1593 I (ix2 i a)) (v1594 I (ix2 i a))) = 1#1
      ↔ D.hit (src c a) (Data.row c i) := by
  unfold v1592 v1593 v1594 v1541 v1544 v1546 c4_i32_736 c0_i32_737
  pointwise [k0_pay100, k0_pay101, k0_pay102, k0_pay96, k0_pay97, k0_pay98]
  simp only [v2_eq, h.dev, pay99_at, v1516_at h, v1543_at h, fdiv_def]
  rw [fdiv4 _ (by omega), fdiv4 _ (by omega), ori_one, cmpi_eq_one, cmpi_eq_one,
    ofNat_inj _ _ (by omega) (lt_trans (src c a).2 (by decide)), ofNat_inj _ _ (by omega) (lt_trans (src c a).2 (by decide))]
  rfl

/-- The slot of a landing row. -/
def slot (s : Fin 480) : Fin 15 := ⟨s.val / 32, by omega⟩

theorem slot_pick (s : Fin 480) (f : Fin 15 → EReal) :
    ∑ x : Fin 15, Scalar.select (IntOp.cmpi .eq (BitVec.ofNat 32 (s.val / 32)) (BitVec.ofNat 32 x.val)) (f x) 0 = f (slot s) := by
  rw [Finset.sum_eq_single (slot s)]
  · rw [select_bit]; exact if_pos ((cmpi_eq_one _ _).mpr rfl)
  · intro x _ hx
    rw [select_bit, if_neg]
    rw [cmpi_eq_one, ofNat_inj _ _ (by omega) (by omega)]
    exact fun hh => hx (Fin.ext hh.symm)
  · intro hh; exact absurd (Finset.mem_univ _) hh

theorem v1639_at (h : Reads D c I) (i : Fin 64) (s : Fin 480) :
    v1639 I (ix2 i s) = if D.hit (src c (slot s)) (Data.row c i) then (1 : EReal) else 0 := by
  unfold v1639
  pointwise [k0_pay106, k0_pay103, k0_pay104]
  simp (disch := omega) only [fdiv_def, fdiv32]
  rw [slot_pick, sitofp_bit]
  exact ite_iff (came_bit h i (slot s)) _ _

theorem v1638_at (h : Reads D c I) (i : Fin 64) (s : Fin 480) :
    v1638 I (ix2 i s) = ((D.cnt (src c (slot s)) c i : ℝ) : EReal) - 1 := by
  unfold v1638
  pointwise [k0_pay105, k0_pay103, k0_pay104]
  simp (disch := omega) only [fdiv_def, fdiv32]
  rw [slot_pick]
  unfold Data.cnt
  rw [← sum_count]
  congr 1
  refine Finset.sum_congr rfl fun x _ => ?_
  rw [sitofp_bit, select_bit, ← ite_and]
  refine ite_iff ?_ _ _
  rw [cmpi_sle_one _ _ (by omega) (by omega), came_bit h x (slot s), Fin.le_def]

theorem v1667_at (h : Reads D c I) (i : Fin 64) (s : Fin 480) :
    v1667 I (ix2 i s) = if D.cnt (src c (slot s)) c i = s.val % 32 + 1 ∧ D.hit (src c (slot s)) (Data.row c i) ∧ s.val % 32 < 24
      then (1 : EReal) else 0 := by
  unfold v1667
  pointwise [k0_pay107]
  simp (disch := omega) only [fden_def, fmod_def, fmod32]
  rw [sitofp_bit, v1638_at h, v1639_at h]
  refine ite_iff ?_ _ _
  rw [andi_one, andi_one, ofBool_one, ofBool_one, half_lt_ite, sitofp_ofNat _ (by omega), rank_eq, and_assoc]
  rw [show (24#32 : BitVec 32) = BitVec.ofNat 32 24 from rfl, cmpi_slt_one _ _ (by omega) (by omega)]

/-- All sixteen devices are device `c` and the fifteen it hears from. -/
theorem sum_dev (c : Fin 16) (f : Fin 16 → EReal) : f c + ∑ a : Fin 15, f (src c a) = ∑ d, f d := by
  have h1 : ∑ d, f d = f (c + 0) + ∑ a : Fin 15, f (c + a.succ) := by
    rw [← Equiv.sum_comp (Equiv.addLeft c) f]
    exact Fin.sum_univ_succ _
  have h2 : ∑ a : Fin 15, f (src c a) = ∑ a : Fin 15, f (c + a.succ) := by
    rw [← Equiv.sum_comp Fin.revPerm (fun a : Fin 15 => f (src c a))]
    refine Finset.sum_congr rfl fun a _ => congrArg f ?_
    exact src_rev c a
  rw [h1, h2, add_zero]

/-- The device's result, of any landing buffer whose slots hold the blocks packed for it. -/
theorem out_at (h : Reads D c I) (g : D.Good) (r : Vec Ideal S480x1024 .bf16)
    (hr : ∀ (s : Fin 480) (o : Fin 1024), s.val % 32 < 24 → r (ix2 s o) = D.packed (src c (slot s)) c (s.val % 32) o)
    (i : Fin 64) (o : Fin 1024) : outv I r (ix2 i o) = D.answer (Data.row c i) o := by
  unfold outv
  pointwise [k0_pay124]
  rw [v1398_at h]
  have e (s : Fin 480) : v1667 I (ix2 i s) * r (ix2 s o)
      = (if D.cnt (src c (slot s)) c i = s.val % 32 + 1 ∧ D.hit (src c (slot s)) (Data.row c i) ∧ s.val % 32 < 24
      then (1 : EReal) else 0) * D.packed (src c (slot s)) c (s.val % 32) o := by
    rw [v1667_at h]
    by_cases hs : s.val % 32 < 24
    · rw [hr s o hs]
    · rw [if_neg (fun hh => hs hh.2.2), zero_mul, zero_mul]
  simp only [e]
  rw [← Data.sum_part g, ← sum_dev c]
  congr 1
  rw [← (finProdFinEquiv (m := 15) (n := 32)).sum_comp, Fintype.sum_prod_type]
  refine Finset.sum_congr rfl fun a _ => ?_
  have e1 (q : Fin 32) : slot (finProdFinEquiv (a, q)) = a := by
    apply Fin.ext; show (q.val + 32 * a.val) / 32 = a.val; omega
  have e2 (q : Fin 32) : (finProdFinEquiv (a, q)).val % 32 = q.val := by
    show (q.val + 32 * a.val) % 32 = q.val; omega
  simp only [e1, e2]
  refine D.round i o (fun q : Fin 32 => q.val) ?_ (g.fits _ _ ?_)
  · intro k hk
    exact ⟨⟨k, by omega⟩, rfl, fun y hy => Fin.ext hy⟩
  · exact src_ne c a

end Cert.KernelIdeal.Calc
end
-- ==== Proof.RVal.lean ====
module

public import proofs.«01_k».proof.Proof.Math
public import proofs.«01_k».proof.Proof.Gen.ReferenceIdeal.Run

/-! # What the reference computes, at an index

The softmax, the two chosen scores (a gather along the experts' axis, inside the range the table keeps to), the
two chosen experts applied, and the mixture: the plainly written answer. -/

@[expose] public section

noncomputable section

namespace Cert.ReferenceIdeal.Moe

open Cert.ReferenceIdeal Cert.ReferenceIdeal.Gen Cert.ReferenceIdeal.Value Cert.Moe
open Idealize.ShloMosaic Idealize.SL.Sem
open scoped BigOperators

def rScore (a0 : FVec Ideal S1024x512 .bf16) (a1 : FVec Ideal S512x64 .bf16) : FVec Ideal S1024x64 .f32 :=
  Host.dotGeneral dot_S1024x512_S512x64_S1024x64_1_0_0_1_n_n none (extf .f32 a0 bitsLt_bf16_f32) (extf .f32 a1 bitsLt_bf16_f32)

def rExp (s : FVec Ideal S1024x64 .f32) : FVec Ideal S1024x64 .f32 :=
  Host.exp (subf s (broadcastInDim S1024x64 ![0, 1] bcast_S1024x1_S1024x64_0_1 (broadcastInDim S1024x1 ![0] bcast_S1024_S1024x1_0 (Host.reduce FloatOps.maximumf s (constant S_ .f32 0xFF800000#32) reducesTo_S1024x64_S1024_d1 h_S_))))

def rProb (x : FVec Ideal S1024x64 .f32) : FVec Ideal S1024x64 .f32 :=
  Host.divf x (broadcastInDim S1024x64 ![0, 1] bcast_S1024x1_S1024x64_0_1 (broadcastInDim S1024x1 ![0] bcast_S1024_S1024x1_0 (Host.reduceAdd x (constant S_ .f32 0x00000000#32) reducesTo_S1024x64_S1024_d1 h_S_)))

def rIdx (a2 : IVec S1024x2 32) : IVec S1024x2x1 32 :=
  shapeCast _ (select (cmpi .slt a2 (broadcastInDim S1024x2 ![] bcast_S_S1024x2 (constantI S_ 32 0#32))) (addi a2 (broadcastInDim S1024x2 ![] bcast_S_S1024x2 (constantI S_ 32 64#32))) a2) shapeCasts_S1024x2_S1024x2x1

def rTake (p : FVec Ideal S1024x64 .f32) (i : IVec S1024x2x1 32) : FVec Ideal S1024x2 .f32 :=
  select (Host.reduce IntOp.andi (andi (cmpi .sge i (broadcastInDim S1024x2x1 ![] bcast_S_S1024x2x1 (constantI S_ 32 0#32))) (cmpi .sle i (broadcastInDim S1024x2x1 ![0, 1, 2] bcast_S1x1x1_S1024x2x1_0_1_2 (broadcastInDim S1x1x1 ![2] bcast_S1_S1x1x1_2 (constantI S1 32 63#32))))) (constantI S_ 1 1#1) reducesTo_S1024x2x1_S1024x2_d2 h_S_) (Host.gather gather_S1024x64_S1024x2x1_S1024x2_n_1_0_0_1_2_11 p i) (broadcastInDim S1024x2 ![] bcast_S_S1024x2 (constant S_ .f32 0x7FC00000#32))

def rCol (e : IVec S1024x1 32) : IVec S1024x1 32 :=
  broadcastInDim S1024x1 ![0] bcast_S1024_S1024x1_0 (select (cmpi .slt (shapeCast _ e shapeCasts_S1024x1_S1024) (broadcastInDim S1024 ![] bcast_S_S1024 (constantI S_ 32 0#32))) (addi (shapeCast _ e shapeCasts_S1024x1_S1024) (broadcastInDim S1024 ![] bcast_S_S1024 (constantI S_ 32 64#32))) (shapeCast _ e shapeCasts_S1024x1_S1024))

def rApply (a0 : FVec Ideal S1024x512 .bf16) (a3 : FVec Ideal S64x512x1024 .bf16) (e : IVec S1024x1 32) : FVec Ideal S1024x1024 .f32 :=
  Host.dotGeneral dot_S1024x512_S1024x512x1024_S1024x1024_1_1_n_2_0_0 none (extf .f32 a0 bitsLt_bf16_f32) (Host.gather gather_S64x512x1024_S1024x1_S1024x512x1024_12_0_n_n_0_1_15121024 (extf .f32 a3 bitsLt_bf16_f32) (rCol e))

def rMix (g : FVec Ideal S1024x2 .f32) (y0 y1 : FVec Ideal S1024x1024 .f32) : FVec Ideal S1024x1024 .f32 :=
  addf (mulf (broadcastInDim S1024x1024 ![0, 1] bcast_S1024x1_S1024x1024_0_1 (Host.divf (extractStridedSlice S1024x1 ![0, 0] g slices_S1024x2_S1024x1_0_0) (addf (extractStridedSlice S1024x1 ![0, 0] g slices_S1024x2_S1024x1_0_0) (extractStridedSlice S1024x1 ![0, 1] g slices_S1024x2_S1024x1_0_1)))) y0)
    (mulf (broadcastInDim S1024x1024 ![0, 1] bcast_S1024x1_S1024x1024_0_1 (Host.divf (extractStridedSlice S1024x1 ![0, 1] g slices_S1024x2_S1024x1_0_1) (addf (extractStridedSlice S1024x1 ![0, 0] g slices_S1024x2_S1024x1_0_0) (extractStridedSlice S1024x1 ![0, 1] g slices_S1024x2_S1024x1_0_1)))) y1)

theorem res_eq (m : (ℓ : Loc nD τ sig) → Buf (Elt Ideal) ℓ) (c : Dev nD) :
    res_main_v45 m c = rMix (rTake (rProb (rExp (rScore (m ((c.tc : Thread nD τ).loc main_arg0)) (m ((c.tc : Thread nD τ).loc main_arg1))))) (rIdx (m ((c.tc : Thread nD τ).loc main_arg2))))
      (rApply (m ((c.tc : Thread nD τ).loc main_arg0)) (m ((c.tc : Thread nD τ).loc main_arg3)) (extractStridedSlice S1024x1 ![0, 0] (m ((c.tc : Thread nD τ).loc main_arg2)) slices_S1024x2_S1024x1_0_0))
      (rApply (m ((c.tc : Thread nD τ).loc main_arg0)) (m ((c.tc : Thread nD τ).loc main_arg3)) (extractStridedSlice S1024x1 ![0, 1] (m ((c.tc : Thread nD τ).loc main_arg2)) slices_S1024x2_S1024x1_0_1)) := rfl

/-- How the scores are gathered: along the experts' axis, token by token. -/
abbrev alongE := gather_S1024x64_S1024x2x1_S1024x2_n_1_0_0_1_2_11

/-- How the expert matrices are gathered: whole, along the first axis. -/
abbrev wholeE := gather_S64x512x1024_S1024x1_S1024x512x1024_12_0_n_n_0_1_15121024

/-- The gather along the experts' axis, read at a token and a choice. -/
theorem take_at (p : FVec Ideal S1024x64 .f32) (i : IVec S1024x2x1 32) (t : Fin 1024) (q : Fin 2) :
    Host.gather gather_S1024x64_S1024x2x1_S1024x2_n_1_0_0_1_2_11 p i (ix2 t q)
      = p (ix2 t ⟨min (i (ix3 t q 0)).toInt.toNat 63, by omega⟩) := by
  unfold Host.gather
  congr 1
  funext a
  refine Fin.ext ?_
  show alongE.start (ix2 t q) i a
      + alongE.batchCoord (ix2 t q) a
      + alongE.offCoord (ix2 t q) a = _
  have h01 : a = 1 ∨ a = 0 := by
    match a with
    | ⟨0, _⟩ => exact Or.inr rfl
    | ⟨1, _⟩ => exact Or.inl rfl
  rcases h01 with rfl | rfl
  · have k : (1 : Fin 2) ∈ alongE.startIndexMap := List.mem_singleton.mpr rfl
    rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos k]
    have e : alongE.siIdx (ix2 t q)
        ⟨List.idxOf (1 : Fin 2) alongE.startIndexMap, List.idxOf_lt_length_iff.2 k⟩ = ix3 t q 0 := by
      funext b; refine Fin.ext ?_
      match b with
      | ⟨0, _⟩ => rfl
      | ⟨1, _⟩ => rfl
      | ⟨2, _⟩ => rfl
    rw [e]
    rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ alongE.operandBatchingDims from List.mem_singleton.mpr rfl)]
    rfl

/-- The gather of whole expert matrices, read at an index. -/
theorem pick_at (w : FVec Ideal S64x512x1024 .f32) (e : IVec S1024x1 32) (t : Fin 1024) (k : Fin 512) (o : Fin 1024) :
    Host.gather gather_S64x512x1024_S1024x1_S1024x512x1024_12_0_n_n_0_1_15121024 w e (ix3 t k o)
      = w (ix3 ⟨min (e (ix2 t 0)).toInt.toNat 63, by omega⟩ k o) := by
  unfold Host.gather
  congr 1
  funext a
  refine Fin.ext ?_
  show wholeE.start (ix3 t k o) e a
      + wholeE.batchCoord (ix3 t k o) a
      + wholeE.offCoord (ix3 t k o) a = _
  rw [GatherDims.batchCoord_eq_zero _ _ _ List.not_mem_nil]
  match a with
  | ⟨0, _⟩ =>
    have k0 : (0 : Fin 3) ∈ wholeE.startIndexMap := List.mem_singleton.mpr rfl
    show wholeE.start (ix3 t k o) e (0 : Fin 3) + 0 + wholeE.offCoord (ix3 t k o) (0 : Fin 3) = _
    rw [GatherDims.offCoord_eq_zero wholeE _ (0 : Fin 3) (fun h => ((GatherDims.mem_sKept _ _).mp h).1 (List.mem_singleton.mpr rfl))]
    simp only [Nat.add_zero]
    unfold GatherDims.start
    rw [dif_pos k0]
    have e' : wholeE.siIdx (ix3 t k o)
        ⟨List.idxOf (0 : Fin 3) wholeE.startIndexMap, List.idxOf_lt_length_iff.2 k0⟩ = ix2 t 0 := by
      funext b; refine Fin.ext ?_
      match b with
      | ⟨0, _⟩ => rfl
      | ⟨1, _⟩ => rfl
    rw [e']
    rfl
  | ⟨1, _⟩ =>
    have n : (1 : Fin 3) ∉ wholeE.startIndexMap :=
      fun h => absurd (List.mem_singleton.mp h) (by decide)
    show wholeE.start (ix3 t k o) e (1 : Fin 3) + 0 + wholeE.offCoord (ix3 t k o) (1 : Fin 3) = _
    unfold GatherDims.start
    rw [dif_neg n]
    simp only [Nat.zero_add]
    rfl
  | ⟨2, _⟩ =>
    have n : (2 : Fin 3) ∉ wholeE.startIndexMap :=
      fun h => absurd (List.mem_singleton.mp h) (by decide)
    show wholeE.start (ix3 t k o) e (2 : Fin 3) + 0 + wholeE.offCoord (ix3 t k o) (2 : Fin 3) = _
    unfold GatherDims.start
    rw [dif_neg n]
    simp only [Nat.zero_add]
    rfl

/-- The words of the expert numbers 0 … 63: never wrapped, never out of range, read back as themselves. -/
theorem expert_word : ∀ e : Fin 64,
    Scalar.select (IntOp.cmpi .slt (BitVec.ofNat 32 e.val) 0#32) (IntOp.addi (BitVec.ofNat 32 e.val) 64#32) (BitVec.ofNat 32 e.val) = BitVec.ofNat 32 e.val
    ∧ IntOp.andi (IntOp.cmpi .sge (BitVec.ofNat 32 e.val) 0#32) (IntOp.cmpi .sle (BitVec.ofNat 32 e.val) 63#32) = 1#1
    ∧ min (BitVec.ofNat 32 e.val).toInt.toNat 63 = e.val := by
  decide +kernel

/-- The reference's arguments hold the problem's data. -/
structure Holds (D : Data) (a0 : FVec Ideal S1024x512 .bf16) (a1 : FVec Ideal S512x64 .bf16) (a2 : IVec S1024x2 32)
    (a3 : FVec Ideal S64x512x1024 .bf16) : Prop where
  x : ∀ t k, a0 (ix2 t k) = D.x t k
  rw : ∀ k e, a1 (ix2 k e) = D.rw k e
  e0 : ∀ t, a2 (ix2 t (0 : Fin 2)) = BitVec.ofNat 32 (D.e0 t).val
  e1 : ∀ t, a2 (ix2 t (1 : Fin 2)) = BitVec.ofNat 32 (D.e1 t).val
  W : ∀ e k o, a3 (ix3 e k o) = D.W e k o

variable {D : Data} {a0 : FVec Ideal S1024x512 .bf16} {a1 : FVec Ideal S512x64 .bf16} {a2 : IVec S1024x2 32}
  {a3 : FVec Ideal S64x512x1024 .bf16}

theorem rProb_at (h : Holds D a0 a1 a2 a3) (t : Fin 1024) (e : Fin 64) :
    rProb (rExp (rScore a0 a1)) (ix2 t e) = D.prob t e := by
  have s (e : Fin 64) : rScore a0 a1 (ix2 t e) = D.score t e := by
    pointwise [rScore]
    simp only [h.x, h.rw]
    rfl
  have x (e : Fin 64) : rExp (rScore a0 a1) (ix2 t e) = Ideal.exp (D.score t e - D.top t) := by
    pointwise [rExp]
    simp only [s]
    rfl
  pointwise [rProb]
  simp only [x]
  rfl

theorem rTake_at (p : FVec Ideal S1024x64 .f32) (t : Fin 1024) (q : Fin 2) (e : Fin 64)
    (he : a2 (ix2 t q) = BitVec.ofNat 32 e.val) : rTake p (rIdx a2) (ix2 t q) = p (ix2 t e) := by
  have w : rIdx a2 (ix3 t q 0) = BitVec.ofNat 32 e.val := by
    pointwise [rIdx]
    rw [he]
    exact (expert_word e).1
  pointwise [rTake]
  rw [take_at, Finset.univ_unique, Finset.fold_singleton]
  show Scalar.select (IntOp.andi (IntOp.andi (IntOp.cmpi .sge (rIdx a2 (ix3 t q 0)) 0#32) (IntOp.cmpi .sle (rIdx a2 (ix3 t q 0)) 63#32)) 1#1) _ _ = _
  simp only [w]
  rw [(expert_word e).2.1]
  show p _ = _
  exact congrArg p (congrArg (ix2 t) (Fin.ext (expert_word e).2.2))

theorem rApply_at (h : Holds D a0 a1 a2 a3) (col : IVec S1024x1 32) (t o : Fin 1024) (e : Fin 64)
    (he : col (ix2 t 0) = BitVec.ofNat 32 e.val) : rApply a0 a3 col (ix2 t o) = ∑ k, D.x t k * D.W e k o := by
  have w : rCol col (ix2 t 0) = BitVec.ofNat 32 e.val := by
    pointwise [rCol]
    rw [he]
    exact (expert_word e).1
  pointwise [rApply]
  refine Finset.sum_congr rfl fun k _ => ?_
  rw [pick_at, h.x]
  simp only [w]
  congr 1
  refine Eq.trans ?_ (h.W e k o)
  show a3 _ = _
  exact congrArg (fun z => a3 (ix3 z k o)) (Fin.ext (expert_word e).2.2)

/-- The reference's result is the plainly written answer. -/
theorem res_at (h : Holds D a0 a1 a2 a3) (t o : Fin 1024) :
    rMix (rTake (rProb (rExp (rScore a0 a1))) (rIdx a2))
      (rApply a0 a3 (extractStridedSlice S1024x1 ![0, 0] a2 slices_S1024x2_S1024x1_0_0))
      (rApply a0 a3 (extractStridedSlice S1024x1 ![0, 1] a2 slices_S1024x2_S1024x1_0_1)) (ix2 t o) = D.answer t o := by
  have c0 : extractStridedSlice S1024x1 ![0, 0] a2 slices_S1024x2_S1024x1_0_0 (ix2 t 0) = BitVec.ofNat 32 (D.e0 t).val := by
    pointwise []
    exact h.e0 t
  have c1 : extractStridedSlice S1024x1 ![0, 1] a2 slices_S1024x2_S1024x1_0_1 (ix2 t 0) = BitVec.ofNat 32 (D.e1 t).val := by
    pointwise []
    exact h.e1 t
  pointwise [rMix]
  rw [rApply_at h _ t o _ c0, rApply_at h _ t o _ c1, rTake_at _ t 0 _ (h.e0 t), rTake_at _ t 1 _ (h.e1 t), rProb_at h, rProb_at h]
  rfl

end Cert.ReferenceIdeal.Moe
end
-- ==== Proof.Answer.lean ====
module

public import proofs.«01_k».proof.Defs
public import proofs.«01_k».proof.Proof.Launch
public import proofs.«01_k».proof.Proof.Sent
public import proofs.«01_k».proof.Proof.Back
public import proofs.«01_k».proof.Proof.RVal
public import proofs.«01_k».proof.Proof.Pre
public import Idealize.ShloMosaic.Lib.Pipeline.ValueKit

/-! # The kernel's result is the reference's

Each device reads the problem's data off its arguments; what lands on it is what the other devices packed; so what
it leaves is its block of the plainly written answer, which is also what the reference leaves. -/

@[expose] public section

noncomputable section

namespace Cert.KernelIdeal.Moe

open Cert.KernelIdeal Cert.KernelIdeal.Gen Cert.KernelIdeal.Calc Cert.Moe
open Idealize.ShloMosaic Idealize.ShloMosaic.TcCoe Idealize.SL.Sem
open scoped BigOperators

section Output
variable {F : FTy → Type} [FloatOps F]
variable (m : (ℓ : Loc nD τ sig) → Buf (Elt F) ℓ) (ρ : Dev nD → PrngReg)

/-- The result's array ends holding what the body leaves in its buffer. -/
theorem final_out (c : Dev nD) : finalA m ρ c (4 : Fin 5) = outv (In m ρ c) (landed m ρ c) := by
  refine (dats m ρ 0 c).arrAt_eq_of_after_last (4 : Fin 5) t0_0 (by decide +kernel) _ fun j => ?_
  rfl

/-- A window over a whole argument reads the argument. -/
theorem in_x (c : Dev nD) (t : Fin 1024) (k : Fin 512) : (In m ρ c).x (ix2 t k) = m ((c : Thread nD τ).loc main_arg0) (ix2 t k) := by
  refine congrArg (m ((c : Thread nD τ).loc main_arg0)) (funext fun a => Fin.ext ?_)
  exact Pipeline.Window.rect_emb_val_of_index_zero win0_0 t0_0 a (by revert a; decide +kernel) (ix2 t k)
theorem in_rw (c : Dev nD) (k : Fin 512) (e : Fin 64) : (In m ρ c).rw (ix2 k e) = m ((c : Thread nD τ).loc main_arg1) (ix2 k e) := by
  refine congrArg (m ((c : Thread nD τ).loc main_arg1)) (funext fun a => Fin.ext ?_)
  exact Pipeline.Window.rect_emb_val_of_index_zero win0_1 t0_0 a (by revert a; decide +kernel) (ix2 k e)
theorem in_idx (c : Dev nD) (t : Fin 1024) (q : Fin 2) : (In m ρ c).idx (ix2 t q) = m ((c : Thread nD τ).loc main_arg2) (ix2 t q) := by
  refine congrArg (m ((c : Thread nD τ).loc main_arg2)) (funext fun a => Fin.ext ?_)
  exact Pipeline.Window.rect_emb_val_of_index_zero win0_2 t0_0 a (by revert a; decide +kernel) (ix2 t q)
theorem in_ew (c : Dev nD) (j : Fin 4) (k : Fin 512) (o : Fin 1024) :
    (In m ρ c).ew (ix3 j k o) = m ((c : Thread nD τ).loc main_arg3) (ix3 j k o) := by
  refine congrArg (m ((c : Thread nD τ).loc main_arg3)) (funext fun a => Fin.ext ?_)
  exact Pipeline.Window.rect_emb_val_of_index_zero win0_3 t0_0 a (by revert a; decide +kernel) (ix3 j k o)

end Output

variable (m : (ℓ : Loc nD τ sig) → Buf (Elt Ideal) ℓ) (ρ : Dev nD → PrngReg)

/-- What lands in the rows that are sent is what the slot's device packed. -/
theorem landed_at (D : Data) (h : ∀ c : Dev nD, Reads D c (In m ρ c)) (c : Dev nD) (s : Fin 480) (o : Fin 1024) (hs : s.val % 32 < 24) :
    landed m ρ c (ix2 s o) = D.packed (src c (slot s)) c (s.val % 32) o := by
  refine (dif_pos hs).trans ((send_at (h (src c (slot s))) (slot s) ⟨s.val % 32, hs⟩ o).trans ?_)
  show D.packed _ (sh (sh c (slot s).rev) (slot s)) _ o = _
  rw [sh_rev']

/-- What a device leaves, read at an index. -/
theorem final_at (D : Data) (g : D.Good) (h : ∀ c : Dev nD, Reads D c (In m ρ c)) (c : Dev nD) (i : Fin 64) (o : Fin 1024) :
    finalA m ρ c (4 : Fin 5) (ix2 i o) = D.answer (Data.row c i) o := by
  rw [final_out]
  exact out_at (h c) g (landed m ρ c) (fun s o hs => landed_at m ρ D h c s o hs) i o

end Cert.KernelIdeal.Moe

namespace Cert.Moe

open Idealize.ShloMosaic Idealize.ShloMosaic.TcCoe Idealize.SL.Sem
open scoped BigOperators

attribute [local instance] Cert.Pre_served_KernelIdeal.facts

/-- At exact arithmetic, and within the precondition, the kernel's results are the reference's, cut into the devices' blocks. -/
theorem same_results : Cert.algebraic_KernelIdeal_ReferenceIdeal_pre_served_KernelIdeal := by
  intro m ρ m' ρ' pre args
  let w := m' (((0 : Dev Cert.ReferenceIdeal.nD) : Thread Cert.ReferenceIdeal.nD Cert.ReferenceIdeal.τ).loc Cert.ReferenceIdeal.main_arg3)
  let z : Dev Cert.KernelIdeal.nD := 0
  let D : Data := Cert.Pre_served_KernelIdeal.data (m ((z : Thread Cert.KernelIdeal.nD Cert.KernelIdeal.τ).loc Cert.KernelIdeal.main_arg0))
    (m ((z : Thread Cert.KernelIdeal.nD Cert.KernelIdeal.τ).loc Cert.KernelIdeal.main_arg1))
    (m ((z : Thread Cert.KernelIdeal.nD Cert.KernelIdeal.τ).loc Cert.KernelIdeal.main_arg2)) w
  have g : D.Good := Cert.Pre_served_KernelIdeal.good (pre z) w
  have ch := Cert.Pre_served_KernelIdeal.choice_at (pre z)
  have reads (c : Dev Cert.KernelIdeal.nD) : Cert.KernelIdeal.Calc.Reads D c (Cert.KernelIdeal.Moe.In m ρ c) := by
    refine ⟨rfl, fun t k => ?_, fun k e => ?_, fun t => ?_, fun t => ?_, fun j k o => ?_⟩
    · exact (Cert.KernelIdeal.Moe.in_x m ρ c t k).trans (congrFun ((args c).1.trans (args z).1.symm) _)
    · exact (Cert.KernelIdeal.Moe.in_rw m ρ c k e).trans (congrFun ((args c).2.1.trans (args z).2.1.symm) _)
    · exact ((Cert.KernelIdeal.Moe.in_idx m ρ c t 0).trans (congrFun ((args c).2.2.1.trans (args z).2.2.1.symm) _)).trans (ch t 0)
    · exact ((Cert.KernelIdeal.Moe.in_idx m ρ c t 1).trans (congrFun ((args c).2.2.1.trans (args z).2.2.1.symm) _)).trans (ch t 1)
    · refine ((Cert.KernelIdeal.Moe.in_ew m ρ c j k o).trans (congrFun (args c).2.2.2 _)).trans (congrArg w (funext fun a => Fin.ext ?_))
      match a with
      | ⟨0, _⟩ => exact congrArg (· + j.val) (Nat.mul_comm c.val 4)
      | ⟨1, _⟩ => rfl
      | ⟨2, _⟩ => rfl
  have holds : Cert.ReferenceIdeal.Moe.Holds D
      (m' (((0 : Dev Cert.ReferenceIdeal.nD) : Thread Cert.ReferenceIdeal.nD Cert.ReferenceIdeal.τ).loc Cert.ReferenceIdeal.main_arg0))
      (m' (((0 : Dev Cert.ReferenceIdeal.nD) : Thread Cert.ReferenceIdeal.nD Cert.ReferenceIdeal.τ).loc Cert.ReferenceIdeal.main_arg1))
      (m' (((0 : Dev Cert.ReferenceIdeal.nD) : Thread Cert.ReferenceIdeal.nD Cert.ReferenceIdeal.τ).loc Cert.ReferenceIdeal.main_arg2)) w :=
    ⟨fun t k => (congrFun (args z).1 _).symm, fun k e => (congrFun (args z).2.1 _).symm,
      fun t => (congrFun (args z).2.2.1 _).symm.trans (ch t 0), fun t => (congrFun (args z).2.2.1 _).symm.trans (ch t 1), fun _ _ _ => rfl⟩
  refine ⟨Cert.ReferenceIdeal.Value.res_main_v45 m' 0, ?_, ?_⟩
  · refine (θ_run Cert.KernelIdeal.defs _ _).mono (fun r h c => ⟨?_, ?_, ?_, ?_, ?_⟩) (Cert.KernelIdeal.Moe.run_main m ρ)
    · refine (h.1 c (4 : Fin 5)).trans (funext fun i => ?_)
      obtain ⟨p, o, rfl⟩ : ∃ (p : Fin 64) (o : Fin 1024), i = ix2 p o := ⟨i 0, i 1, eq_ix2 i⟩
      refine (Cert.KernelIdeal.Moe.final_at m ρ D g reads c p o).trans ?_
      rw [Cert.ReferenceIdeal.Moe.res_eq]
      refine (Cert.ReferenceIdeal.Moe.res_at holds _ o).symm.trans (congrArg _ (funext fun a => Fin.ext ?_))
      match a with
      | ⟨0, _⟩ => exact congrArg (· + p.val) (Nat.mul_comm 64 c.val)
      | ⟨1, _⟩ => rfl
    · exact (h.1 c (0 : Fin 5)).trans (Cert.KernelIdeal.Moe.finalA_in m ρ c (0 : Fin 5) rfl)
    · exact (h.1 c (1 : Fin 5)).trans (Cert.KernelIdeal.Moe.finalA_in m ρ c (1 : Fin 5) rfl)
    · exact (h.1 c (2 : Fin 5)).trans (Cert.KernelIdeal.Moe.finalA_in m ρ c (2 : Fin 5) rfl)
    · exact (h.1 c (3 : Fin 5)).trans (Cert.KernelIdeal.Moe.finalA_in m ρ c (3 : Fin 5) rfl)
  · exact (θ_run Cert.ReferenceIdeal.defs _ _).mono (fun r h => h 0) (Cert.ReferenceIdeal.Value.run m' ρ')

end Cert.Moe
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.KernelLaunch
public import proofs.«01_k».proof.Proof.Pre
public import proofs.«01_k».proof.Proof.Answer
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The kernel runs at machine floats, its arguments end unchanged and every counter at zero. -/
theorem frame_kernel : Cert.quiescent_Kernel := by
  intro m ρ _
  refine (θ_run Cert.Kernel.defs _ _).mono (fun r h => ⟨fun c => ⟨?_, ?_, ?_, ?_⟩, h.2⟩) (Cert.Kernel.Moe.run_main m ρ)
  · exact (h.1 c (0 : Fin 5)).trans (Cert.Kernel.Moe.finalA_in m ρ c (0 : Fin 5) rfl)
  · exact (h.1 c (1 : Fin 5)).trans (Cert.Kernel.Moe.finalA_in m ρ c (1 : Fin 5) rfl)
  · exact (h.1 c (2 : Fin 5)).trans (Cert.Kernel.Moe.finalA_in m ρ c (2 : Fin 5) rfl)
  · exact (h.1 c (3 : Fin 5)).trans (Cert.Kernel.Moe.finalA_in m ρ c (3 : Fin 5) rfl)

/-- The same at exact arithmetic. -/
theorem frame_ideal : Cert.quiescent_KernelIdeal := by
  intro m ρ _
  refine (θ_run Cert.KernelIdeal.defs _ _).mono (fun r h => ⟨fun c => ⟨?_, ?_, ?_, ?_⟩, h.2⟩) (Cert.KernelIdeal.Moe.run_main m ρ)
  · exact (h.1 c (0 : Fin 5)).trans (Cert.KernelIdeal.Moe.finalA_in m ρ c (0 : Fin 5) rfl)
  · exact (h.1 c (1 : Fin 5)).trans (Cert.KernelIdeal.Moe.finalA_in m ρ c (1 : Fin 5) rfl)
  · exact (h.1 c (2 : Fin 5)).trans (Cert.KernelIdeal.Moe.finalA_in m ρ c (2 : Fin 5) rfl)
  · exact (h.1 c (3 : Fin 5)).trans (Cert.KernelIdeal.Moe.finalA_in m ρ c (3 : Fin 5) rfl)

/-- The reference launches no kernel and declares no semaphore. -/
theorem frame_reference : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run m ρ)

/-- The frames stated again with the precondition in hand: they hold without it. -/
theorem frame_ideal_served : Cert.quiescent_KernelIdeal_pre_served_KernelIdeal (hPre_served_KernelIdeal := Cert.Pre_served_KernelIdeal.facts) :=
  fun m ρ _ => frame_ideal m ρ trivial
theorem frame_reference_served : Cert.quiescent_ReferenceIdeal_pre_served_ReferenceIdeal (hPre_served_ReferenceIdeal := Cert.Pre_served_ReferenceIdeal.facts) :=
  fun m ρ _ => frame_reference m ρ trivial

theorem claim : Cert.Claim :=
  ⟨Cert.Kernel.Gen.facts, Cert.KernelIdeal.Gen.facts, Cert.ReferenceIdeal.Gen.facts, Cert.Pre_served_KernelIdeal.facts,
    Cert.Pre_served_ReferenceIdeal.facts, frame_kernel, frame_ideal, frame_ideal_served, frame_reference, frame_reference_served, trivial,
    Cert.Moe.same_results⟩

end Cert.Proof

end
